-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x200 : Shape := ⟨2, ![16384, 200]⟩
abbrev S1000000x32 : Shape := ⟨2, ![1000000, 32]⟩
abbrev S16x32 : Shape := ⟨2, ![16, 32]⟩
abbrev S16 : Shape := ⟨1, ![16]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S1000000x32 .f32) (main_arg2 : FVec F S16x32 .f32) (main_arg3 : FVec F S16 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 1000000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x200 : Shape := ⟨2, ![16384, 200]⟩
abbrev S1000000x32 : Shape := ⟨2, ![1000000, 32]⟩
abbrev S16x32 : Shape := ⟨2, ![16, 32]⟩
abbrev S16 : Shape := ⟨1, ![16]⟩
abbrev S16384x1 : Shape := ⟨2, ![16384, 1]⟩
abbrev S16384 : Shape := ⟨1, ![16384]⟩
abbrev S32x1000000 : Shape := ⟨2, ![32, 1000000]⟩
abbrev S8x8 : Shape := ⟨2, ![8, 8]⟩
abbrev S_ : Shape := ⟨0, ![]⟩
abbrev S8x1x8x1 : Shape := ⟨4, ![8, 1, 8, 1]⟩
abbrev S32x16 : Shape := ⟨2, ![32, 16]⟩
abbrev S1x32x1x16 : Shape := ⟨4, ![1, 32, 1, 16]⟩
abbrev S8x32x8x16 : Shape := ⟨4, ![8, 32, 8, 16]⟩
abbrev S256x128 : Shape := ⟨2, ![256, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S131072x128 : Shape := ⟨2, ![131072, 128]⟩
abbrev S32x8192 : Shape := ⟨2, ![32, 8192]⟩
abbrev S8192x128 : Shape := ⟨2, ![8192, 128]⟩
abbrev S256x8192 : Shape := ⟨2, ![256, 8192]⟩
abbrev S16384x128 : Shape := ⟨2, ![16384, 128]⟩
abbrev S512 : Shape := ⟨1, ![512]⟩
abbrev S512x128 : Shape := ⟨2, ![512, 128]⟩
abbrev S16384x3 : Shape := ⟨2, ![16384, 3]⟩
abbrev S2048x128 : Shape := ⟨2, ![2048, 128]⟩
abbrev S2048x1 : Shape := ⟨2, ![2048, 1]⟩
abbrev S2048x3 : Shape := ⟨2, ![2048, 3]⟩
abbrev S2048x64 : Shape := ⟨2, ![2048, 64]⟩
abbrev S2048x32 : Shape := ⟨2, ![2048, 32]⟩
abbrev S2048x16 : Shape := ⟨2, ![2048, 16]⟩
abbrev S2048 : Shape := ⟨1, ![2048]⟩
abbrev S1024x96 : Shape := ⟨2, ![1024, 96]⟩
abbrev S1024x16 : Shape := ⟨2, ![1024, 16]⟩
abbrev S1024 : Shape := ⟨1, ![1024]⟩
abbrev S1024x1 : Shape := ⟨2, ![1024, 1]⟩
abbrev S1024x3 : Shape := ⟨2, ![1024, 3]⟩

abbrev nBuf : Table → Nat
  | .hbm => 29
  | .local .tc .vmem => 26
  | .local .scVector .vmem => 3
  | _ => 0

abbrev bufTy : (tb : Table) → Fin (nBuf tb) → BufTy
  | .hbm, ⟨0, _⟩ => ⟨S16384x200, .i32⟩
  | .hbm, ⟨1, _⟩ => ⟨S1000000x32, .f32⟩
  | .hbm, ⟨2, _⟩ => ⟨S16x32, .f32⟩
  | .hbm, ⟨3, _⟩ => ⟨S16, .f32⟩
  | .hbm, ⟨4, _⟩ => ⟨S16384x1, .i32⟩
  | .hbm, ⟨5, _⟩ => ⟨S16384, .i32⟩
  | .hbm, ⟨6, _⟩ => ⟨S32x1000000, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S8x1x8x1, .f32⟩
  | .hbm, ⟨15, _⟩ => ⟨S32x16, .f32⟩
  | .hbm, ⟨16, _⟩ => ⟨S1x32x1x16, .f32⟩
  | .hbm, ⟨17, _⟩ => ⟨S8x32x8x16, .f32⟩
  | .hbm, ⟨18, _⟩ => ⟨S8x32x8x16, .f32⟩
  | .hbm, ⟨19, _⟩ => ⟨S8x32x8x16, .f32⟩
  | .hbm, ⟨20, _⟩ => ⟨S256x128, .f32⟩
  | .hbm, ⟨21, _⟩ => ⟨S1x16, .f32⟩
  | .hbm, ⟨22, _⟩ => ⟨S8x16, .f32⟩
  | .hbm, ⟨23, _⟩ => ⟨S128, .f32⟩
  | .hbm, ⟨24, _⟩ => ⟨S1x128, .f32⟩
  | .hbm, ⟨25, _⟩ => ⟨S131072x128, .f32⟩
  | .hbm, ⟨26, _⟩ => ⟨S16384x128, .f32⟩
  | .hbm, ⟨27, _⟩ => ⟨S16384x1, .i32⟩
  | .hbm, ⟨28, _⟩ => ⟨S16384x3, .i32⟩
  | .local .tc .vmem, ⟨0, _⟩ => ⟨S32x8192, .f32⟩
  | .local .tc .vmem, ⟨1, _⟩ => ⟨S32x8192, .f32⟩
  | .local .tc .vmem, ⟨2, _⟩ => ⟨S32x8192, .f32⟩
  | .local .tc .vmem, ⟨3, _⟩ => ⟨S32x8192, .f32⟩
  | .local .tc .vmem, ⟨4, _⟩ => ⟨S32x8192, .f32⟩
  | .local .tc .vmem, ⟨5, _⟩ => ⟨S32x8192, .f32⟩
  | .local .tc .vmem, ⟨6, _⟩ => ⟨S32x8192, .f32⟩
  | .local .tc .vmem, ⟨7, _⟩ => ⟨S32x8192, .f32⟩
  | .local .tc .vmem, ⟨8, _⟩ => ⟨S32x8192, .f32⟩
  | .local .tc .vmem, ⟨9, _⟩ => ⟨S32x8192, .f32⟩
  | .local .tc .vmem, ⟨10, _⟩ => ⟨S32x8192, .f32⟩
  | .local .tc .vmem, ⟨11, _⟩ => ⟨S32x8192, .f32⟩
  | .local .tc .vmem, ⟨12, _⟩ => ⟨S32x8192, .f32⟩
  | .local .tc .vmem, ⟨13, _⟩ => ⟨S32x8192, .f32⟩
  | .local .tc .vmem, ⟨14, _⟩ => ⟨S32x8192, .f32⟩
  | .local .tc .vmem, ⟨15, _⟩ => ⟨S32x8192, .f32⟩
  | .local .tc .vmem, ⟨16, _⟩ => ⟨S256x128, .f32⟩
  | .local .tc .vmem, ⟨17, _⟩ => ⟨S1x128, .f32⟩
  | .local .tc .vmem, ⟨18, _⟩ => ⟨S8192x128, .f32⟩
  | .local .tc .vmem, ⟨19, _⟩ => ⟨S8192x128, .f32⟩
  | .local .tc .vmem, ⟨20, _⟩ => ⟨S2048x128, .f32⟩
  | .local .tc .vmem, ⟨21, _⟩ => ⟨S2048x128, .f32⟩
  | .local .tc .vmem, ⟨22, _⟩ => ⟨S2048x1, .i32⟩
  | .local .tc .vmem, ⟨23, _⟩ => ⟨S2048x1, .i32⟩
  | .local .tc .vmem, ⟨24, _⟩ => ⟨S2048x3, .i32⟩
  | .local .tc .vmem, ⟨25, _⟩ => ⟨S2048x3, .i32⟩
  | .local .scVector .vmem, ⟨0, _⟩ => ⟨S512, .i32⟩
  | .local .scVector .vmem, ⟨1, _⟩ => ⟨S512, .i32⟩
  | .local .scVector .vmem, ⟨2, _⟩ => ⟨S512x128, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | _ => false

abbrev sig : RefSig :=
  ofTables nBuf rfl bufTy 4 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v20_scv : Ref sig .scVector := ⟨.hbm, 25, rfl⟩
abbrev main_v1_scv : Ref sig .scVector := ⟨.hbm, 5, rfl⟩
abbrev main_v21_scv : Ref sig .scVector := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c122_i32 : BitVec 32 := 122#32
  let v2 : BitVec 32 := Scalar.minsi v1 c122_i32
  let c0_i32_0 : BitVec 32 := 0#32
  let c0_i32_1 : BitVec 32 := 0#32
  ![c0_i32_0.toNat, v2.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let c122_i32 : BitVec 32 := 122#32
  let v2 : BitVec 32 := Scalar.minsi v1 c122_i32
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let c122_i32 : BitVec 32 := 122#32
  let v2 : BitVec 32 := Scalar.minsi v1 c122_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let c122_i32 : BitVec 32 := 122#32
  let v2 : BitVec 32 := Scalar.minsi v1 c122_i32
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let c122_i32 : BitVec 32 := 122#32
  let v2 : BitVec 32 := Scalar.minsi v1 c122_i32
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let c122_i32 : BitVec 32 := 122#32
  let v2 : BitVec 32 := Scalar.minsi v1 c122_i32
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let c122_i32 : BitVec 32 := 122#32
  let v2 : BitVec 32 := Scalar.minsi v1 c122_i32
  let c0_i32 : BitVec 32 := 0#32
  let c0_i32_0 : BitVec 32 := 0#32
  ![c0_i32.toNat, v2.toNat]

def cc0_transform_7 (i : grid0.Coords) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let c122_i32 : BitVec 32 := 122#32
  let v2 : BitVec 32 := Scalar.minsi v1 c122_i32
  let c0_i32 : BitVec 32 := 0#32
  let c0_i32_0 : BitVec 32 := 0#32
  ![c0_i32.toNat, v2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_128_r1 : BitVec 32 := 0#32
  ![v2.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x3 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S1000000x32 : Shape := ⟨2, ![1000000, 32]⟩
abbrev S16x32 : Shape := ⟨2, ![16, 32]⟩
abbrev S16 : Shape := ⟨1, ![16]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x32 : Shape := ⟨2, ![16384, 32]⟩
abbrev S32x16 : Shape := ⟨2, ![32, 16]⟩
abbrev S16384x16 : Shape := ⟨2, ![16384, 16]⟩
abbrev S1x16 : Shape := ⟨2, ![1, 16]⟩
abbrev S2 : Shape := ⟨1, ![2]⟩
abbrev S16384x3x16 : Shape := ⟨3, ![16384, 3, 16]⟩
abbrev S16384x1x16 : Shape := ⟨3, ![16384, 1, 16]⟩
abbrev S16384x3 : Shape := ⟨2, ![16384, 3]⟩

abbrev nBuf : Space → Nat
  | .hbm => 339
  | .vmem => 0
  | .smem => 0
  | _ => 0

abbrev hbmTy0_0 (i : Nat) : BufTy := match i % 128 with
  | 0 => ⟨S16384x200, .i32⟩
  | 1 => ⟨S1000000x32, .f32⟩
  | 2 => ⟨S16x32, .f32⟩
  | 3 => ⟨S16, .f32⟩
  | 4 => ⟨S16384x1, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S1, .i32⟩
  | 15 => ⟨S_, .i32⟩
  | 16 => ⟨S16384x1, .i32⟩
  | 17 => ⟨S16384x1, .i1⟩
  | 18 => ⟨S1x1, .i32⟩
  | 19 => ⟨S16384x1, .i32⟩
  | 20 => ⟨S16384x1, .i1⟩
  | 21 => ⟨S16384x1, .i1⟩
  | 22 => ⟨S_, .i1⟩
  | 23 => ⟨S16384, .i1⟩
  | 24 => ⟨S16384x32, .f32⟩
  | 25 => ⟨S16384x32, .i1⟩
  | 26 => ⟨S_, .f32⟩
  | 27 => ⟨S16384x32, .f32⟩
  | 28 => ⟨S16384x32, .f32⟩
  | 29 => ⟨S32x16, .f32⟩
  | 30 => ⟨S16384x16, .f32⟩
  | 31 => ⟨S1x16, .f32⟩
  | 32 => ⟨S16384x16, .f32⟩
  | 33 => ⟨S16384x16, .f32⟩
  | 34 => ⟨S_, .f32⟩
  | 35 => ⟨S16384, .f32⟩
  | 36 => ⟨S_, .f32⟩
  | 37 => ⟨S16384, .f32⟩
  | 38 => ⟨S16384, .f32⟩
  | 39 => ⟨S16384x1, .f32⟩
  | 40 => ⟨S16384x16, .f32⟩
  | 41 => ⟨S16384x16, .f32⟩
  | 42 => ⟨S16384x16, .f32⟩
  | 43 => ⟨S_, .f32⟩
  | 44 => ⟨S16384, .f32⟩
  | 45 => ⟨S16384x1, .f32⟩
  | 46 => ⟨S16384x16, .f32⟩
  | 47 => ⟨S16384x16, .f32⟩
  | 48 => ⟨S_, .i32⟩
  | 49 => ⟨S_, .i32⟩
  | 50 => ⟨S_, .i32⟩
  | 51 => ⟨S_, .i32⟩
  | 52 => ⟨S1, .i32⟩
  | 53 => ⟨S_, .i32⟩
  | 54 => ⟨S_, .i32⟩
  | 55 => ⟨S_, .i32⟩
  | 56 => ⟨S1, .i32⟩
  | 57 => ⟨S2, .i32⟩
  | 58 => ⟨S1, .i32⟩
  | 59 => ⟨S_, .i32⟩
  | 60 => ⟨S1, .i32⟩
  | 61 => ⟨S_, .i32⟩
  | 62 => ⟨S16384x3x16, .i64⟩
  | 63 => ⟨S16384x3x16, .i64⟩
  | 64 => ⟨S16384x3x16, .i64⟩
  | 65 => ⟨S_, .i64⟩
  | 66 => ⟨S16384x3x16, .i64⟩
  | 67 => ⟨S16384x3x16, .i64⟩
  | 68 => ⟨S_, .i64⟩
  | 69 => ⟨S16384x3x16, .i64⟩
  | 70 => ⟨S16384x3x16, .i64⟩
  | 71 => ⟨S_, .i64⟩
  | 72 => ⟨S16384x3x16, .i64⟩
  | 73 => ⟨S16384x3x16, .i64⟩
  | 74 => ⟨S16384x3x16, .i64⟩
  | 75 => ⟨S16384x3x16, .i64⟩
  | 76 => ⟨S_, .i64⟩
  | 77 => ⟨S16384x3x16, .i64⟩
  | 78 => ⟨S16384x3x16, .i64⟩
  | 79 => ⟨S16384x3x16, .i32⟩
  | 80 => ⟨S16384x3x16, .i32⟩
  | 81 => ⟨S_, .i32⟩
  | 82 => ⟨S_, .i32⟩
  | 83 => ⟨S_, .i32⟩
  | 84 => ⟨S16384x3x16, .i32⟩
  | 85 => ⟨S16384x3x16, .i32⟩
  | 86 => ⟨S16384x3x16, .i32⟩
  | 87 => ⟨S16384x3x16, .i32⟩
  | 88 => ⟨S16384x3x16, .i32⟩
  | 89 => ⟨S_, .i32⟩
  | 90 => ⟨S16384x3x16, .i32⟩
  | 91 => ⟨S16384x3x16, .i32⟩
  | 92 => ⟨S_, .i32⟩
  | 93 => ⟨S16384x3x16, .i32⟩
  | 94 => ⟨S16384x3x16, .i32⟩
  | 95 => ⟨S16384x3x16, .i32⟩
  | 96 => ⟨S16384x3x16, .i32⟩
  | 97 => ⟨S16384x3x16, .i32⟩
  | 98 => ⟨S_, .i32⟩
  | 99 => ⟨S16384x3x16, .i32⟩
  | 100 => ⟨S16384x3x16, .i32⟩
  | 101 => ⟨S_, .i32⟩
  | 102 => ⟨S16384x3x16, .i32⟩
  | 103 => ⟨S16384x3x16, .i32⟩
  | 104 => ⟨S16384x3x16, .i32⟩
  | 105 => ⟨S16384x3x16, .i32⟩
  | 106 => ⟨S16384x3x16, .i32⟩
  | 107 => ⟨S_, .i32⟩
  | 108 => ⟨S16384x3x16, .i32⟩
  | 109 => ⟨S16384x3x16, .i32⟩
  | 110 => ⟨S_, .i32⟩
  | 111 => ⟨S16384x3x16, .i32⟩
  | 112 => ⟨S16384x3x16, .i32⟩
  | 113 => ⟨S16384x3x16, .i32⟩
  | 114 => ⟨S16384x3x16, .i32⟩
  | 115 => ⟨S16384x3x16, .i32⟩
  | 116 => ⟨S_, .i32⟩
  | 117 => ⟨S16384x3x16, .i32⟩
  | 118 => ⟨S16384x3x16, .i32⟩
  | 119 => ⟨S_, .i32⟩
  | 120 => ⟨S16384x3x16, .i32⟩
  | 121 => ⟨S16384x3x16, .i32⟩
  | 122 => ⟨S16384x3x16, .i32⟩
  | 123 => ⟨S16384x3x16, .i32⟩
  | 124 => ⟨S16384x3x16, .i32⟩
  | 125 => ⟨S16384x3x16, .i32⟩
  | 126 => ⟨S16384x3x16, .i32⟩
  | 127 => ⟨S16384x3x16, .i32⟩
  | _ => ⟨S16384x200, .i32⟩

abbrev hbmTy0_1 (i : Nat) : BufTy := match i % 128 with
  | 0 => ⟨S_, .i32⟩
  | 1 => ⟨S16384x3x16, .i32⟩
  | 2 => ⟨S16384x3x16, .i32⟩
  | 3 => ⟨S16384x3x16, .i32⟩
  | 4 => ⟨S_, .i32⟩
  | 5 => ⟨S16384x3x16, .i32⟩
  | 6 => ⟨S16384x3x16, .i32⟩
  | 7 => ⟨S_, .i32⟩
  | 8 => ⟨S16384x3x16, .i32⟩
  | 9 => ⟨S16384x3x16, .i32⟩
  | 10 => ⟨S16384x3x16, .i32⟩
  | 11 => ⟨S16384x3x16, .i32⟩
  | 12 => ⟨S16384x3x16, .i32⟩
  | 13 => ⟨S_, .i32⟩
  | 14 => ⟨S16384x3x16, .i32⟩
  | 15 => ⟨S16384x3x16, .i32⟩
  | 16 => ⟨S_, .i32⟩
  | 17 => ⟨S16384x3x16, .i32⟩
  | 18 => ⟨S16384x3x16, .i32⟩
  | 19 => ⟨S16384x3x16, .i32⟩
  | 20 => ⟨S16384x3x16, .i32⟩
  | 21 => ⟨S16384x3x16, .i32⟩
  | 22 => ⟨S_, .i32⟩
  | 23 => ⟨S16384x3x16, .i32⟩
  | 24 => ⟨S16384x3x16, .i32⟩
  | 25 => ⟨S_, .i32⟩
  | 26 => ⟨S16384x3x16, .i32⟩
  | 27 => ⟨S16384x3x16, .i32⟩
  | 28 => ⟨S16384x3x16, .i32⟩
  | 29 => ⟨S16384x3x16, .i32⟩
  | 30 => ⟨S16384x3x16, .i32⟩
  | 31 => ⟨S_, .i32⟩
  | 32 => ⟨S16384x3x16, .i32⟩
  | 33 => ⟨S16384x3x16, .i32⟩
  | 34 => ⟨S_, .i32⟩
  | 35 => ⟨S16384x3x16, .i32⟩
  | 36 => ⟨S16384x3x16, .i32⟩
  | 37 => ⟨S16384x3x16, .i32⟩
  | 38 => ⟨S16384x3x16, .i32⟩
  | 39 => ⟨S16384x3x16, .i32⟩
  | 40 => ⟨S16384x3x16, .i32⟩
  | 41 => ⟨S16384x3x16, .i32⟩
  | 42 => ⟨S16384x3x16, .i32⟩
  | 43 => ⟨S_, .i32⟩
  | 44 => ⟨S16384x3x16, .i32⟩
  | 45 => ⟨S16384x3x16, .i32⟩
  | 46 => ⟨S16384x3x16, .i32⟩
  | 47 => ⟨S_, .i32⟩
  | 48 => ⟨S16384x3x16, .i32⟩
  | 49 => ⟨S16384x3x16, .i32⟩
  | 50 => ⟨S_, .i32⟩
  | 51 => ⟨S16384x3x16, .i32⟩
  | 52 => ⟨S16384x3x16, .i32⟩
  | 53 => ⟨S16384x3x16, .i32⟩
  | 54 => ⟨S16384x3x16, .i32⟩
  | 55 => ⟨S16384x3x16, .i32⟩
  | 56 => ⟨S_, .i32⟩
  | 57 => ⟨S16384x3x16, .i32⟩
  | 58 => ⟨S16384x3x16, .i32⟩
  | 59 => ⟨S_, .i32⟩
  | 60 => ⟨S16384x3x16, .i32⟩
  | 61 => ⟨S16384x3x16, .i32⟩
  | 62 => ⟨S16384x3x16, .i32⟩
  | 63 => ⟨S16384x3x16, .i32⟩
  | 64 => ⟨S16384x3x16, .i32⟩
  | 65 => ⟨S_, .i32⟩
  | 66 => ⟨S16384x3x16, .i32⟩
  | 67 => ⟨S16384x3x16, .i32⟩
  | 68 => ⟨S_, .i32⟩
  | 69 => ⟨S16384x3x16, .i32⟩
  | 70 => ⟨S16384x3x16, .i32⟩
  | 71 => ⟨S16384x3x16, .i32⟩
  | 72 => ⟨S16384x3x16, .i32⟩
  | 73 => ⟨S16384x3x16, .i32⟩
  | 74 => ⟨S_, .i32⟩
  | 75 => ⟨S16384x3x16, .i32⟩
  | 76 => ⟨S16384x3x16, .i32⟩
  | 77 => ⟨S_, .i32⟩
  | 78 => ⟨S16384x3x16, .i32⟩
  | 79 => ⟨S16384x3x16, .i32⟩
  | 80 => ⟨S16384x3x16, .i32⟩
  | 81 => ⟨S16384x3x16, .i32⟩
  | 82 => ⟨S16384x3x16, .i32⟩
  | 83 => ⟨S16384x3x16, .i32⟩
  | 84 => ⟨S16384x3x16, .i32⟩
  | 85 => ⟨S16384x3x16, .i32⟩
  | 86 => ⟨S_, .i32⟩
  | 87 => ⟨S16384x3x16, .i32⟩
  | 88 => ⟨S16384x3x16, .i32⟩
  | 89 => ⟨S16384x3x16, .i32⟩
  | 90 => ⟨S_, .i32⟩
  | 91 => ⟨S16384x3x16, .i32⟩
  | 92 => ⟨S16384x3x16, .i32⟩
  | 93 => ⟨S_, .i32⟩
  | 94 => ⟨S16384x3x16, .i32⟩
  | 95 => ⟨S16384x3x16, .i32⟩
  | 96 => ⟨S16384x3x16, .i32⟩
  | 97 => ⟨S16384x3x16, .i32⟩
  | 98 => ⟨S16384x3x16, .i32⟩
  | 99 => ⟨S_, .i32⟩
  | 100 => ⟨S16384x3x16, .i32⟩
  | 101 => ⟨S16384x3x16, .i32⟩
  | 102 => ⟨S_, .i32⟩
  | 103 => ⟨S16384x3x16, .i32⟩
  | 104 => ⟨S16384x3x16, .i32⟩
  | 105 => ⟨S16384x3x16, .i32⟩
  | 106 => ⟨S16384x3x16, .i32⟩
  | 107 => ⟨S16384x3x16, .i32⟩
  | 108 => ⟨S_, .i32⟩
  | 109 => ⟨S16384x3x16, .i32⟩
  | 110 => ⟨S16384x3x16, .i32⟩
  | 111 => ⟨S_, .i32⟩
  | 112 => ⟨S16384x3x16, .i32⟩
  | 113 => ⟨S16384x3x16, .i32⟩
  | 114 => ⟨S16384x3x16, .i32⟩
  | 115 => ⟨S16384x3x16, .i32⟩
  | 116 => ⟨S16384x3x16, .i32⟩
  | 117 => ⟨S_, .i32⟩
  | 118 => ⟨S16384x3x16, .i32⟩
  | 119 => ⟨S16384x3x16, .i32⟩
  | 120 => ⟨S_, .i32⟩
  | 121 => ⟨S16384x3x16, .i32⟩
  | 122 => ⟨S16384x3x16, .i32⟩
  | 123 => ⟨S16384x3x16, .i32⟩
  | 124 => ⟨S16384x3x16, .i32⟩
  | 125 => ⟨S16384x3x16, .i32⟩
  | 126 => ⟨S16384x3x16, .i32⟩
  | 127 => ⟨S16384x3x16, .i32⟩
  | _ => ⟨S16384x200, .i32⟩

abbrev hbmTy0_2 (i : Nat) : BufTy := match i % 128 with
  | 0 => ⟨S16384x3x16, .i32⟩
  | 1 => ⟨S_, .i32⟩
  | 2 => ⟨S16384x3x16, .i32⟩
  | 3 => ⟨S16384x3x16, .i32⟩
  | 4 => ⟨S16384x3x16, .i32⟩
  | 5 => ⟨S_, .i32⟩
  | 6 => ⟨S16384x3x16, .i32⟩
  | 7 => ⟨S16384x3x16, .i32⟩
  | 8 => ⟨S_, .i32⟩
  | 9 => ⟨S16384x3x16, .i32⟩
  | 10 => ⟨S16384x3x16, .i32⟩
  | 11 => ⟨S16384x3x16, .i32⟩
  | 12 => ⟨S16384x3x16, .i32⟩
  | 13 => ⟨S16384x3x16, .i32⟩
  | 14 => ⟨S_, .i32⟩
  | 15 => ⟨S16384x3x16, .i32⟩
  | 16 => ⟨S16384x3x16, .i32⟩
  | 17 => ⟨S_, .i32⟩
  | 18 => ⟨S16384x3x16, .i32⟩
  | 19 => ⟨S16384x3x16, .i32⟩
  | 20 => ⟨S16384x3x16, .i32⟩
  | 21 => ⟨S16384x3x16, .i32⟩
  | 22 => ⟨S16384x3x16, .i32⟩
  | 23 => ⟨S_, .i32⟩
  | 24 => ⟨S16384x3x16, .i32⟩
  | 25 => ⟨S16384x3x16, .i32⟩
  | 26 => ⟨S_, .i32⟩
  | 27 => ⟨S16384x3x16, .i32⟩
  | 28 => ⟨S16384x3x16, .i32⟩
  | 29 => ⟨S16384x3x16, .i32⟩
  | 30 => ⟨S16384x3x16, .i32⟩
  | 31 => ⟨S16384x3x16, .i32⟩
  | 32 => ⟨S_, .i32⟩
  | 33 => ⟨S16384x3x16, .i32⟩
  | 34 => ⟨S16384x3x16, .i32⟩
  | 35 => ⟨S_, .i32⟩
  | 36 => ⟨S16384x3x16, .i32⟩
  | 37 => ⟨S16384x3x16, .i32⟩
  | 38 => ⟨S16384x3x16, .i32⟩
  | 39 => ⟨S16384x3x16, .i32⟩
  | 40 => ⟨S16384x3x16, .i32⟩
  | 41 => ⟨S16384x3x16, .i32⟩
  | 42 => ⟨S16384x3x16, .i32⟩
  | 43 => ⟨S16384x3x16, .i32⟩
  | 44 => ⟨S_, .i32⟩
  | 45 => ⟨S16384x3x16, .i32⟩
  | 46 => ⟨S16384x3x16, .i32⟩
  | 47 => ⟨S16384x3x16, .i32⟩
  | 48 => ⟨S_, .i32⟩
  | 49 => ⟨S16384x3x16, .i32⟩
  | 50 => ⟨S16384x3x16, .i32⟩
  | 51 => ⟨S_, .i32⟩
  | 52 => ⟨S16384x3x16, .i32⟩
  | 53 => ⟨S16384x3x16, .i32⟩
  | 54 => ⟨S16384x3x16, .f32⟩
  | 55 => ⟨S_, .f32⟩
  | 56 => ⟨S16384x3x16, .f32⟩
  | 57 => ⟨S16384x3x16, .f32⟩
  | 58 => ⟨S_, .f32⟩
  | 59 => ⟨S16384x3x16, .f32⟩
  | 60 => ⟨S16384x3x16, .f32⟩
  | 61 => ⟨S_, .f32⟩
  | 62 => ⟨S16384x3x16, .f32⟩
  | 63 => ⟨S16384x3x16, .f32⟩
  | 64 => ⟨S_, .f32⟩
  | 65 => ⟨S16384x3x16, .f32⟩
  | 66 => ⟨S16384x3x16, .f32⟩
  | 67 => ⟨S16384x3x16, .f32⟩
  | 68 => ⟨S16384x3x16, .f32⟩
  | 69 => ⟨S16384x3x16, .f32⟩
  | 70 => ⟨S16384x3x16, .f32⟩
  | 71 => ⟨S_, .f32⟩
  | 72 => ⟨S16384x16, .f32⟩
  | 73 => ⟨S16384x16, .f32⟩
  | 74 => ⟨S16384x16, .f32⟩
  | 75 => ⟨S16384x1x16, .f32⟩
  | 76 => ⟨S16384x3x16, .f32⟩
  | 77 => ⟨S16384x3x16, .f32⟩
  | 78 => ⟨S16384x3x16, .i32⟩
  | 79 => ⟨S_, .f32⟩
  | 80 => ⟨S_, .i32⟩
  | 81 => ⟨S16384x3, .f32⟩
  | 82 => ⟨S16384x3, .i32⟩
  | _ => ⟨S16384x200, .i32⟩

abbrev hbmTy (i : Nat) : BufTy := match i / 128 with
  | 0 => hbmTy0_0 i
  | 1 => hbmTy0_1 i
  | 2 => hbmTy0_2 i
  | _ => ⟨S16384x200, .i32⟩

abbrev bufTy : (tb : Table) → Fin (tcTables nBuf tb) → BufTy
  | .hbm, ⟨i, _⟩ => hbmTy i
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c : Ref sig .tc := ⟨.hbm, 48, rfl⟩
abbrev main_c_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_4 : Ref sig .tc := ⟨.hbm, 65, rfl⟩
abbrev main_v33 : Ref sig .tc := ⟨.hbm, 66, rfl⟩
abbrev main_v34 : Ref sig .tc := ⟨.hbm, 67, rfl⟩
abbrev main_c_5 : Ref sig .tc := ⟨.hbm, 68, rfl⟩
abbrev main_v35 : Ref sig .tc := ⟨.hbm, 69, rfl⟩
abbrev main_v36 : Ref sig .tc := ⟨.hbm, 70, rfl⟩
abbrev main_c_6 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_7 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call1_v0 : Ref sig .tc := ⟨.hbm, 81, rfl⟩
abbrev main_call1_c : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_c_0 : Ref sig .tc := ⟨.hbm, 89, rfl⟩
abbrev main_call1_v7 : Ref sig .tc := ⟨.hbm, 90, rfl⟩
abbrev main_call1_v8 : Ref sig .tc := ⟨.hbm, 91, rfl⟩
abbrev main_call1_c_1 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_v12 : Ref sig .tc := ⟨.hbm, 96, rfl⟩
abbrev main_call1_v13 : Ref sig .tc := ⟨.hbm, 97, rfl⟩
abbrev main_call1_c_2 : Ref sig .tc := ⟨.hbm, 98, rfl⟩
abbrev main_call1_v14 : Ref sig .tc := ⟨.hbm, 99, rfl⟩
abbrev main_call1_v15 : Ref sig .tc := ⟨.hbm, 100, rfl⟩
abbrev main_call1_c_3 : Ref sig .tc := ⟨.hbm, 101, rfl⟩
abbrev main_call1_v16 : Ref sig .tc := ⟨.hbm, 102, rfl⟩
abbrev main_call1_v17 : Ref sig .tc := ⟨.hbm, 103, rfl⟩
abbrev main_call1_v18 : Ref sig .tc := ⟨.hbm, 104, rfl⟩
abbrev main_call1_v19 : Ref sig .tc := ⟨.hbm, 105, rfl⟩
abbrev main_call1_v20 : Ref sig .tc := ⟨.hbm, 106, rfl⟩
abbrev main_call1_c_4 : Ref sig .tc := ⟨.hbm, 107, rfl⟩
abbrev main_call1_v21 : Ref sig .tc := ⟨.hbm, 108, rfl⟩
abbrev main_call1_v22 : Ref sig .tc := ⟨.hbm, 109, rfl⟩
abbrev main_call1_c_5 : Ref sig .tc := ⟨.hbm, 110, rfl⟩
abbrev main_call1_v23 : Ref sig .tc := ⟨.hbm, 111, rfl⟩
abbrev main_call1_v24 : Ref sig .tc := ⟨.hbm, 112, rfl⟩
abbrev main_call1_v25 : Ref sig .tc := ⟨.hbm, 113, rfl⟩
abbrev main_call1_v26 : Ref sig .tc := ⟨.hbm, 114, rfl⟩
abbrev main_call1_v27 : Ref sig .tc := ⟨.hbm, 115, rfl⟩
abbrev main_call1_c_6 : Ref sig .tc := ⟨.hbm, 116, rfl⟩
abbrev main_call1_v28 : Ref sig .tc := ⟨.hbm, 117, rfl⟩
abbrev main_call1_v29 : Ref sig .tc := ⟨.hbm, 118, rfl⟩
abbrev main_call1_c_7 : Ref sig .tc := ⟨.hbm, 119, rfl⟩
abbrev main_call1_v30 : Ref sig .tc := ⟨.hbm, 120, rfl⟩
abbrev main_call1_v31 : Ref sig .tc := ⟨.hbm, 121, rfl⟩
abbrev main_call1_v32 : Ref sig .tc := ⟨.hbm, 122, rfl⟩
abbrev main_call1_v33 : Ref sig .tc := ⟨.hbm, 123, rfl⟩
abbrev main_call1_v34 : Ref sig .tc := ⟨.hbm, 124, rfl⟩
abbrev main_call1_v35 : Ref sig .tc := ⟨.hbm, 125, rfl⟩
abbrev main_call1_v36 : Ref sig .tc := ⟨.hbm, 126, rfl⟩
abbrev main_call1_v37 : Ref sig .tc := ⟨.hbm, 127, rfl⟩
abbrev main_call1_c_8 : Ref sig .tc := ⟨.hbm, 128, rfl⟩
abbrev main_call1_v38 : Ref sig .tc := ⟨.hbm, 129, rfl⟩
abbrev main_call1_v39 : Ref sig .tc := ⟨.hbm, 130, rfl⟩
abbrev main_call1_v40 : Ref sig .tc := ⟨.hbm, 131, rfl⟩
abbrev main_call1_c_9 : Ref sig .tc := ⟨.hbm, 132, rfl⟩
abbrev main_call1_v41 : Ref sig .tc := ⟨.hbm, 133, rfl⟩
abbrev main_call1_v42 : Ref sig .tc := ⟨.hbm, 134, rfl⟩
abbrev main_call1_c_10 : Ref sig .tc := ⟨.hbm, 135, rfl⟩
abbrev main_call1_v43 : Ref sig .tc := ⟨.hbm, 136, rfl⟩
abbrev main_call1_v44 : Ref sig .tc := ⟨.hbm, 137, rfl⟩
abbrev main_call1_v45 : Ref sig .tc := ⟨.hbm, 138, rfl⟩
abbrev main_call1_v46 : Ref sig .tc := ⟨.hbm, 139, rfl⟩
abbrev main_call1_v47 : Ref sig .tc := ⟨.hbm, 140, rfl⟩
abbrev main_call1_c_11 : Ref sig .tc := ⟨.hbm, 141, rfl⟩
abbrev main_call1_v48 : Ref sig .tc := ⟨.hbm, 142, rfl⟩
abbrev main_call1_v49 : Ref sig .tc := ⟨.hbm, 143, rfl⟩
abbrev main_call1_c_12 : Ref sig .tc := ⟨.hbm, 144, rfl⟩
abbrev main_call1_v50 : Ref sig .tc := ⟨.hbm, 145, rfl⟩
abbrev main_call1_v51 : Ref sig .tc := ⟨.hbm, 146, rfl⟩
abbrev main_call1_v52 : Ref sig .tc := ⟨.hbm, 147, rfl⟩
abbrev main_call1_v53 : Ref sig .tc := ⟨.hbm, 148, rfl⟩
abbrev main_call1_v54 : Ref sig .tc := ⟨.hbm, 149, rfl⟩
abbrev main_call1_c_13 : Ref sig .tc := ⟨.hbm, 150, rfl⟩
abbrev main_call1_v55 : Ref sig .tc := ⟨.hbm, 151, rfl⟩
abbrev main_call1_v56 : Ref sig .tc := ⟨.hbm, 152, rfl⟩
abbrev main_call1_c_14 : Ref sig .tc := ⟨.hbm, 153, rfl⟩
abbrev main_call1_v57 : Ref sig .tc := ⟨.hbm, 154, rfl⟩
abbrev main_call1_v58 : Ref sig .tc := ⟨.hbm, 155, rfl⟩
abbrev main_call1_v59 : Ref sig .tc := ⟨.hbm, 156, rfl⟩
abbrev main_call1_v60 : Ref sig .tc := ⟨.hbm, 157, rfl⟩
abbrev main_call1_v61 : Ref sig .tc := ⟨.hbm, 158, rfl⟩
abbrev main_call1_c_15 : Ref sig .tc := ⟨.hbm, 159, rfl⟩
abbrev main_call1_v62 : Ref sig .tc := ⟨.hbm, 160, rfl⟩
abbrev main_call1_v63 : Ref sig .tc := ⟨.hbm, 161, rfl⟩
abbrev main_call1_c_16 : Ref sig .tc := ⟨.hbm, 162, rfl⟩
abbrev main_call1_v64 : Ref sig .tc := ⟨.hbm, 163, rfl⟩
abbrev main_call1_v65 : Ref sig .tc := ⟨.hbm, 164, rfl⟩
abbrev main_call1_v66 : Ref sig .tc := ⟨.hbm, 165, rfl⟩
abbrev main_call1_v67 : Ref sig .tc := ⟨.hbm, 166, rfl⟩
abbrev main_call1_v68 : Ref sig .tc := ⟨.hbm, 167, rfl⟩
abbrev main_call1_v69 : Ref sig .tc := ⟨.hbm, 168, rfl⟩
abbrev main_call1_v70 : Ref sig .tc := ⟨.hbm, 169, rfl⟩
abbrev main_call1_v71 : Ref sig .tc := ⟨.hbm, 170, rfl⟩
abbrev main_call1_c_17 : Ref sig .tc := ⟨.hbm, 171, rfl⟩
abbrev main_call1_v72 : Ref sig .tc := ⟨.hbm, 172, rfl⟩
abbrev main_call1_v73 : Ref sig .tc := ⟨.hbm, 173, rfl⟩
abbrev main_call1_v74 : Ref sig .tc := ⟨.hbm, 174, rfl⟩
abbrev main_call1_c_18 : Ref sig .tc := ⟨.hbm, 175, rfl⟩
abbrev main_call1_v75 : Ref sig .tc := ⟨.hbm, 176, rfl⟩
abbrev main_call1_v76 : Ref sig .tc := ⟨.hbm, 177, rfl⟩
abbrev main_call1_c_19 : Ref sig .tc := ⟨.hbm, 178, rfl⟩
abbrev main_call1_v77 : Ref sig .tc := ⟨.hbm, 179, rfl⟩
abbrev main_call1_v78 : Ref sig .tc := ⟨.hbm, 180, rfl⟩
abbrev main_call1_v79 : Ref sig .tc := ⟨.hbm, 181, rfl⟩
abbrev main_call1_v80 : Ref sig .tc := ⟨.hbm, 182, rfl⟩
abbrev main_call1_v81 : Ref sig .tc := ⟨.hbm, 183, rfl⟩
abbrev main_call1_c_20 : Ref sig .tc := ⟨.hbm, 184, rfl⟩
abbrev main_call1_v82 : Ref sig .tc := ⟨.hbm, 185, rfl⟩
abbrev main_call1_v83 : Ref sig .tc := ⟨.hbm, 186, rfl⟩
abbrev main_call1_c_21 : Ref sig .tc := ⟨.hbm, 187, rfl⟩
abbrev main_call1_v84 : Ref sig .tc := ⟨.hbm, 188, rfl⟩
abbrev main_call1_v85 : Ref sig .tc := ⟨.hbm, 189, rfl⟩
abbrev main_call1_v86 : Ref sig .tc := ⟨.hbm, 190, rfl⟩
abbrev main_call1_v87 : Ref sig .tc := ⟨.hbm, 191, rfl⟩
abbrev main_call1_v88 : Ref sig .tc := ⟨.hbm, 192, rfl⟩
abbrev main_call1_c_22 : Ref sig .tc := ⟨.hbm, 193, rfl⟩
abbrev main_call1_v89 : Ref sig .tc := ⟨.hbm, 194, rfl⟩
abbrev main_call1_v90 : Ref sig .tc := ⟨.hbm, 195, rfl⟩
abbrev main_call1_c_23 : Ref sig .tc := ⟨.hbm, 196, rfl⟩
abbrev main_call1_v91 : Ref sig .tc := ⟨.hbm, 197, rfl⟩
abbrev main_call1_v92 : Ref sig .tc := ⟨.hbm, 198, rfl⟩
abbrev main_call1_v93 : Ref sig .tc := ⟨.hbm, 199, rfl⟩
abbrev main_call1_v94 : Ref sig .tc := ⟨.hbm, 200, rfl⟩
abbrev main_call1_v95 : Ref sig .tc := ⟨.hbm, 201, rfl⟩
abbrev main_call1_c_24 : Ref sig .tc := ⟨.hbm, 202, rfl⟩
abbrev main_call1_v96 : Ref sig .tc := ⟨.hbm, 203, rfl⟩
abbrev main_call1_v97 : Ref sig .tc := ⟨.hbm, 204, rfl⟩
abbrev main_call1_c_25 : Ref sig .tc := ⟨.hbm, 205, rfl⟩
abbrev main_call1_v98 : Ref sig .tc := ⟨.hbm, 206, rfl⟩
abbrev main_call1_v99 : Ref sig .tc := ⟨.hbm, 207, rfl⟩
abbrev main_call1_v100 : Ref sig .tc := ⟨.hbm, 208, rfl⟩
abbrev main_call1_v101 : Ref sig .tc := ⟨.hbm, 209, rfl⟩
abbrev main_call1_v102 : Ref sig .tc := ⟨.hbm, 210, rfl⟩
abbrev main_call1_v103 : Ref sig .tc := ⟨.hbm, 211, rfl⟩
abbrev main_call1_v104 : Ref sig .tc := ⟨.hbm, 212, rfl⟩
abbrev main_call1_v105 : Ref sig .tc := ⟨.hbm, 213, rfl⟩
abbrev main_call1_c_26 : Ref sig .tc := ⟨.hbm, 214, rfl⟩
abbrev main_call1_v106 : Ref sig .tc := ⟨.hbm, 215, rfl⟩
abbrev main_call1_v107 : Ref sig .tc := ⟨.hbm, 216, rfl⟩
abbrev main_call1_v108 : Ref sig .tc := ⟨.hbm, 217, rfl⟩
abbrev main_call1_c_27 : Ref sig .tc := ⟨.hbm, 218, rfl⟩
abbrev main_call1_v109 : Ref sig .tc := ⟨.hbm, 219, rfl⟩
abbrev main_call1_v110 : Ref sig .tc := ⟨.hbm, 220, rfl⟩
abbrev main_call1_c_28 : Ref sig .tc := ⟨.hbm, 221, rfl⟩
abbrev main_call1_v111 : Ref sig .tc := ⟨.hbm, 222, rfl⟩
abbrev main_call1_v112 : Ref sig .tc := ⟨.hbm, 223, rfl⟩
abbrev main_call1_v113 : Ref sig .tc := ⟨.hbm, 224, rfl⟩
abbrev main_call1_v114 : Ref sig .tc := ⟨.hbm, 225, rfl⟩
abbrev main_call1_v115 : Ref sig .tc := ⟨.hbm, 226, rfl⟩
abbrev main_call1_c_29 : Ref sig .tc := ⟨.hbm, 227, rfl⟩
abbrev main_call1_v116 : Ref sig .tc := ⟨.hbm, 228, rfl⟩
abbrev main_call1_v117 : Ref sig .tc := ⟨.hbm, 229, rfl⟩
abbrev main_call1_c_30 : Ref sig .tc := ⟨.hbm, 230, rfl⟩
abbrev main_call1_v118 : Ref sig .tc := ⟨.hbm, 231, rfl⟩
abbrev main_call1_v119 : Ref sig .tc := ⟨.hbm, 232, rfl⟩
abbrev main_call1_v120 : Ref sig .tc := ⟨.hbm, 233, rfl⟩
abbrev main_call1_v121 : Ref sig .tc := ⟨.hbm, 234, rfl⟩
abbrev main_call1_v122 : Ref sig .tc := ⟨.hbm, 235, rfl⟩
abbrev main_call1_c_31 : Ref sig .tc := ⟨.hbm, 236, rfl⟩
abbrev main_call1_v123 : Ref sig .tc := ⟨.hbm, 237, rfl⟩
abbrev main_call1_v124 : Ref sig .tc := ⟨.hbm, 238, rfl⟩
abbrev main_call1_c_32 : Ref sig .tc := ⟨.hbm, 239, rfl⟩
abbrev main_call1_v125 : Ref sig .tc := ⟨.hbm, 240, rfl⟩
abbrev main_call1_v126 : Ref sig .tc := ⟨.hbm, 241, rfl⟩
abbrev main_call1_v127 : Ref sig .tc := ⟨.hbm, 242, rfl⟩
abbrev main_call1_v128 : Ref sig .tc := ⟨.hbm, 243, rfl⟩
abbrev main_call1_v129 : Ref sig .tc := ⟨.hbm, 244, rfl⟩
abbrev main_call1_c_33 : Ref sig .tc := ⟨.hbm, 245, rfl⟩
abbrev main_call1_v130 : Ref sig .tc := ⟨.hbm, 246, rfl⟩
abbrev main_call1_v131 : Ref sig .tc := ⟨.hbm, 247, rfl⟩
abbrev main_call1_c_34 : Ref sig .tc := ⟨.hbm, 248, rfl⟩
abbrev main_call1_v132 : Ref sig .tc := ⟨.hbm, 249, rfl⟩
abbrev main_call1_v133 : Ref sig .tc := ⟨.hbm, 250, rfl⟩
abbrev main_call1_v134 : Ref sig .tc := ⟨.hbm, 251, rfl⟩
abbrev main_call1_v135 : Ref sig .tc := ⟨.hbm, 252, rfl⟩
abbrev main_call1_v136 : Ref sig .tc := ⟨.hbm, 253, rfl⟩
abbrev main_call1_v137 : Ref sig .tc := ⟨.hbm, 254, rfl⟩
abbrev main_call1_v138 : Ref sig .tc := ⟨.hbm, 255, rfl⟩
abbrev main_call1_v139 : Ref sig .tc := ⟨.hbm, 256, rfl⟩
abbrev main_call1_c_35 : Ref sig .tc := ⟨.hbm, 257, rfl⟩
abbrev main_call1_v140 : Ref sig .tc := ⟨.hbm, 258, rfl⟩
abbrev main_call1_v141 : Ref sig .tc := ⟨.hbm, 259, rfl⟩
abbrev main_call1_v142 : Ref sig .tc := ⟨.hbm, 260, rfl⟩
abbrev main_call1_c_36 : Ref sig .tc := ⟨.hbm, 261, rfl⟩
abbrev main_call1_v143 : Ref sig .tc := ⟨.hbm, 262, rfl⟩
abbrev main_call1_v144 : Ref sig .tc := ⟨.hbm, 263, rfl⟩
abbrev main_call1_c_37 : Ref sig .tc := ⟨.hbm, 264, rfl⟩
abbrev main_call1_v145 : Ref sig .tc := ⟨.hbm, 265, rfl⟩
abbrev main_call1_v146 : Ref sig .tc := ⟨.hbm, 266, rfl⟩
abbrev main_call1_v147 : Ref sig .tc := ⟨.hbm, 267, rfl⟩
abbrev main_call1_v148 : Ref sig .tc := ⟨.hbm, 268, rfl⟩
abbrev main_call1_v149 : Ref sig .tc := ⟨.hbm, 269, rfl⟩
abbrev main_call1_c_38 : Ref sig .tc := ⟨.hbm, 270, rfl⟩
abbrev main_call1_v150 : Ref sig .tc := ⟨.hbm, 271, rfl⟩
abbrev main_call1_v151 : Ref sig .tc := ⟨.hbm, 272, rfl⟩
abbrev main_call1_c_39 : Ref sig .tc := ⟨.hbm, 273, rfl⟩
abbrev main_call1_v152 : Ref sig .tc := ⟨.hbm, 274, rfl⟩
abbrev main_call1_v153 : Ref sig .tc := ⟨.hbm, 275, rfl⟩
abbrev main_call1_v154 : Ref sig .tc := ⟨.hbm, 276, rfl⟩
abbrev main_call1_v155 : Ref sig .tc := ⟨.hbm, 277, rfl⟩
abbrev main_call1_v156 : Ref sig .tc := ⟨.hbm, 278, rfl⟩
abbrev main_call1_c_40 : Ref sig .tc := ⟨.hbm, 279, rfl⟩
abbrev main_call1_v157 : Ref sig .tc := ⟨.hbm, 280, rfl⟩
abbrev main_call1_v158 : Ref sig .tc := ⟨.hbm, 281, rfl⟩
abbrev main_call1_c_41 : Ref sig .tc := ⟨.hbm, 282, rfl⟩
abbrev main_call1_v159 : Ref sig .tc := ⟨.hbm, 283, rfl⟩
abbrev main_call1_v160 : Ref sig .tc := ⟨.hbm, 284, rfl⟩
abbrev main_call1_v161 : Ref sig .tc := ⟨.hbm, 285, rfl⟩
abbrev main_call1_v162 : Ref sig .tc := ⟨.hbm, 286, rfl⟩
abbrev main_call1_v163 : Ref sig .tc := ⟨.hbm, 287, rfl⟩
abbrev main_call1_c_42 : Ref sig .tc := ⟨.hbm, 288, rfl⟩
abbrev main_call1_v164 : Ref sig .tc := ⟨.hbm, 289, rfl⟩
abbrev main_call1_v165 : Ref sig .tc := ⟨.hbm, 290, rfl⟩
abbrev main_call1_c_43 : Ref sig .tc := ⟨.hbm, 291, rfl⟩
abbrev main_call1_v166 : Ref sig .tc := ⟨.hbm, 292, rfl⟩
abbrev main_call1_v167 : Ref sig .tc := ⟨.hbm, 293, rfl⟩
abbrev main_call1_v168 : Ref sig .tc := ⟨.hbm, 294, rfl⟩
abbrev main_call1_v169 : Ref sig .tc := ⟨.hbm, 295, rfl⟩
abbrev main_call1_v170 : Ref sig .tc := ⟨.hbm, 296, rfl⟩
abbrev main_v45_0 : Ref sig .tc := ⟨.hbm, 297, rfl⟩
abbrev main_call1_v172 : Ref sig .tc := ⟨.hbm, 298, rfl⟩
abbrev main_call1_v173 : Ref sig .tc := ⟨.hbm, 299, rfl⟩
abbrev main_call1_c_44 : Ref sig .tc := ⟨.hbm, 300, rfl⟩
abbrev main_call1_v174 : Ref sig .tc := ⟨.hbm, 301, rfl⟩
abbrev main_v45_1 : Ref sig .tc := ⟨.hbm, 302, rfl⟩
abbrev main_v46 : Ref sig .tc := ⟨.hbm, 303, rfl⟩
abbrev main_c_8 : Ref sig .tc := ⟨.hbm, 304, rfl⟩
abbrev main_v47 : Ref sig .tc := ⟨.hbm, 305, rfl⟩
abbrev main_v48 : Ref sig .tc := ⟨.hbm, 306, rfl⟩
abbrev main_c_9 : Ref sig .tc := ⟨.hbm, 307, rfl⟩
abbrev main_v49 : Ref sig .tc := ⟨.hbm, 308, rfl⟩
abbrev main_v50 : Ref sig .tc := ⟨.hbm, 309, rfl⟩
abbrev main_v51 : Ref sig .tc := ⟨.hbm, 310, rfl⟩
abbrev main_cst_10 : Ref sig .tc := ⟨.hbm, 311, rfl⟩
abbrev main_v52 : Ref sig .tc := ⟨.hbm, 312, rfl⟩
abbrev main_v53 : Ref sig .tc := ⟨.hbm, 313, rfl⟩
abbrev main_cst_11 : Ref sig .tc := ⟨.hbm, 314, rfl⟩
abbrev main_v54 : Ref sig .tc := ⟨.hbm, 315, rfl⟩
abbrev main_v55 : Ref sig .tc := ⟨.hbm, 316, rfl⟩
abbrev main_cst_12 : Ref sig .tc := ⟨.hbm, 317, rfl⟩
abbrev main_v56 : Ref sig .tc := ⟨.hbm, 318, rfl⟩
abbrev main_v57 : Ref sig .tc := ⟨.hbm, 319, rfl⟩
abbrev main_cst_13 : Ref sig .tc := ⟨.hbm, 320, rfl⟩
abbrev main_v58 : Ref sig .tc := ⟨.hbm, 321, rfl⟩
abbrev main_v59 : Ref sig .tc := ⟨.hbm, 322, rfl⟩
abbrev main_v60 : Ref sig .tc := ⟨.hbm, 323, rfl⟩
abbrev main_v61 : Ref sig .tc := ⟨.hbm, 324, rfl⟩
abbrev main_v62 : Ref sig .tc := ⟨.hbm, 325, rfl⟩
abbrev main_v63 : Ref sig .tc := ⟨.hbm, 326, rfl⟩
abbrev main_cst_14 : Ref sig .tc := ⟨.hbm, 327, rfl⟩
abbrev main_v64 : Ref sig .tc := ⟨.hbm, 328, rfl⟩
abbrev main_v65 : Ref sig .tc := ⟨.hbm, 329, rfl⟩
abbrev main_v66 : Ref sig .tc := ⟨.hbm, 330, rfl⟩
abbrev main_v67 : Ref sig .tc := ⟨.hbm, 331, rfl⟩
abbrev main_v68 : Ref sig .tc := ⟨.hbm, 332, rfl⟩
abbrev main_v69 : Ref sig .tc := ⟨.hbm, 333, rfl⟩
abbrev main_call2_v0 : Ref sig .tc := ⟨.hbm, 334, rfl⟩
abbrev main_call2_cst : Ref sig .tc := ⟨.hbm, 335, rfl⟩
abbrev main_call2_c : Ref sig .tc := ⟨.hbm, 336, rfl⟩
abbrev main_call2_v1_0 : Ref sig .tc := ⟨.hbm, 337, rfl⟩
abbrev main_v70 : Ref sig .tc := ⟨.hbm, 338, rfl⟩

abbrev nD : Nat := 1
abbrev τ : Topo := Topo.v7x

variable {F : FTy → Type} [FloatOps F]
-- ==== Proof.Setup.lean ====
/-
  What the parts of the kernel's proof share: the program as the launch theorem of a SparseCore call sees it, the resource
  algebra (the launch handshakes' rounds, the two pipelined calls' rounds, the counters of the tiles' copies), and names
  for the buffers. Everything is stated for an arbitrary family `F` of float values, so that the kernel over machine words
  and the kernel over the reals are one proof.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

set_option maxRecDepth 16384

noncomputable section

namespace Cert.Proof.Token

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels: the host's, the two pipelined calls' admissible points, -/
abbrev ΛP : Labels := Pipeline.Sig Λ₀ (Fin 2) fun p => (pcfgs (F := F) p).Adm
/-- the SparseCore configuration, -/
abbrev K : SparseCore.Cfg τ sig (ΛP (F := F)) 1 := sc (F := F)
theorem nSub_zero : (K (F := F)).nSub 0 = 16 := rfl
theorem nCore_zero : (K (F := F)).nCore 0 = 2 := rfl
/-- the definitions under it. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, and the copies' counters. -/
abbrev UH : Type := URounds (GSem nD τ sig) ℕ
abbrev UP : Type := URounds (GSem nD τ sig) Unit
abbrev UU : Type := UH × (UP × Counters)

abbrev MM (F : FTy → Type) := MT nD τ sig (HIx 1) (Elt F) ℕ UU ℕ

abbrev EH : Emb UH (MM F) := embL
/-- Where the pipelines' rounds live. -/
def EP : Emb UP (MM F) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

/-- The table of projected rows, the tokens' indices, and the gathered rows. -/
abbrev tLoc (d : Dev nD) : Loc nD τ sig := (SparseCore.T d).loc main_v20
abbrev iLoc (d : Dev nD) : Loc nD τ sig := (SparseCore.T d).loc main_v1
abbrev oLoc (d : Dev nD) : Loc nD τ sig := (SparseCore.T d).loc main_v21

/-- The row of the packed table that holds vocabulary entry `v`: the bits above bit 16 and the thirteen lowest. -/
def rowWord (v : BitVec 32) : BitVec 32 :=
  IntOp.ori (IntOp.shli .vector (IntOp.shrui .vector v 16#32) 13#32) (IntOp.andi v 8191#32)

end Cert.Proof.Token

end
-- ==== Proof.Tile.lean ====
/-
  One tile of the SparseCore call. Tile `(c, s)` copies its 512 indices into its own memory, turns each into a row number
  of the packed table (`rowWord`), gathers those rows of the table with one indexed copy, and writes them to its 512 rows of
  the result. The lemma `tile_body` runs it at a symbolic tile and names what it leaves: each row of the block is the row of
  the table its index names (`Gathered`).
-/
module

public import proofs.«01_k».proof.Proof.Setup

@[expose] public section

set_option maxRecDepth 16384

noncomputable section

namespace Cert.Proof.Token

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v20_scv : Memref Cert.KernelIdeal.sig Kind.scVector Space.hbm Cert.KernelIdeal.S131072x128 EltTy.f32)
local notation "iV" => (Memref.whole Cert.KernelIdeal.main_v1_scv : Memref Cert.KernelIdeal.sig Kind.scVector Space.hbm Cert.KernelIdeal.S16384 EltTy.i32)
local notation "oV" => (Memref.whole Cert.KernelIdeal.main_v21_scv : Memref Cert.KernelIdeal.sig Kind.scVector Space.hbm Cert.KernelIdeal.S16384x128 EltTy.f32)
local notation "xV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512 EltTy.i32)
local notation "wV" => (Memref.whole Cert.KernelIdeal.cc1_scratch2 : Memref Cert.KernelIdeal.sig Kind.scVector Space.vmem Cert.KernelIdeal.S512x128 EltTy.f32)

/-! ## The 32 tiles' rows -/

theorem idiv : 32 ∣ S16384.size 0 := ⟨512, rfl⟩
theorem odiv : 32 ∣ S16384x128.size 0 := ⟨512, rfl⟩
abbrev irow (w : Fin 32) : Rect S16384 := Rect.part (s := S16384) (a₀ := 0) idiv w
abbrev orow (w : Fin 32) : Rect S16384x128 := Rect.part (s := S16384x128) (a₀ := 0) odiv w
abbrev iSet (w : Fin 32) : Finset S16384.Idx := ((iV).view.slice (irow w)).set
abbrev oSet (w : Fin 32) : Finset S16384x128.Idx := ((oV).view.slice (orow w)).set

theorem bound_zero : grid1.bound 0 = 2 := rfl
theorem bound_one : grid1.bound 1 = 16 := rfl
/-- Tile `(c, s)` works on block `2 s + c`. -/
def wid (c : Fin 2) (s : Fin 16) : Fin 32 := ⟨2 * s.val + c.val, by omega⟩
abbrev widL (L : grid1.Coords) : Fin 32 := wid (Fin.cast bound_zero (L 0)) (Fin.cast bound_one (L 1))
theorem widL_val (L : grid1.Coords) : (widL L).val = 2 * (L 1).val + (L 0).val := rfl

abbrev cV (L : grid1.Coords) : Fin τ.nSC := (L 0).castLE hcore1
abbrev jV (L : grid1.Coords) : Fin τ.nSub := (L 1).castLE hsub1

section Geometry

variable (L : grid1.Coords)

abbrev irowK : Rect S16384 := Rect.unit (s := S16384) (k1_off1 L) S512.size (k1_off1_inb L)
abbrev orowK : Rect S16384x128 := Rect.unit (s := S16384x128) (k1_off2 L) S512x128.size (k1_off2_inb L)
abbrev iRowK : Memref sig .scVector .hbm S512 .i32 := (iV).slice (irowK L) (fun _ => rfl)
abbrev oRowK : Memref sig .scVector .hbm S512x128 .f32 := (oV).slice (orowK L) (fun _ => rfl)
abbrev tAllK : Memref sig .scVector .hbm S131072x128 .f32 :=
  (tV).slice (Rect.unit (s := S131072x128) ![0, 0] S131072x128.size inb_S131072x128_S131072x128_0_0) (fun _ => rfl)

theorem irowK_eq : irowK L = irow (widL L) := by
  unfold irowK irow Rect.part Rect.block
  congr 1 <;> funext a
  · rw [k1_off1_eq]
    match a with
    | 0 => show 1024 * (L 1).val + 512 * (L 0).val = _; simp [Shape.partIx, Shape.partSize]; rw [widL_val]; omega
  · match a with
    | 0 => simp [Shape.partSize]
theorem orowK_eq : orowK L = orow (widL L) := by
  unfold orowK orow Rect.part Rect.block
  congr 1 <;> funext a
  · rw [k1_off2_eq]
    match a with
    | 0 => show 1024 * (L 1).val + 512 * (L 0).val = _; simp [Shape.partIx, Shape.partSize]; rw [widL_val]; omega
    | 1 => simp [Shape.partIx, Shape.partSize]
  · match a with
    | 0 => simp [Shape.partSize]
    | 1 => simp [Shape.partSize]

theorem set_iRowK : (iRowK L).view.set = iSet (widL L) := by
  show ((iV).view.slice (irowK L)).set = ((iV).view.slice (irow (widL L))).set
  exact irowK_eq L ▸ rfl
theorem set_oRowK : (oRowK L).view.set = oSet (widL L) := by
  show ((oV).view.slice (orowK L)).set = ((oV).view.slice (orow (widL L))).set
  exact orowK_eq L ▸ rfl

end Geometry

/-! ## What a tile is handed and hands back -/

/-- Row for row, `f` is the rows of the table `G` that the indices `ix` name. -/
def Gathered {α : Type} (ix : S16384.Idx → BitVec 32) (G : S131072x128.Idx → α) (f : S16384x128.Idx → α) (j : S16384x128.Idx) : Prop :=
  ∀ (i : S16384.Idx) (k : S131072x128.Idx), (i 0).val = (j 0).val → (k 0).val = (rowWord (ix i)).toNat → (k 1).val = (j 1).val → f j = G k

variable (ix : (d : Dev nD) → Buf (Elt F) (iLoc d)) (Tab : (d : Dev nD) → Buf (Elt F) (tLoc d) → Prop)

/-- The share of the indices each tile's block is handed at, and each tile's share of the table. -/
abbrev tq (w : Fin 32) : PosShare TreeShare := Transfers.shareTok fullShare 32 w

abbrev iPts (d : Dev nD) (w : Fin 32) : sProp 𝕄 := iLoc d ↦[iSet w]{fullShare} ix d
abbrev tPts (d : Dev nD) (w : Fin 32) (G : Buf (Elt F) (tLoc d)) : sProp 𝕄 := tLoc d ↦{tq w} G
abbrev oPts (d : Dev nD) (w : Fin 32) (f : Buf (Elt F) (oLoc d)) : sProp 𝕄 := oLoc d ↦[oSet w]{fullShare} f

/-- A tile is handed its indices, a share of a table the call accepts, and its block of the result; -/
abbrev goR (d : Dev nD) (w : Fin 32) : sProp 𝕄 := iprop(∃ G, ⌜Tab d G⌝ ∗ iPts ix d w ∗ tPts d w G ∗ ∃ f, oPts d w f)
/-- it hands back its indices and its block, gathered from such a table. -/
abbrev tdR (d : Dev nD) (w : Fin 32) : sProp 𝕄 :=
  iprop(iPts ix d w ∗ ∃ f, oPts d w f ∗ ⌜∃ G, Tab d G ∧ ∀ j ∈ oSet w, Gathered (ix d) G f j⌝)

/-- What the indices must satisfy for every row they name to be in the table. -/
def PreOK : Prop := ∀ (d : Dev nD) (j : S16384.Idx), (ix d j).toNat < 2 ^ 20

theorem rowWord_toNat (v : BitVec 32) (h : v.toNat < 2 ^ 20) : (rowWord v).toNat = v.toNat / 65536 * 8192 + v.toNat % 8192 := by
  have e : rowWord v = ((v >>> (16 : ℕ)) <<< (13 : ℕ)) ||| (v &&& 8191#32) := by
    unfold rowWord IntOp.ori IntOp.shli IntOp.shrui IntOp.andi; simp
  have e1 : v.toNat &&& 8191 = v.toNat % 8192 := Nat.and_two_pow_sub_one_eq_mod v.toNat 13
  have e2 : v.toNat >>> 16 = v.toNat / 65536 := Nat.shiftRight_eq_div_pow _ _
  rw [e, BitVec.toNat_or, BitVec.toNat_and, BitVec.toNat_shiftLeft, BitVec.toNat_ushiftRight, show (8191#32).toNat = 8191 from rfl, e1, e2,
    Nat.shiftLeft_eq, Nat.mod_eq_of_lt (by omega), show (2 : ℕ) ^ 13 = 8192 from rfl, Nat.mul_comm]
  exact (Nat.two_pow_add_eq_or_of_lt (i := 13) (by omega) _).symm

theorem rowWord_lt (v : BitVec 32) (h : v.toNat < 2 ^ 20) : (rowWord v).toNat < 131072 := by
  rw [rowWord_toNat v h]; omega

/-! ## The tile's run -/

section Tile

variable (d : Dev nD) (L : grid1.Coords)

theorem pts_iRowK (f : Buf (Elt F) (iLoc d)) :
    ((iRowK L).view.loc (V d (cV L) (jV L)) ↦[(iRowK L).view.set]{fullShare} f : sProp 𝕄) = iLoc d ↦[iSet (widL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oSet (widL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_xV (f : Buf (Elt F) ((V d (cV L) (jV L)).loc cc1_scratch0)) :
    ((xV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl
theorem pts_wV (f : Buf (Elt F) ((V d (cV L) (jV L)).loc cc1_scratch2)) :
    ((wV).view.loc (V d (cV L) (jV L)) ↦{fullShare} f : sProp 𝕄) = (V d (cV L) (jV L)).loc cc1_scratch2 ↦{fullShare} f := rfl

abbrev cA (d : Dev nD) (c : Fin τ.nSC) (i : Fin τ.nSub) : GSem nD τ sig := (V d c i, .dma cc1_scoped0.sem)
abbrev cB (d : Dev nD) (c : Fin τ.nSC) (i : Fin τ.nSub) : GSem nD τ sig := (V d c i, .dma cc1_scratch3.sem)
abbrev cC (d : Dev nD) (c : Fin τ.nSC) (i : Fin τ.nSub) : GSem nD τ sig := (V d c i, .dma cc1_scoped1.sem)

/-- The tile's three copy semaphores are among its own. -/
theorem ownSems0_tile :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc1_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc1_scratch3.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc1_scoped1.sem : SemLoc sig).isScoped .scVector = true; decide⟩⟩⟩)]

/-- Its three buffers are among its own. -/
theorem ownBufs_tile :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-- The row numbers of sixteen indices. -/
def words (v : Vec F S16 .i32) : IVec S16 32 := fun x => rowWord (v x)

/-- A piece whose contents are the row numbers of sixteen indices, as the whole's contents at those places. -/
theorem words_ok {r : Rect S512} {p : r.shape.Idx → Elt F .i32} {g : r.shape.Idx → Elt F .i32} {h : S512.Idx → Elt F .i32}
    (hp : p = fun x => rowWord (g x)) (hg : ∀ x, g x = h (r.emb x)) :
    ∀ x, (⟨r, p⟩ : View.Piece (Elt F) S512 .i32).2 x = (fun y => rowWord (h y) : S512.Idx → Elt F .i32) ((⟨r, p⟩ : View.Piece (Elt F) S512 .i32).1.emb x) := by
  intro x; subst hp; show rowWord (g x) = rowWord (h (r.emb x)); rw [hg]

/-- Chunks listed from the last to the first cover everything below the end of the first of them. -/
theorem mem_chunks {y : S512.Idx} {o : ℕ} {inb : ∀ a, (![o] : Fin 1 → ℕ) a + S16.size a ≤ S512.size a}
    {w : (Rect.unit (s := S512) ![o] S16.size inb).shape.Idx → Elt F .i32} {l : List (View.Piece (Elt F) S512 .i32)}
    (hlt : (y 0).val < o + 16) (hrec : (y 0).val < o → ∃ p ∈ l, y ∈ p.1.set) :
    ∃ p ∈ (⟨Rect.unit (s := S512) ![o] S16.size inb, w⟩ : View.Piece (Elt F) S512 .i32) :: l, y ∈ p.1.set := by
  by_cases h : (y 0).val < o
  · obtain ⟨p, hp, hm⟩ := hrec h
    exact ⟨p, List.mem_cons_of_mem _ hp, hm⟩
  · refine ⟨_, List.mem_cons_self, (Rect.mem_set_unit (s := S512) (off := ![o]) (size := S16.size) (inb := inb)).mpr fun a => ?_⟩
    match a with
    | 0 => exact ⟨Nat.not_lt.mp h, hlt⟩

theorem iRowK_read (f : S16384.Idx → BitVec 32) (y : S512.Idx) : (iRowK L).view.read (Elt F) f y = f ((iRowK L).view.emb y) :=
  (View.read_apply _ _).trans (cast_eq _ _)

theorem iRowK_emb (y : S512.Idx) : ((iRowK L).view.emb y 0).val = 512 * (widL L).val + (y 0).val := by
  show (k1_off1 L 0) + 1 * (y 0).val = _
  rw [k1_off1_eq, widL_val]
  show 1024 * (L 1).val + 512 * (L 0).val + _ = _
  omega

theorem oRowK_emb0 (x : S512x128.Idx) : ((oRowK L).view.emb x 0).val = 512 * (widL L).val + (x 0).val := by
  show (k1_off2 L 0) + 1 * (x 0).val = _
  rw [k1_off2_eq, widL_val]
  show 1024 * (L 1).val + 512 * (L 0).val + _ = _
  omega

theorem oRowK_emb1 (x : S512x128.Idx) : ((oRowK L).view.emb x 1).val = (x 1).val := by
  show (k1_off2 L 1) + 1 * (x 1).val = _
  rw [k1_off2_eq]
  show 0 + _ = _
  omega

/-- Where the indexed copy reads the table for place `x` of the tile's block: the row named by the word at `x`'s row. -/
theorem gather_idx (r : S512.Idx → BitVec 32) (hin : ∀ x, (r x).toNat < S131072x128.size gathers_S131072x128_S512x128.axis)
    (x : S512x128.Idx) (y : S512.Idx) (hy : (y 0).val = (x 0).val) (k : S131072x128.Idx) (h0 : (k 0).val = (r y).toNat) (h1 : (k 1).val = (x 1).val) :
    (tAllK).view.emb (gathers_S131072x128_S512x128.idx (SparseCore.rows (F := F) r rfl hin) x) = k := by
  have hz : ∀ z : S131072x128.Idx, (tAllK).view.emb z = z := fun z => funext fun a => Fin.ext (by
    match a with
    | 0 => show 0 + 1 * (z 0).val = _; omega
    | 1 => show 0 + 1 * (z 1).val = _; omega)
  rw [hz]
  have hy' : S512.rowMajor.symm ((x 0).cast rfl) = y := by
    rw [Equiv.symm_apply_eq]; refine Fin.ext ?_
    rw [Shape.rowMajor_val_one]; exact hy.symm
  funext a
  match a with
  | 0 =>
    refine Fin.ext ?_
    refine (congrArg Fin.val (Shape.Gathers.idx_axis gathers_S131072x128_S512x128 (SparseCore.rows (F := F) r rfl hin) x)).trans ?_
    show (r (S512.rowMajor.symm ((x 0).cast rfl))).toNat = _
    rw [hy', h0]
  | 1 =>
    refine Fin.ext ?_
    rw [Shape.Gathers.idx_of_ne gathers_S131072x128_S512x128 _ x 1 (by decide)]
    exact h1.symm

/-- A tile's block of the result, written with what the indexed copy brought. -/
theorem gathered_block (ix : S16384.Idx → BitVec 32) (G : S131072x128.Idx → Elt F .f32) (fo : S16384x128.Idx → Elt F .f32)
    (r : S512.Idx → BitVec 32) (hin : ∀ x, (r x).toNat < S131072x128.size gathers_S131072x128_S512x128.axis)
    (hr : ∀ y, r y = rowWord ((iRowK L).view.read (Elt F) ix y)) (p : S512x128.Idx → Elt F .f32)
    (dma_eq : p = SparseCore.gatherPayload gathers_S131072x128_S512x128 ((tAllK).view.read (Elt F) G) (SparseCore.rows (F := F) r rfl hin)) :
    ∀ j ∈ oSet (widL L), Gathered ix G ((oRowK L).view.writes (Elt F) fo [⟨Rect.whole S512x128, p⟩]) j := by
  intro j hj i k hi h0 h1
  obtain ⟨x, -, rfl⟩ := Finset.mem_map.mp (show j ∈ (oRowK L).view.set from (set_oRowK L).symm ▸ hj)
  have e1 := View.read_writes_cons_emb (Val := Elt F) (oRowK L).view fo (Rect.whole S512x128) p [] x
  rw [View.read_apply, cast_eq] at e1
  have e0 : (Rect.whole S512x128).emb x = x := funext fun a => Fin.ext (by show 0 + 1 * (x a).val = _; omega)
  rw [e0] at e1
  rw [e1, dma_eq]
  rw [oRowK_emb0] at hi
  rw [oRowK_emb1] at h1
  let y : S512.Idx := fun a => ⟨(x 0).val, by match a with | 0 => exact (x 0).isLt⟩
  have hiy : i = (iRowK L).view.emb y := funext fun a => by
    match a with
    | 0 => exact Fin.ext (by rw [iRowK_emb]; exact hi)
  have h0' : (k 0).val = (r y).toNat := by rw [hr, iRowK_read, ← hiy]; exact h0
  exact ((View.read_apply _ _).trans (cast_eq _ _)).trans (congrArg G (gather_idx (F := F) r hin x y rfl k h0' h1))

variable [FloatOps F]

set_option maxHeartbeats 800000 in
theorem tile_body (hF : (K (F := F)).Facts) (hpre : PreOK ix) (O : CellTallies nD τ sig (HIx 1)) (W : Waits sig (HIx 1)) (hO : ∀ g, O g none = 0) :
    iprop(levAts (K (F := F)).L (K (F := F)).lev ∗ emp
        ∗ goR ix Tab d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_k L tV (Memref.isWhole_whole _) iV (Memref.isWhole_whole _) oV (Memref.isWhole_whole _)
            xV (Memref.isWhole_whole _) rV (Memref.isWhole_whole _) wV (Memref.isWhole_whole _) cc1_scratch3 cc1_scoped0 cc1_scoped1)
          fun _ => iprop(tdR ix Tab d (widL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_k_eq_skeleton]; unfold cc1_gather_k_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton]
  unfold k1_part1_skel k1_part2_skel k1_part3_skel k1_part4_skel k1_part5_skel k1_part6_skel k1_part7_skel k1_part8_skel k1_part9_skel k1_part10_skel
  rw [(K (F := F)).scopedBufs_V hF d (cV L) (jV L), SparseCore.Cfg.scopedSems0_V (Val := Elt F) d (cV L) (jV L), ownSems0_tile, ownBufs_tile]
  iintro ⟨#Hlv, -, ⟨%G, %hG, Hi, Ht, %fo, Ho⟩, ⟨⟨%fx, Hx⟩, ⟨%fr, Hr⟩, ⟨%fw, Hw⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hx' := (Entails.of_eq (pts_xV (F := F) d L _).symm) $$ Hx
  ihave Hr' := (Entails.of_eq (pts_rV (F := F) d L _).symm) $$ Hr
  ihave Hw' := (Entails.of_eq (pts_wV (F := F) d L _).symm) $$ Hw
  sl_exec
  have hrow : ∀ y : S512.Idx, (rV).view.read (Elt F) ((rV).view.writes (Elt F) (rV).view.junk (tile_body.sl.Hr'_32 ix d L fx)) y
      = rowWord ((iRowK L).view.read (Elt F) (ix d) y) := by
    intro y
    refine View.read_writes_apply_of_pieces (Val := Elt F) (e := .i32) (rV).view (rV).view.junk (fun y => rowWord ((iRowK L).view.read (Elt F) (ix d) y)) _ ?_ y ?_
    · unfold tile_body.sl.Hr'_32
      rw [View.write_whole_univ]
      iterate 32 (refine List.forall_mem_cons.mpr ⟨words_ok (by simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, shapeCast_self]; rfl) (fun x => rfl), ?_⟩)
      exact List.forall_mem_nil _
    · unfold tile_body.sl.Hr'_32
      have hy : (y 0).val < 512 := (y 0).isLt
      iterate 32 (refine mem_chunks (hlt := by omega) fun hy => ?_)
      omega
  have hin : ∀ x, ((rV).view.read (Elt F) ((rV).view.writes (Elt F) (rV).view.junk (tile_body.sl.Hr'_32 ix d L fx)) x).toNat
      < S131072x128.size gathers_S131072x128_S512x128.axis := by
    intro x; rw [hrow]
    rw [show ∀ j, (iRowK L).view.read (Elt F) (ix d) j = ix d ((iRowK L).view.emb j) from fun j => (View.read_apply _ _).trans (cast_eq _ _)]
    exact rowWord_lt _ (hpre d _)
  ihave Hts := (pointsTo_split_subset (q := tq (widL L)) (f := G) (S := Finset.univ) (Finset.subset_univ (tAllK).view.set)).1 $$ Ht'
  icases Hts with ⟨Hts, Htr⟩
  have hws : (wV).view.set = Finset.univ := View.set_whole _
  have hrs : (rV).view.set = Finset.univ := View.set_whole _
  ihave Hw'' := (Entails.of_eq (show ((wV).view.loc (V d (cV L) (jV L)) ↦{fullShare} fw : sProp 𝕄)
      = (wV).view.loc (V d (cV L) (jV L)) ↦[(wV).view.set]{fullShare} fw by rw [hws])) $$ Hw'
  ihave Hr'' := (Entails.of_eq (show ((rV).view.loc (V d (cV L) (jV L)) ↦{fullShare} (rV).view.writes (Elt F) (rV).view.junk (tile_body.sl.Hr'_32 ix d L fx) : sProp 𝕄)
      = (rV).view.loc (V d (cV L) (jV L)) ↦[(rV).view.set]{fullShare} (rV).view.writes (Elt F) (rV).view.junk (tile_body.sl.Hr'_32 ix d L fx)
      by rw [hrs])) $$ Hr'
  have hN : ∀ h : S131072x128.Gathers 0 S512x128, ∑ j, ((wV).slice (S512x128.rowRect h.axis' j) (S512x128.stride_rowRect h.axis' j)).view.dmaCredit
      = (wV).view.dmaCredit := by decide
  iapply (SparseCore.wp_indirectGatherLocal countersEmb 𝒱₀ (V d (cV L) (jV L)) none (hg := gathers_S131072x128_S512x128) (default : HIx 1)
      (wV).view.dmaCredit (hN _) (by decide) hin) $$ [Hts Hw'' Hr'' HsemB]
  · isplitl [Hts]; · iexact Hts
    isplitl [Hw'']; · iexact Hw''
    isplitl [Hr'']; · iexact Hr''
    iexact HsemB
  iintro Hfl
  sl_exec
  iapply (Transfers.wp_waitLocalO countersEmb 𝒱₀ (V d (cV L) (jV L)) none (default : HIx 1) (rfl : (wV).view.dmaCredit = _)) $$ [Hfl HO]
  · isplitl [Hfl]; · iexact Hfl
    isplitl [HO]; · iexact HO
    iapply (Transfers.MayWaits.elim (SemLoc.dma cc1_scratch3.sem)) $$ Hmw
  iintro ⟨⟨Hw', Hts, Hr'⟩, HsemB, HO⟩
  ihave Hw3 := (Entails.of_eq (show ((wV).view.loc (V d (cV L) (jV L)) ↦[(wV).view.set]{fullShare} _ : sProp 𝕄)
      = (wV).view.loc (V d (cV L) (jV L)) ↦{fullShare} _ by rw [hws])) $$ Hw'
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  sl_exec
  sl_step
  isplitl [Hi' Ho']
  · isplitl [Hi']; · iapply (Entails.of_eq (pts_iRowK (F := F) d L _)); iexact Hi'
    iexists _
    isplitl [Ho']; · iapply (Entails.of_eq (pts_oRowK (F := F) d L _)); iexact Ho'
    ipureintro
    refine ⟨G, hG, ?_⟩
    exact gathered_block L (ix d) G fo _ hin hrow _ (dma_eq := by unfold tile_body.sl.dma0_1; rw [View.write_whole_univ]; rfl)
  isplitl [Hx' Hr3 Hw3 Hbufs]
  · isplitl [Hx']; · iexists _; iexact Hx'
    isplitl [Hr3]; · iexists _; iexact Hr3
    isplitl [Hw3]; · iexists _; iexact Hw3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The call's payloads, and its obligations to the launch -/

/-- The two SparseCores take what their sixteen tiles take, and hand back what these hand back. -/
def Py : (K (F := F)).Pay (nD := nD) (Val := Elt F) (Name := ℕ) (U := UU) where
  st := fun q d c => match q with
    | 0 => bigSep Finset.univ fun s : Fin 16 => goR ix Tab d (wid (Fin.cast nCore_zero c) s)
  dn := fun q d c => match q with
    | 0 => bigSep Finset.univ fun s : Fin 16 => tdR ix Tab d (wid (Fin.cast nCore_zero c) s)
  go := fun q d c i => match q with
    | 0 => goR ix Tab d (wid (Fin.cast nCore_zero c) (Fin.cast nSub_zero i))
  td := fun q d c i => match q with
    | 0 => tdR ix Tab d (wid (Fin.cast nCore_zero c) (Fin.cast nSub_zero i))
  x := fun _ _ => iprop(emp)

instance Py_storable : (Py (F := F) ix Tab).IsStorable where
  st q d c := match q with
    | 0 => (inferInstance : BI.Storable (upEmb : UEmb _ 𝕄) (bigSep Finset.univ fun s : Fin 16 => goR ix Tab d (wid (Fin.cast nCore_zero c) s)))
  dn q d c := match q with
    | 0 => (inferInstance : BI.Storable (upEmb : UEmb _ 𝕄) (bigSep Finset.univ fun s : Fin 16 => tdR ix Tab d (wid (Fin.cast nCore_zero c) s)))
  go q d c i := match q with
    | 0 => (inferInstance : BI.Storable (upEmb : UEmb _ 𝕄) (goR ix Tab d (wid (Fin.cast nCore_zero c) (Fin.cast nSub_zero i))))
  td q d c i := match q with
    | 0 => (inferInstance : BI.Storable (upEmb : UEmb _ 𝕄) (tdR ix Tab d (wid (Fin.cast nCore_zero c) (Fin.cast nSub_zero i))))

def coordsV (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1_gather_k (coordsV c s)
          tV (Memref.isWhole_whole _) iV (Memref.isWhole_whole _) oV (Memref.isWhole_whole _)
          xV (Memref.isWhole_whole _) rV (Memref.isWhole_whole _) wV (Memref.isWhole_whole _) cc1_scratch3 cc1_scoped0 cc1_scoped1) ⟨⟩ c s := rfl

theorem tile_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK ix) : (K (F := F)).TileObl (D (F := F)) 𝒱 (Py ix Tab) v₀ 0 := by
  intro d c i O W hO _ _
  simp only [show (Py ix Tab).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body ix Tab d (coordsV ⟨_, hci.1⟩ ⟨_, hci.2⟩) hF hpre O W hO).trans (wp_mono frame _ _ fun _ => tile_post)

theorem vecSplit : (K (F := F)).VecSplit' (Py ix Tab) 0 := by
  intro d c
  have e : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  show (bigSep Finset.univ fun s : Fin 16 => goR ix Tab d (wid (Fin.cast nCore_zero c) s)) ⊢ |={Set.univ}=> iprop(
      (bigSep Finset.univ fun i : Fin ((K (F := F)).nSub 0) => goR ix Tab d (wid (Fin.cast nCore_zero c) (Fin.cast nSub_zero i)))
      ∗ ((bigSep Finset.univ fun i : Fin ((K (F := F)).nSub 0) => tdR ix Tab d (wid (Fin.cast nCore_zero c) (Fin.cast nSub_zero i)))
          -∗ bigSep Finset.univ fun s : Fin 16 => tdR ix Tab d (wid (Fin.cast nCore_zero c) s)))
  rw [e fun s => goR ix Tab d (wid (Fin.cast nCore_zero c) s), e fun s => tdR ix Tab d (wid (Fin.cast nCore_zero c) s)]
  iintro H; imodintro
  isplitl [H]; · iexact H
  iintro H; iexact H

end Tile

end Cert.Proof.Token

end
-- ==== Proof.Project.lean ====
/-
  The first pipelined call: eight blocks of the transposed embedding at a time, projected into one block of the packed
  table. The last block of the embedding is cut where the array ends, and what the staging buffer holds past the cut nothing
  states; so the call's data are RELATIONAL: each entry of the table is the body's value at some eight blocks that agree with
  the embedding wherever the embedding has an entry.
-/
module

public import proofs.«01_k».proof.Proof.Setup
public import Idealize.ShloMosaic.Lib.Pipeline.ArrRel
public import Idealize.ShloMosaic.Lib.Pipeline.ValueKit.Geometry
public import Idealize.ShloMosaic.Lib.Pipeline.RegionArrays

@[expose] public section

set_option maxRecDepth 16384

noncomputable section

namespace Cert.Proof.Token

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat RDat)

variable {F : FTy → Type} [FloatOps F] [∀ e, Nonempty (Elt F e)]

local notation "𝕄" => MM F

/-! ## Accesses of a whole block -/

omit [FloatOps F] [∀ e, Nonempty (Elt F e)] in
theorem readAt_full {sp : Space} {S : Shape} {e : EltTy} (v : View sig .tc sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  View.ld_unit_zero h inb (v.read (Elt F) f)

omit [FloatOps F] in
theorem read_writes_full {sp : Space} {S : Shape} {e : EltTy} (v : View sig .tc sp S e) {off : Fin S.rank → ℕ} (h : off = fun _ => 0)
    (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩)]
  exact View.canon_unit_zero h inb w

theorem zeros2 : (![0, 0] : Fin 2 → ℕ) = fun _ => 0 := by decide

/-! ## The body -/

/-- From eight blocks, the weights and the bias, the body leaves its payload in the output's block. -/
theorem project_run (c : Dev nD) (i : grid0.Coords)
    (a1 : Memref sig .tc .vmem S32x8192 .f32) (h1 : a1.IsWhole) (a2 : Memref sig .tc .vmem S32x8192 .f32) (h2 : a2.IsWhole)
    (a3 : Memref sig .tc .vmem S32x8192 .f32) (h3 : a3.IsWhole) (a4 : Memref sig .tc .vmem S32x8192 .f32) (h4 : a4.IsWhole)
    (a5 : Memref sig .tc .vmem S32x8192 .f32) (h5 : a5.IsWhole) (a6 : Memref sig .tc .vmem S32x8192 .f32) (h6 : a6.IsWhole)
    (a7 : Memref sig .tc .vmem S32x8192 .f32) (h7 : a7.IsWhole) (a8 : Memref sig .tc .vmem S32x8192 .f32) (h8 : a8.IsWhole)
    (a9 : Memref sig .tc .vmem S256x128 .f32) (h9 : a9.IsWhole) (a10 : Memref sig .tc .vmem S1x128 .f32) (h10 : a10.IsWhole)
    (a11 : Memref sig .tc .vmem S8192x128 .f32) (h11 : a11.IsWhole)
    (z1 z2 z3 z4 z5 z6 z7 z8 : Vec F S32x8192 .f32) (w : Vec F S256x128 .f32) (b : Vec F S1x128 .f32) (o : Vec F S8192x128 .f32)
    (Q : PUnit → sProp 𝕄) :
    iprop(owns (c : Thread nD τ) a1 fullShare z1 ∗ owns (c : Thread nD τ) a2 fullShare z2 ∗ owns (c : Thread nD τ) a3 fullShare z3
        ∗ owns (c : Thread nD τ) a4 fullShare z4 ∗ owns (c : Thread nD τ) a5 fullShare z5 ∗ owns (c : Thread nD τ) a6 fullShare z6
        ∗ owns (c : Thread nD τ) a7 fullShare z7 ∗ owns (c : Thread nD τ) a8 fullShare z8 ∗ owns (c : Thread nD τ) a9 fullShare w
        ∗ owns (c : Thread nD τ) a10 fullShare b ∗ owns (c : Thread nD τ) a11 fullShare o
        ∗ (iprop(owns (c : Thread nD τ) a1 fullShare z1 ∗ owns (c : Thread nD τ) a2 fullShare z2 ∗ owns (c : Thread nD τ) a3 fullShare z3
            ∗ owns (c : Thread nD τ) a4 fullShare z4 ∗ owns (c : Thread nD τ) a5 fullShare z5 ∗ owns (c : Thread nD τ) a6 fullShare z6
            ∗ owns (c : Thread nD τ) a7 fullShare z7 ∗ owns (c : Thread nD τ) a8 fullShare z8 ∗ owns (c : Thread nD τ) a9 fullShare w
            ∗ owns (c : Thread nD τ) a10 fullShare b ∗ owns (c : Thread nD τ) a11 fullShare (k0_pay1 z1 z2 z3 z4 z5 z6 z7 z8 w b)) -∗ Q ⟨⟩))
      ⊢ wp frame (wpE (defs₀ (F := F)) 𝒱₀ (c : Thread nD τ) none) Set.univ
          (cc0__project_body i a1 h1 a2 h2 a3 h3 a4 h4 a5 h5 a6 h6 a7 h7 a8 h8 a9 h9 a10 h10 a11 h11) Q := by
  rw [cc0__project_body_eq_skeleton]; unfold cc0__project_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, Hk⟩
  sl_exec
  sl_step
  iapply Hk
  isplitl [H1]; · iexists _; isplitr; swap; · iexact H1
                  ipureintro; exact e1
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H6]; · iexists _; isplitr; swap; · iexact H6
                  ipureintro; exact e6
  isplitl [H7]; · iexists _; isplitr; swap; · iexact H7
                  ipureintro; exact e7
  isplitl [H8]; · iexists _; isplitr; swap; · iexact H8
                  ipureintro; exact e8
  isplitl [H9]; · iexists _; isplitr; swap; · iexact H9
                  ipureintro; exact e9
  isplitl [H10]; · iexists _; isplitr; swap; · iexact H10
                   ipureintro; exact e10
  iexists _; isplitr; swap; · iexact H11
  ipureintro
  subst e1 e2 e3 e4 e5 e6 e7 e8 e9 e10
  refine (read_writes_full a11.view zeros2 _ f11 _).trans ?_
  exact congr (congr (congr (congr (congr (congr (congr (congr (congr (congrArg k0_pay1 (readAt_full a1.view zeros2 _ f1)) (readAt_full a2.view zeros2 _ f2))
    (readAt_full a3.view zeros2 _ f3)) (readAt_full a4.view zeros2 _ f4)) (readAt_full a5.view zeros2 _ f5)) (readAt_full a6.view zeros2 _ f6))
    (readAt_full a7.view zeros2 _ f7)) (readAt_full a8.view zeros2 _ f8)) (readAt_full a9.view zeros2 _ f9)) (readAt_full a10.view zeros2 _ f10)

/-! ## What a fetch brings -/

/-- Eight blocks agree with the transposed embedding: block `g` of point `t` at the columns that exist. -/
def Blocks (A2 : Vec F S32x1000000 .f32) (t : ℕ) (Z : Fin 8 → Vec F S32x8192 .f32) : Prop :=
  ∀ (g : Fin 8) (x : S32x8192.Idx) (y : S32x1000000.Idx), (y 0).val = (x 0).val → (y 1).val = (t * 8 + g.val) * 8192 + (x 1).val →
    Z g x = A2 y

/-- The body's value at eight blocks. -/
def packed (Z : Fin 8 → Vec F S32x8192 .f32) (w : Vec F S256x128 .f32) (b : Vec F S1x128 .f32) : Vec F S8192x128 .f32 :=
  k0_pay1 (Z 0) (Z 1) (Z 2) (Z 3) (Z 4) (Z 5) (Z 6) (Z 7) w b

/-- What one entry of the packed table may be. -/
def Packed (A2 : Vec F S32x1000000 .f32) (w : Vec F S256x128 .f32) (b : Vec F S1x128 .f32) (j : S131072x128.Idx) (v : F .f32) : Prop :=
  ∃ Z, Blocks A2 ((j 0).val / 8192) Z ∧ ∀ x : S8192x128.Idx, (x 0).val = (j 0).val % 8192 → (x 1).val = (j 1).val → v = packed Z w b x

omit [FloatOps F] [∀ e, Nonempty (Elt F e)] in
theorem fill_at {G : Pipeline.Grid} (w : Pipeline.Window sig G) {α : Type} (i : G.Coords) (d : w.block.Idx → α) (g : (w.xblock i).Idx → α)
    (x : w.block.Idx) (hx : ∀ a, (x a).val < w.xsize i a) : w.fill i d g x = g fun a => ⟨(x a).val, hx a⟩ :=
  w.fill_xinj i d g fun a => ⟨(x a).val, hx a⟩

omit [FloatOps F] [∀ e, Nonempty (Elt F e)] in
/-- A block of the transposed embedding, cut at the array's end, holds the array's entries where it has any. -/
theorem fetch_cut (ix : grid0.Coords → Fin 2 → ℕ) (reads : Fin 1 → Bool) (stage : Fin 2 → Memref sig .tc .vmem ⟨2, S32x8192.size⟩ .f32)
    (sem : Fin 2 → DmaSem sig) (hrank hreads hstart hnbuf hwx hwxs hstage) (t : Fin grid0.N) (b : ℕ)
    (h0 : ix (grid0.coords t) 0 = 0) (h1 : ix (grid0.coords t) 1 = min b 122) (A2 : Vec F S32x1000000 .f32) (x : S32x8192.Idx) (y : S32x1000000.Idx)
    (e0 : (y 0).val = (x 0).val) (e1 : (y 1).val = b * 8192 + (x 1).val)
    (d : S32x8192.Idx → Elt F .f32) :
    (Pipeline.Window.ofSpecClip (Memref.whole main_v2) S32x8192.size ix reads false false 2 stage sem hrank hreads hstart hnbuf
        (Memref.isWhole_whole _) hwx hwxs hstage).fill (grid0.coords t) d
      (((Pipeline.Window.ofSpecClip (Memref.whole main_v2) S32x8192.size ix reads false false 2 stage sem hrank hreads hstart hnbuf
        (Memref.isWhole_whole _) hwx hwxs hstage).blk t).view.read (Elt F) (by exact A2)) x = A2 y := by
  have hx0 : (x 0).val < 32 := (x 0).isLt
  have hx1 : (x 1).val < 8192 := (x 1).isLt
  have hy : (y 1).val < 1000000 := (y 1).isLt
  have hb : b ≤ 122 := by omega
  rw [Nat.min_eq_left hb] at h1
  have hx : ∀ a : Fin 2, (x a).val < (Pipeline.Clip.of (ix (grid0.coords t) a) (S32x8192.size a) (S32x1000000.size a)).extent (S32x8192.size a)
    | 0 => by show (x 0).val < (Pipeline.Clip.of (ix (grid0.coords t) 0) 32 32).extent 32
              rw [h0]; exact hx0
    | 1 => by show (x 1).val < (Pipeline.Clip.of (ix (grid0.coords t) 1) 8192 1000000).extent 8192
              rw [h1]; unfold Pipeline.Clip.of; split
              · exact hx1
              · show (x 1).val < 1000000 - b * 8192; omega
  refine (fill_at (Pipeline.Window.ofSpecClip (Memref.whole main_v2) S32x8192.size ix reads false false 2 stage sem hrank hreads hstart hnbuf
    (Memref.isWhole_whole _) hwx hwxs hstage) (grid0.coords t) d _ x hx).trans ?_
  refine (congrArg A2 (funext fun a => Fin.ext ?_) : _ = A2 y)
  match a with
  | 0 => show ix (grid0.coords t) 0 * 32 + 1 * (x 0).val = (y 0).val; rw [h0]; omega
  | 1 => show ix (grid0.coords t) 1 * 8192 + 1 * (x 1).val = (y 1).val; rw [h1]; omega

theorem blockOf0 : ∀ t : Fin grid0.N, cc0_transform_0 (grid0.coords t) 1 = min (t.val * 8 + 0) 122 := by decide +kernel
theorem blockOf1 : ∀ t : Fin grid0.N, cc0_transform_1 (grid0.coords t) 1 = min (t.val * 8 + 1) 122 := by decide +kernel
theorem blockOf2 : ∀ t : Fin grid0.N, cc0_transform_2 (grid0.coords t) 1 = min (t.val * 8 + 2) 122 := by decide +kernel
theorem blockOf3 : ∀ t : Fin grid0.N, cc0_transform_3 (grid0.coords t) 1 = min (t.val * 8 + 3) 122 := by decide +kernel
theorem blockOf4 : ∀ t : Fin grid0.N, cc0_transform_4 (grid0.coords t) 1 = min (t.val * 8 + 4) 122 := by decide +kernel
theorem blockOf5 : ∀ t : Fin grid0.N, cc0_transform_5 (grid0.coords t) 1 = min (t.val * 8 + 5) 122 := by decide +kernel
theorem blockOf6 : ∀ t : Fin grid0.N, cc0_transform_6 (grid0.coords t) 1 = min (t.val * 8 + 6) 122 := by decide +kernel
theorem blockOf7 : ∀ t : Fin grid0.N, cc0_transform_7 (grid0.coords t) 1 = min (t.val * 8 + 7) 122 := by decide +kernel
theorem ix10 : ∀ t : Fin grid0.N, cc0_transform_10 (grid0.coords t) 0 = t.val := by decide +kernel

/-! ## The call's relational data -/

variable (O : Dev nD → CellTallies nD τ sig (HIx 1)) (B : ℕ)
variable (A2 : Dev nD → Vec F S32x1000000 .f32) (A15 : Dev nD → Vec F S256x128 .f32) (A19 : Dev nD → Vec F S1x128 .f32) (A20 : Dev nD → Vec F S131072x128 .f32)

/-- What the arrays hold when the call is entered. -/
def entry0 (c : Dev nD) : (w : Fin 11) → Buf (Elt F) ((cfg0.win w).arr.view.loc (c.tc : Thread nD τ))
  | 0 => A2 c | 1 => A2 c | 2 => A2 c | 3 => A2 c | 4 => A2 c | 5 => A2 c | 6 => A2 c | 7 => A2 c
  | 8 => A15 c | 9 => A19 c | 10 => A20 c | ⟨_ + 11, h⟩ => absurd h (Nat.not_lt.2 (Nat.le_add_left _ _))

/-- What the body leaves: the inputs' blocks as it found them, the weights and the bias known; in the output's block its
    value at some eight blocks of this point. -/
def leaves0 (c : Dev nD) : (w : Fin 11) → Fin grid0.N → (Y X : (cfg0.win w).block.Idx → Elt F (cfg0.win w).elt) → Prop
  | 0 => fun _ _ _ => True | 1 => fun _ _ _ => True | 2 => fun _ _ _ => True | 3 => fun _ _ _ => True
  | 4 => fun _ _ _ => True | 5 => fun _ _ _ => True | 6 => fun _ _ _ => True | 7 => fun _ _ _ => True
  | 8 => fun _ _ X => X = A15 c
  | 9 => fun _ _ X => X = A19 c
  | 10 => fun t _ X => ∃ Z, Blocks (A2 c) t.val Z ∧ X = packed Z (A15 c) (A19 c)
  | ⟨_ + 11, h⟩ => absurd h (Nat.not_lt.2 (Nat.le_add_left _ _))

/-- The shares: eight of the embedding, the other arrays whole. -/
def share0 : Fin 11 → PosShare TreeShare :=
  fun w => if h : w.val < 8 then Transfers.shareTok fullShare 8 ⟨w.val, h⟩ else fullShare

def rd0 (c : Dev nD) : RDat τ (Elt F) (HIx 1) ℕ UU ℕ cfg0 c where
  A := entry0 A2 A15 A19 A20 c
  after := leaves0 A2 A15 A19 c
  Φ := fun _ => Pipeline.scopedRest spec0 c
  q := share0
  owed := fun _ => O c
  recorded := fun _ => {p | (K (F := F)).lev ((c : Thread nD τ), p.1) p.2 ≤ B}

theorem entry_eq8 (c : Dev nD) (t : Fin grid0.N) (d : S256x128.Idx → Elt F .f32) :
    (rd0 O B A2 A15 A19 A20 c).fetched 8 t d = A15 c := by
  funext x
  refine (fill_at (cfg0.win 8) (cfg0.grid.coords t) d _ x (fun a => (x a).isLt)).trans ?_
  refine (congrArg (A15 c) (funext fun a => Fin.ext ?_) : _ = A15 c x)
  match a with
  | 0 => show 0 * 256 + 1 * (x 0).val = (x 0).val; omega
  | 1 => show 0 * 128 + 1 * (x 1).val = (x 1).val; omega

theorem entry_eq9 (c : Dev nD) (t : Fin grid0.N) (d : S1x128.Idx → Elt F .f32) :
    (rd0 O B A2 A15 A19 A20 c).fetched 9 t d = A19 c := by
  funext x
  refine (fill_at (cfg0.win 9) (cfg0.grid.coords t) d _ x (fun a => (x a).isLt)).trans ?_
  refine (congrArg (A19 c) (funext fun a => Fin.ext ?_) : _ = A19 c x)
  match a with
  | 0 => show 0 * 1 + 1 * (x 0).val = (x 0).val; omega
  | 1 => show 0 * 128 + 1 * (x 1).val = (x 1).val; omega

theorem finds8 (c : Dev nD) (t : Fin grid0.N) (X : S256x128.Idx → Elt F .f32) (h : (rd0 O B A2 A15 A19 A20 c).Finds 8 t X) : X = A15 c := by
  by_cases hf : (cfg0.win 8).fetch t = true
  · obtain ⟨d, e⟩ := ((rd0 O B A2 A15 A19 A20 c).finds_of_fetch hf X).mp h
    exact e.trans (entry_eq8 O B A2 A15 A19 A20 c t d)
  · have ht : t.val ≠ 0 := fun e => hf ((fetch0_8 t).mpr (by rw [e]))
    rcases ((rd0 O B A2 A15 A19 A20 c).finds_of_pos (by simpa using hf) ht X).mp h with h' | ⟨Y, -, h'⟩
    · exact absurd h' (by rw [Pipeline.Window.flush_in _ rfl]; exact Bool.false_ne_true)
    · exact h'

theorem finds9 (c : Dev nD) (t : Fin grid0.N) (X : S1x128.Idx → Elt F .f32) (h : (rd0 O B A2 A15 A19 A20 c).Finds 9 t X) : X = A19 c := by
  by_cases hf : (cfg0.win 9).fetch t = true
  · obtain ⟨d, e⟩ := ((rd0 O B A2 A15 A19 A20 c).finds_of_fetch hf X).mp h
    exact e.trans (entry_eq9 O B A2 A15 A19 A20 c t d)
  · have ht : t.val ≠ 0 := fun e => hf ((fetch0_9 t).mpr (by rw [e]))
    rcases ((rd0 O B A2 A15 A19 A20 c).finds_of_pos (by simpa using hf) ht X).mp h with h' | ⟨Y, -, h'⟩
    · exact absurd h' (by rw [Pipeline.Window.flush_in _ rfl]; exact Bool.false_ne_true)
    · exact h'

/-- Block `g` agrees with the transposed embedding. -/
def Block (A2 : Vec F S32x1000000 .f32) (t g : ℕ) (z : Vec F S32x8192 .f32) : Prop :=
  ∀ (x : S32x8192.Idx) (y : S32x1000000.Idx), (y 0).val = (x 0).val → (y 1).val = (t * 8 + g) * 8192 + (x 1).val → z x = A2 y

def eight (z0 z1 z2 z3 z4 z5 z6 z7 : Vec F S32x8192 .f32) : Fin 8 → Vec F S32x8192 .f32
  | 0 => z0 | 1 => z1 | 2 => z2 | 3 => z3 | 4 => z4 | 5 => z5 | 6 => z6 | 7 => z7

omit [FloatOps F] [∀ e, Nonempty (Elt F e)] in
theorem blocks_eight {A2 : Vec F S32x1000000 .f32} {t : ℕ} {z0 z1 z2 z3 z4 z5 z6 z7 : Vec F S32x8192 .f32}
    (h0 : Block A2 t 0 z0) (h1 : Block A2 t 1 z1) (h2 : Block A2 t 2 z2) (h3 : Block A2 t 3 z3) (h4 : Block A2 t 4 z4) (h5 : Block A2 t 5 z5)
    (h6 : Block A2 t 6 z6) (h7 : Block A2 t 7 z7) : Blocks A2 t (eight z0 z1 z2 z3 z4 z5 z6 z7)
  | 0 => h0 | 1 => h1 | 2 => h2 | 3 => h3 | 4 => h4 | 5 => h5 | 6 => h6 | 7 => h7

theorem finds_0 (c : Dev nD) (t : Fin grid0.N) (X : S32x8192.Idx → Elt F .f32) (h : (rd0 O B A2 A15 A19 A20 c).Finds 0 t X) : Block (A2 c) t.val 0 X := by
  intro x y e0 e1
  obtain ⟨d, e⟩ := ((rd0 O B A2 A15 A19 A20 c).finds_of_fetch (fetch0_0 t) X).mp h
  exact (congrFun e x).trans (fetch_cut cc0_transform_0 reads0_0 stage0_0 sem0_0 hrank0 hreads0_0 hstart0_0 nbuf0_0 hwx0_0 hwxs0_0 hstage0_0 t _ rfl (blockOf0 t) (A2 c) x y e0 e1 d)

theorem finds_1 (c : Dev nD) (t : Fin grid0.N) (X : S32x8192.Idx → Elt F .f32) (h : (rd0 O B A2 A15 A19 A20 c).Finds 1 t X) : Block (A2 c) t.val 1 X := by
  intro x y e0 e1
  obtain ⟨d, e⟩ := ((rd0 O B A2 A15 A19 A20 c).finds_of_fetch (fetch0_1 t) X).mp h
  exact (congrFun e x).trans (fetch_cut cc0_transform_1 reads0_1 stage0_1 sem0_1 hrank0 hreads0_1 hstart0_1 nbuf0_1 hwx0_1 hwxs0_1 hstage0_1 t _ rfl (blockOf1 t) (A2 c) x y e0 e1 d)

theorem finds_2 (c : Dev nD) (t : Fin grid0.N) (X : S32x8192.Idx → Elt F .f32) (h : (rd0 O B A2 A15 A19 A20 c).Finds 2 t X) : Block (A2 c) t.val 2 X := by
  intro x y e0 e1
  obtain ⟨d, e⟩ := ((rd0 O B A2 A15 A19 A20 c).finds_of_fetch (fetch0_2 t) X).mp h
  exact (congrFun e x).trans (fetch_cut cc0_transform_2 reads0_2 stage0_2 sem0_2 hrank0 hreads0_2 hstart0_2 nbuf0_2 hwx0_2 hwxs0_2 hstage0_2 t _ rfl (blockOf2 t) (A2 c) x y e0 e1 d)

theorem finds_3 (c : Dev nD) (t : Fin grid0.N) (X : S32x8192.Idx → Elt F .f32) (h : (rd0 O B A2 A15 A19 A20 c).Finds 3 t X) : Block (A2 c) t.val 3 X := by
  intro x y e0 e1
  obtain ⟨d, e⟩ := ((rd0 O B A2 A15 A19 A20 c).finds_of_fetch (fetch0_3 t) X).mp h
  exact (congrFun e x).trans (fetch_cut cc0_transform_3 reads0_3 stage0_3 sem0_3 hrank0 hreads0_3 hstart0_3 nbuf0_3 hwx0_3 hwxs0_3 hstage0_3 t _ rfl (blockOf3 t) (A2 c) x y e0 e1 d)

theorem finds_4 (c : Dev nD) (t : Fin grid0.N) (X : S32x8192.Idx → Elt F .f32) (h : (rd0 O B A2 A15 A19 A20 c).Finds 4 t X) : Block (A2 c) t.val 4 X := by
  intro x y e0 e1
  obtain ⟨d, e⟩ := ((rd0 O B A2 A15 A19 A20 c).finds_of_fetch (fetch0_4 t) X).mp h
  exact (congrFun e x).trans (fetch_cut cc0_transform_4 reads0_4 stage0_4 sem0_4 hrank0 hreads0_4 hstart0_4 nbuf0_4 hwx0_4 hwxs0_4 hstage0_4 t _ rfl (blockOf4 t) (A2 c) x y e0 e1 d)

theorem finds_5 (c : Dev nD) (t : Fin grid0.N) (X : S32x8192.Idx → Elt F .f32) (h : (rd0 O B A2 A15 A19 A20 c).Finds 5 t X) : Block (A2 c) t.val 5 X := by
  intro x y e0 e1
  obtain ⟨d, e⟩ := ((rd0 O B A2 A15 A19 A20 c).finds_of_fetch (fetch0_5 t) X).mp h
  exact (congrFun e x).trans (fetch_cut cc0_transform_5 reads0_5 stage0_5 sem0_5 hrank0 hreads0_5 hstart0_5 nbuf0_5 hwx0_5 hwxs0_5 hstage0_5 t _ rfl (blockOf5 t) (A2 c) x y e0 e1 d)

theorem finds_6 (c : Dev nD) (t : Fin grid0.N) (X : S32x8192.Idx → Elt F .f32) (h : (rd0 O B A2 A15 A19 A20 c).Finds 6 t X) : Block (A2 c) t.val 6 X := by
  intro x y e0 e1
  obtain ⟨d, e⟩ := ((rd0 O B A2 A15 A19 A20 c).finds_of_fetch (fetch0_6 t) X).mp h
  exact (congrFun e x).trans (fetch_cut cc0_transform_6 reads0_6 stage0_6 sem0_6 hrank0 hreads0_6 hstart0_6 nbuf0_6 hwx0_6 hwxs0_6 hstage0_6 t _ rfl (blockOf6 t) (A2 c) x y e0 e1 d)

theorem finds_7 (c : Dev nD) (t : Fin grid0.N) (X : S32x8192.Idx → Elt F .f32) (h : (rd0 O B A2 A15 A19 A20 c).Finds 7 t X) : Block (A2 c) t.val 7 X := by
  intro x y e0 e1
  obtain ⟨d, e⟩ := ((rd0 O B A2 A15 A19 A20 c).finds_of_fetch (fetch0_7 t) X).mp h
  exact (congrFun e x).trans (fetch_cut cc0_transform_7 reads0_7 stage0_7 sem0_7 hrank0 hreads0_7 hstart0_7 nbuf0_7 hwx0_7 hwxs0_7 hstage0_7 t _ rfl (blockOf7 t) (A2 c) x y e0 e1 d)

theorem project_body (c : Dev nD) : (rd0 O B A2 A15 A19 A20 c).BodyObligation (defs₀ (F := F)) 𝒱₀ none Set.univ := by
  intro t Y hY
  have hB : Blocks (A2 c) t.val (eight (Y 0) (Y 1) (Y 2) (Y 3) (Y 4) (Y 5) (Y 6) (Y 7)) := blocks_eight (finds_0 O B A2 A15 A19 A20 c t (Y 0) (hY 0)) (finds_1 O B A2 A15 A19 A20 c t (Y 1) (hY 1)) (finds_2 O B A2 A15 A19 A20 c t (Y 2) (hY 2)) (finds_3 O B A2 A15 A19 A20 c t (Y 3) (hY 3)) (finds_4 O B A2 A15 A19 A20 c t (Y 4) (hY 4)) (finds_5 O B A2 A15 A19 A20 c t (Y 5) (hY 5)) (finds_6 O B A2 A15 A19 A20 c t (Y 6) (hY 6)) (finds_7 O B A2 A15 A19 A20 c t (Y 7) (hY 7))
  have h8 := finds8 O B A2 A15 A19 A20 c t (Y 8) (hY 8)
  have h9 := finds9 O B A2 A15 A19 A20 c t (Y 9) (hY 9)
  have hP : leaves0 A2 A15 A19 c 10 t (Y 10) (k0_pay1 (Y 0) (Y 1) (Y 2) (Y 3) (Y 4) (Y 5) (Y 6) (Y 7) (Y 8) (Y 9)) :=
    ⟨_, hB, by rw [h8, h9]; rfl⟩
  have hΦ : (rd0 O B A2 A15 A19 A20 c).Φ t.castSucc ⊢ (rd0 O B A2 A15 A19 A20 c).Φ t.succ := BIBase.Entails.rfl
  have hO : (rd0 O B A2 A15 A19 A20 c).owesAt none t.castSucc ⊢ (rd0 O B A2 A15 A19 A20 c).owesAt none t.succ := BIBase.Entails.rfl
  rw [bigSep_W0, bigSep_W0]
  show _ ⊢ wp frame (wpE (defs₀ (F := F)) 𝒱₀ (c : Thread nD τ) none) Set.univ (bodyAt0 t) _
  iintro ⟨HΦ, HO, H0, H1, H2, H3, H4, H5, H6, H7, H8, H9, H10⟩
  iapply (project_run c _ _ _ _ _ _ _ _ _ _ _ _ _ _ _ _ _ _ _ _ _ _ _ (Y 0) (Y 1) (Y 2) (Y 3) (Y 4) (Y 5) (Y 6) (Y 7) (Y 8) (Y 9) (Y 10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iapply hΦ; iexact HΦ
  isplitl [HO]; · iapply hO; iexact HO
  isplitl [H0]; · iexists _; isplitr; swap; · iexact H0
                  ipureintro; exact trivial
  isplitl [H1]; · iexists _; isplitr; swap; · iexact H1
                  ipureintro; exact trivial
  isplitl [H2]; · iexists _; isplitr; swap; · iexact H2
                  ipureintro; exact trivial
  isplitl [H3]; · iexists _; isplitr; swap; · iexact H3
                  ipureintro; exact trivial
  isplitl [H4]; · iexists _; isplitr; swap; · iexact H4
                  ipureintro; exact trivial
  isplitl [H5]; · iexists _; isplitr; swap; · iexact H5
                  ipureintro; exact trivial
  isplitl [H6]; · iexists _; isplitr; swap; · iexact H6
                  ipureintro; exact trivial
  isplitl [H7]; · iexists _; isplitr; swap; · iexact H7
                  ipureintro; exact trivial
  isplitl [H8]; · iexists _; isplitr; swap; · iexact H8
                  ipureintro; exact h8
  isplitl [H9]; · iexists _; isplitr; swap; · iexact H9
                  ipureintro; exact h9
  iexists _; isplitr; swap; · iexact H10
  ipureintro; exact hP

/-! ## The call as a region of the host program -/

abbrev adm : (p : Fin 2) → (pcfgs (F := F) p).Adm := fun p => (cfgs p).toPCfg_adm

instance : (EP : Emb UP (MM F)).LandsIn (upEmb : UEmb _ _) := by unfold EP; infer_instance

/-- What the host thread owes across a call, its recorded waits at or below `B`. -/
def owing (c : Dev nD) : sProp 𝕄 :=
  iprop(∃ W, ⌜(K (F := F)).WBelow (SparseCore.T c) W B⌝ ∗ owes (SparseCore.T c) (O c) W)

/-- What the packed table holds when the call is over. -/
def packedTable (c : Dev nD) : sProp 𝕄 :=
  iprop(∃ G : Vec F S131072x128 .f32, ⌜∀ j, Packed (A2 c) (A15 c) (A19 c) j (G j)⌝ ∗ tLoc c ↦[Finset.univ]{fullShare} G)

theorem covers10 : (cfg0.win 10).Covers := by decide +kernel

/-- An array the write-backs cover: each entry is the matching one of some contents the body may have left. -/
theorem arrAt_entry {cfg : Pipeline.Cfg sig Λ₀} {c : Dev nD} (rd : RDat τ (Elt F) (HIx 1) ℕ UU ℕ cfg c) (w : Fin cfg.W)
    (G : Buf (Elt F) ((cfg.win w).arr.view.loc (c.tc : Thread nD τ))) (h : rd.ArrAt w cfg.N G) (hcov : (cfg.win w).Covers)
    (harr : (cfg.win w).arr.IsWhole)
    (P : ((cfg.win w).arr.view.loc (c.tc : Thread nD τ)).2.ty.Idx → Elt F ((cfg.win w).arr.view.loc (c.tc : Thread nD τ)).2.ty.elt → Prop)
    (hP : ∀ t X, rd.Leaves w t X → ∀ y : ((cfg.win w).xblock (cfg.grid.coords t)).Idx, P (((cfg.win w).blk t).view.emb y)
      (_root_.cast (congrArg (Elt F) ((cfg.win w).blk t).view.elt_eq.symm) (X ((cfg.win w).xinj (cfg.grid.coords t) y))))
    (i : ((cfg.win w).arr.view.loc (c.tc : Thread nD τ)).2.ty.Idx) : P i (G i) := by
  obtain ⟨X, hX, hA⟩ := h.exists_exact
  have e := hA (Function.update (fun _ _ _ => Classical.arbitrary _) w X) fun u _ _ => by rw [Function.update_self]
  rw [e]
  refine Pipeline.Dat.arrAt_forall_of_covers _ w P hcov (fun t hf y => ?_) i harr
  rw [Pipeline.RDat.withAfter_after, Function.update_self]
  exact hP t _ (hX t t.isLt hf) y

theorem packed_point (c : Dev nD) (t : Fin grid0.N) (X : S8192x128.Idx → Elt F .f32) (h : (rd0 O B A2 A15 A19 A20 c).Leaves 10 t X)
    (y : S8192x128.Idx) (j : S131072x128.Idx) (r0 : (j 0).val = t.val * 8192 + (y 0).val) (r1 : (j 1).val = (y 1).val) :
    Packed (A2 c) (A15 c) (A19 c) j (X y) := by
  obtain ⟨Y, -, Z, hZ, eX⟩ := h
  have hy0 : (y 0).val < 8192 := (y 0).isLt
  refine ⟨Z, ?_, fun x e0 e1 => ?_⟩
  · rw [r0, show (t.val * 8192 + (y 0).val) / 8192 = t.val by omega]; exact hZ
  · rw [r0, show (t.val * 8192 + (y 0).val) % 8192 = (y 0).val by omega] at e0
    rw [r1] at e1
    refine (congrFun eX _).trans (congrArg (packed Z (A15 c) (A19 c)) (funext fun a => Fin.ext ?_))
    match a with
    | 0 => exact e0.symm
    | 1 => exact e1.symm

theorem packed_of_arrAt (c : Dev nD) (G : Vec F S131072x128 .f32) (h : (rd0 O B A2 A15 A19 A20 c).ArrAt 10 cfg0.N G) (j : S131072x128.Idx) :
    Packed (A2 c) (A15 c) (A19 c) j (G j) :=
  arrAt_entry (rd0 O B A2 A15 A19 A20 c) 10 G h covers10 (arr_whole0 10) (fun j v => Packed (A2 c) (A15 c) (A19 c) j v)
    (fun t X hX y => packed_point O B A2 A15 A19 A20 c t X hX y _
      (by show cc0_transform_10 (grid0.coords t) 0 * 8192 + 1 * (y 0).val = _; rw [ix10]; omega)
      (by show 0 * 128 + 1 * (y 1).val = _; omega)) j

theorem table_of_arraysAt (c : Dev nD) : (rd0 O B A2 A15 A19 A20 c).arraysAt cfg0.N ⊢ packedTable A2 A15 A19 c := by
  unfold Pipeline.RDat.arraysAt
  refine (show _ ⊢ (iprop(∃ G : Vec F S131072x128 .f32, ⌜(rd0 O B A2 A15 A19 A20 c).ArrAt 10 cfg0.N G⌝
      ∗ tLoc c ↦[(cfg0.win 10).arr.view.set]{fullShare} G) : sProp (MM F)) from bigSep_elim (Finset.mem_univ (10 : Fin 11))).trans ?_
  rw [(arr_whole0 10).set_eq_univ]
  unfold packedTable
  iintro ⟨%G, %hG, HG⟩
  iexists G
  isplitr; · ipureintro; exact packed_of_arrAt O B A2 A15 A19 A20 c G hG
  iexact HG

abbrev rds0 (p : Fin 2) (c : Dev nD) : RDat τ (Elt F) (HIx 1) ℕ UU ℕ (Pipeline.pin (pcfgs (F := F)) adm p) c :=
  Pipeline.RDat.familyOf pcfgs adm (0 : Fin 2) (rd0 O B A2 A15 A19 A20) p c

theorem rds0_zero : rds0 O B A2 A15 A19 A20 0 = rd0 O B A2 A15 A19 A20 := funext fun c => Pipeline.RDat.familyOf_self _ _ _ _ c

def region0 (hO : ∀ c g, O c g none = 0) :
    Pipeline.RDat.RegionSeg (pcfgs (F := F)) adm (rds0 O B A2 A15 A19 A20) none defs₀ 𝒱₀ (K (F := F)).L (K (F := F)).lev 0 where
  win := winFacts₀0
  block_pos := block_pos0
  stage_whole := stage_whole0
  K := PEmpty
  osem k := k.elim
  ho := Pipeline.OwnSemFacts.none _
  hbody c := by rw [rds0_zero]; exact project_body O B A2 A15 A19 A20 c
  hwaits c := Pipeline.RDat.cellsWaits_intro _ _ none 0 c fun w s t => by
    rw [rds0_zero]; exact (K (F := F)).mayWait_none _ (hO c)
  pre c := iprop((rd0 O B A2 A15 A19 A20 c).arrays (entry0 A2 A15 A19 A20 c) ∗ owing O B c)
  post c := iprop(packedTable A2 A15 A19 c ∗ owing O B c)
  X _ := iprop(emp)
  Y _ := iprop(emp)
  Z _ := iprop(emp)
  hentry c := by
    rw [Pipeline.ownSems0_none, Pipeline.prefHeld_of_none _ rfl, rds0_zero]
    iintro ⟨⟨Ha, HO⟩, -, -⟩
    imodintro
    isplitl [Ha]; · iexact Ha
    isplitr; · iempintro
    isplitl [HO]
    · unfold owing
      icases HO with ⟨%W, %hW, HO⟩
      iexists W; isplitr; · ipureintro; exact fun p hp => Or.inl (hW p hp)
      iexact HO
    isplitr <;> iempintro
  hin c := by
    rw [rds0_zero]
    have h : Pipeline.scopedRest spec0 c ⊢ (rd0 O B A2 A15 A19 A20 c).Φ 0 := BIBase.Entails.rfl
    iintro ⟨-, -, Hr⟩
    iapply h
    iexact Hr
  hout c := by
    rw [rds0_zero, Pipeline.ownSems0_none]
    refine (show (rd0 O B A2 A15 A19 A20 c).Φ (Fin.last cfg0.N) ⊢ Pipeline.scopedRest spec0 c from BIBase.Entails.rfl).trans ?_
    iintro Hr
    isplitr; · iempintro
    isplitr; · iempintro
    iexact Hr
  hexit c := by
    rw [rds0_zero]
    iintro ⟨Ha, HO, -, -⟩
    imodintro
    isplitl [Ha]; · iapply (table_of_arraysAt O B A2 A15 A19 A20 c); iexact Ha
    · unfold owing
      icases HO with ⟨%W, %hW, HO⟩
      iexists W
      isplitr
      · ipureintro
        intro p hp
        rcases hW hp with h | ⟨w, s, rfl⟩
        · exact h
        · exact Nat.zero_le _
      iexact HO

/-- The first call: from the eight shares of the embedding and the other arrays to the packed table. -/
theorem project_call (hO : ∀ c g, O c g none = 0) (c : Dev nD) {α : Type}
    (k : PUnit → Prog (TpuEff nD τ sig (Elt F) (ΛP (F := F)) .tc) α) (Q : α → sProp 𝕄) :
    iprop((iprop(boundary (c.tc : Thread nD τ) ∗ packedTable A2 A15 A19 c ∗ owing O B c) -∗ wp frame (wpE (D (F := F)) 𝒱 (c.tc : Thread nD τ) none) Set.univ (k ⟨⟩) Q)
        ∗ boundary (c.tc : Thread nD τ) ∗ ((rd0 O B A2 A15 A19 A20 c).arrays (entry0 A2 A15 A19 A20 c) ∗ owing O B c)
        ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) k) Q :=
  Pipeline.RDat.RegionSeg.wp pcfgs adm (rds0 O B A2 A15 A19 A20) none cellOf_inj EP defs₀ 𝒱₀ (K (F := F)).L (K (F := F)).lev
    (region0 O B A2 A15 A19 A20 hO) c none (fun _ h => nomatch h) k Q

end Cert.Proof.Token

end
-- ==== Proof.Sample.lean ====
/-
  The second pipelined call: two thousand and forty-eight wide rows at a time, each with the index it was gathered for, to
  the three sampled tokens of each row. Nothing is cut here, so the tokens are a function of the rows and the indices.
-/
module

public import proofs.«01_k».proof.Proof.Project

@[expose] public section

set_option maxRecDepth 16384

noncomputable section

namespace Cert.Proof.Token

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat RDat)

variable {F : FTy → Type} [FloatOps F] [∀ e, Nonempty (Elt F e)]

local notation "𝕄" => MM F

/-! ## The body's value -/

/-- The two words of the generator at the lanes of block `a`. -/
def words31 (a : BitVec 32) : IVec S1024x96 32 × IVec S1024x96 32 := (k2_pay19 (k2_pay8 a) (k2_pay9 a), k2_pay20 (k2_pay8 a) (k2_pay9 a))
def words76 (a : BitVec 32) : IVec S1024x96 32 × IVec S1024x96 32 := (k2_pay31 (words31 a).1 (words31 a).2, k2_pay32 (words31 a).1 (words31 a).2)
def wordA (a : BitVec 32) : IVec S1024x96 32 := k2_pay43 (words76 a).1 (words76 a).2 k2_pay33
def wordB (a : BitVec 32) : IVec S1024x96 32 := k2_pay44 (words76 a).1 (words76 a).2 k2_pay33

/-- The tokens of one block, from its rows' logarithms. -/
def drawn (a : BitVec 32) (l : FVec F S2048x16 .f32) : IVec S2048x3 32 :=
  k2_pay1 (k2_pay46 (F := F)) (k2_pay49 (k2_pay46 (F := F)) (k2_pay47 l (wordA a) (wordB a)) (k2_pay48 (F := F)))
    (k2_pay50 (k2_pay45 l (wordA a) (wordB a)) (k2_pay46 (F := F))) (k2_pay51 (k2_pay45 l (wordA a) (wordB a)) (k2_pay46 (F := F)))
    (k2_pay52 (k2_pay45 l (wordA a) (wordB a)) (k2_pay46 (F := F))) (k2_pay53 (k2_pay45 l (wordA a) (wordB a)) (k2_pay46 (F := F)))
    (k2_pay54 (k2_pay45 l (wordA a) (wordB a))) (k2_pay55 (k2_pay45 l (wordA a) (wordB a)))

/-- From a block of rows and their indices, the body leaves the block's tokens. -/
theorem sample_run (c : Dev nD) (i : grid2.Coords)
    (a1 : Memref sig .tc .vmem S2048x128 .f32) (h1 : a1.IsWhole) (a2 : Memref sig .tc .vmem S2048x1 .i32) (h2 : a2.IsWhole)
    (a3 : Memref sig .tc .vmem S2048x3 .i32) (h3 : a3.IsWhole)
    (z : Vec F S2048x128 .f32) (x : Vec F S2048x1 .i32) (o : Vec F S2048x3 .i32) (Q : PUnit → sProp 𝕄) :
    iprop(owns (c : Thread nD τ) a1 fullShare z ∗ owns (c : Thread nD τ) a2 fullShare x ∗ owns (c : Thread nD τ) a3 fullShare o
        ∗ (iprop(owns (c : Thread nD τ) a1 fullShare z ∗ owns (c : Thread nD τ) a2 fullShare x
            ∗ owns (c : Thread nD τ) a3 fullShare (drawn (BitVec.ofNat 32 (i 0).val) (k2_pay2 z x))) -∗ Q ⟨⟩))
      ⊢ wp frame (wpE (defs₀ (F := F)) 𝒱₀ (c : Thread nD τ) none) Set.univ (cc2__sample_body i a1 h1 a2 h2 a3 h3) Q := by
  rw [cc2__sample_body_eq_skeleton]; unfold cc2__sample_body_skel
  rw [k2_part1_eq_skeleton, k2_part2_eq_skeleton, k2_part3_eq_skeleton, k2_part4_eq_skeleton, k2_part5_eq_skeleton, k2_part6_eq_skeleton,
    k2_part7_eq_skeleton]
  unfold k2_part1_skel k2_part2_skel k2_part3_skel k2_part4_skel k2_part5_skel k2_part6_skel k2_part7_skel
  unfold owns
  iintro ⟨⟨%f1, %e1, H1⟩, ⟨%f2, %e2, H2⟩, ⟨%f3, %e3, H3⟩, Hk⟩
  sl_exec
  sl_step
  iapply Hk
  isplitl [H1]; · iexists _; isplitr; swap; · iexact H1
                  ipureintro; exact e1
  isplitl [H2]; · iexists _; isplitr; swap; · iexact H2
                  ipureintro; exact e2
  iexists _; isplitr; swap; · iexact H3
  ipureintro
  subst e1 e2
  refine (read_writes_full a3.view zeros2 _ f3 _).trans ?_
  refine (show _ = drawn (BitVec.ofNat 32 (i 0).val) (k2_pay2
    (View.readAt (Elt F) a1.view (Rect.unit ![0, 0] S2048x128.size inb_S2048x128_S2048x128_0_0).toLoadRect f1)
    (View.readAt (Elt F) a2.view (Rect.unit ![0, 0] S2048x1.size inb_S2048x1_S2048x1_0_0).toLoadRect f2)) from rfl).trans ?_
  exact congrArg (drawn (BitVec.ofNat 32 (i 0).val)) (congr (congrArg k2_pay2 (readAt_full a1.view zeros2 _ f1)) (readAt_full a2.view zeros2 _ f2))

/-! ## The call's data -/

/-- An index of a matrix. -/
def pair {n m : ℕ} (i : Fin n) (j : Fin m) : (⟨2, ![n, m]⟩ : Shape).Idx
  | 0 => i
  | 1 => j

/-- Block `t` of an array of sixteen thousand rows. -/
def rows {m : ℕ} {α : Type} (A : (⟨2, ![16384, m]⟩ : Shape).Idx → α) (t : Fin 8) : (⟨2, ![2048, m]⟩ : Shape).Idx → α :=
  fun x => A (pair ⟨t.val * 2048 + (x 0).val, by have := (x 0).isLt; have := t.isLt; simp at *; omega⟩ (x 1))

/-- The tokens of block `t`. -/
def tokensBlock (W : Vec F S16384x128 .f32) (I : Vec F S16384x1 .i32) (t : Fin 8) : Vec F S2048x3 .i32 :=
  drawn (BitVec.ofNat 32 t.val) (k2_pay2 (F := F) (rows W t) (rows I t))

/-- All tokens. -/
def tokens (W : Vec F S16384x128 .f32) (I : Vec F S16384x1 .i32) : Vec F S16384x3 .i32 :=
  fun j => tokensBlock W I ⟨(j 0).val / 2048, by have := (j 0).isLt; simp at *; omega⟩ (pair ⟨(j 0).val % 2048, by omega⟩ (j 1))

variable (O : Dev nD → CellTallies nD τ sig (HIx 1)) (B : ℕ)
variable (W : Dev nD → Vec F S16384x128 .f32) (I : Dev nD → Vec F S16384x1 .i32) (R : Dev nD → Vec F S16384x3 .i32)

def entry2 (c : Dev nD) : (w : Fin 3) → Buf (Elt F) ((cfg2.win w).arr.view.loc (c.tc : Thread nD τ))
  | 0 => W c | 1 => I c | 2 => R c | ⟨_ + 3, h⟩ => absurd h (Nat.not_lt.2 (Nat.le_add_left _ _))

def leaves2 (c : Dev nD) : (w : Fin 3) → Fin grid2.N → (Y X : (cfg2.win w).block.Idx → Elt F (cfg2.win w).elt) → Prop
  | 0 => fun _ _ _ => True | 1 => fun _ _ _ => True
  | 2 => fun t _ X => X = tokensBlock (W c) (I c) (t.cast N_2)
  | ⟨_ + 3, h⟩ => absurd h (Nat.not_lt.2 (Nat.le_add_left _ _))

def rd2 (c : Dev nD) : RDat τ (Elt F) (HIx 1) ℕ UU ℕ cfg2 c where
  A := entry2 W I R c
  after := leaves2 W I c
  Φ := fun _ => Pipeline.scopedRest spec2 c
  q := fun _ => fullShare
  owed := fun _ => O c
  recorded := fun _ => {p | (K (F := F)).lev ((c : Thread nD τ), p.1) p.2 ≤ B}

theorem at2_0 : ∀ t : Fin grid2.N, cc2_transform_0 (grid2.coords t) 0 = t.val := by decide +kernel
theorem at2_1 : ∀ t : Fin grid2.N, cc2_transform_1 (grid2.coords t) 0 = t.val := by decide +kernel
theorem at2_2 : ∀ t : Fin grid2.N, cc2_transform_2 (grid2.coords t) 0 = t.val := by decide +kernel
theorem coord2 : ∀ t : Fin grid2.N, (grid2.coords t 0).val = t.val := by decide +kernel

theorem finds2_0 (c : Dev nD) (t : Fin grid2.N) (X : S2048x128.Idx → Elt F .f32) (h : (rd2 O B W I R c).Finds 0 t X) :
    X = rows (W c) (t.cast N_2) := by
  obtain ⟨d, e⟩ := ((rd2 O B W I R c).finds_of_fetch (fetch2_0 t) X).mp h
  funext x
  refine (congrFun e x).trans ((fill_at (cfg2.win 0) (cfg2.grid.coords t) d _ x (fun a => (x a).isLt)).trans ?_)
  refine (congrArg (W c) (funext fun a => Fin.ext ?_) : _ = rows (W c) (t.cast N_2) x)
  match a with
  | 0 => show cc2_transform_0 (grid2.coords t) 0 * 2048 + 1 * (x 0).val = t.val * 2048 + (x 0).val; rw [at2_0]; omega
  | 1 => show 0 * 128 + 1 * (x 1).val = (x 1).val; omega

theorem finds2_1 (c : Dev nD) (t : Fin grid2.N) (X : S2048x1.Idx → Elt F .i32) (h : (rd2 O B W I R c).Finds 1 t X) :
    X = rows (I c) (t.cast N_2) := by
  obtain ⟨d, e⟩ := ((rd2 O B W I R c).finds_of_fetch (fetch2_1 t) X).mp h
  funext x
  refine (congrFun e x).trans ((fill_at (cfg2.win 1) (cfg2.grid.coords t) d _ x (fun a => (x a).isLt)).trans ?_)
  refine (congrArg (I c) (funext fun a => Fin.ext ?_) : _ = rows (I c) (t.cast N_2) x)
  match a with
  | 0 => show cc2_transform_1 (grid2.coords t) 0 * 2048 + 1 * (x 0).val = t.val * 2048 + (x 0).val; rw [at2_1]; omega
  | 1 => show 0 * 1 + 1 * (x 1).val = (x 1).val; omega

theorem sample_body (c : Dev nD) : (rd2 O B W I R c).BodyObligation (defs₀ (F := F)) 𝒱₀ none Set.univ := by
  intro t Y hY
  have h0 := finds2_0 O B W I R c t (Y 0) (hY 0)
  have h1 := finds2_1 O B W I R c t (Y 1) (hY 1)
  have hP : leaves2 W I c 2 t (Y 2) (drawn (BitVec.ofNat 32 (grid2.coords t 0).val) (k2_pay2 (F := F) (Y 0) (Y 1))) := by
    rw [coord2, h0, h1]; rfl
  have hΦ : (rd2 O B W I R c).Φ t.castSucc ⊢ (rd2 O B W I R c).Φ t.succ := BIBase.Entails.rfl
  have hO : (rd2 O B W I R c).owesAt none t.castSucc ⊢ (rd2 O B W I R c).owesAt none t.succ := BIBase.Entails.rfl
  rw [bigSep_W2, bigSep_W2]
  show _ ⊢ wp frame (wpE (defs₀ (F := F)) 𝒱₀ (c : Thread nD τ) none) Set.univ (bodyAt2 t) _
  iintro ⟨HΦ, HO, H0, H1, H2⟩
  iapply (sample_run c _ _ _ _ _ _ _ (Y 0) (Y 1) (Y 2) _)
  isplitl [H0]; · iexact H0
  isplitl [H1]; · iexact H1
  isplitl [H2]; · iexact H2
  iintro ⟨H0, H1, H2⟩
  isplitl [HΦ]; · iapply hΦ; iexact HΦ
  isplitl [HO]; · iapply hO; iexact HO
  isplitl [H0]; · iexists _; isplitr; swap; · iexact H0
                  ipureintro; exact trivial
  isplitl [H1]; · iexists _; isplitr; swap; · iexact H1
                  ipureintro; exact trivial
  iexists _; isplitr; swap; · iexact H2
  ipureintro; exact hP

/-! ## The call as a region of the host program -/

theorem covers2 : (cfg2.win 2).Covers := by decide +kernel

theorem tokens_point (c : Dev nD) (t : Fin grid2.N) (X : S2048x3.Idx → Elt F .i32) (h : (rd2 O B W I R c).Leaves 2 t X)
    (y : S2048x3.Idx) (j : S16384x3.Idx) (r0 : (j 0).val = t.val * 2048 + (y 0).val) (r1 : (j 1).val = (y 1).val) :
    X y = tokens (W c) (I c) j := by
  obtain ⟨Y, -, eX⟩ := h
  have hy0 : (y 0).val < 2048 := (y 0).isLt
  refine (congrFun eX y).trans ?_
  unfold tokens
  refine congr (congrArg (tokensBlock (W c) (I c)) (Fin.ext (?_ : t.val = (j 0).val / 2048))) ?_
  · omega
  · funext a
    match a with
    | 0 => exact Fin.ext (by show (y 0).val = (j 0).val % 2048; omega)
    | 1 => exact Fin.ext r1.symm

theorem tokens_of_arrAt (c : Dev nD) (G : Vec F S16384x3 .i32) (h : (rd2 O B W I R c).ArrAt 2 cfg2.N G) : G = tokens (W c) (I c) :=
  funext fun j => arrAt_entry (rd2 O B W I R c) 2 G h covers2 (arr_whole2 2) (fun j v => v = tokens (W c) (I c) j)
    (fun t X hX y => tokens_point O B W I R c t X hX y _
      (by show cc2_transform_2 (grid2.coords t) 0 * 2048 + 1 * (y 0).val = _; rw [at2_2]; omega)
      (by show 0 * 3 + 1 * (y 1).val = _; omega)) j

abbrev rLoc (d : Dev nD) : Loc nD τ sig := (SparseCore.T d).loc main_v23

theorem tokens_of_arraysAt (c : Dev nD) :
    (rd2 O B W I R c).arraysAt cfg2.N ⊢ (rLoc c ↦[Finset.univ]{fullShare} tokens (W c) (I c) : sProp 𝕄) := by
  unfold Pipeline.RDat.arraysAt
  refine (show _ ⊢ (iprop(∃ G : Vec F S16384x3 .i32, ⌜(rd2 O B W I R c).ArrAt 2 cfg2.N G⌝
      ∗ rLoc c ↦[(cfg2.win 2).arr.view.set]{fullShare} G) : sProp (MM F)) from bigSep_elim (Finset.mem_univ (2 : Fin 3))).trans ?_
  rw [(arr_whole2 2).set_eq_univ]
  iintro ⟨%G, %hG, HG⟩
  rw [← tokens_of_arrAt O B W I R c G hG]
  iexact HG

abbrev rds2 (p : Fin 2) (c : Dev nD) : RDat τ (Elt F) (HIx 1) ℕ UU ℕ (Pipeline.pin (pcfgs (F := F)) adm p) c :=
  Pipeline.RDat.familyOf pcfgs adm (1 : Fin 2) (rd2 O B W I R) p c

theorem rds2_one : rds2 O B W I R 1 = rd2 O B W I R := funext fun c => Pipeline.RDat.familyOf_self _ _ _ _ c

def region2 (hO : ∀ c g, O c g none = 0) :
    Pipeline.RDat.RegionSeg (pcfgs (F := F)) adm (rds2 O B W I R) none defs₀ 𝒱₀ (K (F := F)).L (K (F := F)).lev 1 where
  win := winFacts2.to₀
  block_pos := block_pos2
  stage_whole := stage_whole2
  K := PEmpty
  osem k := k.elim
  ho := Pipeline.OwnSemFacts.none _
  hbody c := by rw [rds2_one]; exact sample_body O B W I R c
  hwaits c := Pipeline.RDat.cellsWaits_intro _ _ none 1 c fun w s t => by
    rw [rds2_one]; exact (K (F := F)).mayWait_none _ (hO c)
  pre c := iprop((rd2 O B W I R c).arrays (entry2 W I R c) ∗ owing O B c)
  post c := iprop((rLoc c ↦[Finset.univ]{fullShare} tokens (W c) (I c)) ∗ owing O B c)
  X _ := iprop(emp)
  Y _ := iprop(emp)
  Z _ := iprop(emp)
  hentry c := by
    rw [Pipeline.ownSems0_none, Pipeline.prefHeld_of_none _ rfl, rds2_one]
    iintro ⟨⟨Ha, HO⟩, -, -⟩
    imodintro
    isplitl [Ha]; · iexact Ha
    isplitr; · iempintro
    isplitl [HO]
    · unfold owing
      icases HO with ⟨%W', %hW, HO⟩
      iexists W'; isplitr; · ipureintro; exact fun p hp => Or.inl (hW p hp)
      iexact HO
    isplitr <;> iempintro
  hin c := by
    rw [rds2_one]
    have h : Pipeline.scopedRest spec2 c ⊢ (rd2 O B W I R c).Φ 0 := BIBase.Entails.rfl
    iintro ⟨-, -, Hr⟩
    iapply h
    iexact Hr
  hout c := by
    rw [rds2_one, Pipeline.ownSems0_none]
    refine (show (rd2 O B W I R c).Φ (Fin.last cfg2.N) ⊢ Pipeline.scopedRest spec2 c from BIBase.Entails.rfl).trans ?_
    iintro Hr
    isplitr; · iempintro
    isplitr; · iempintro
    iexact Hr
  hexit c := by
    rw [rds2_one]
    iintro ⟨Ha, HO, -, -⟩
    imodintro
    isplitl [Ha]; · iapply (tokens_of_arraysAt O B W I R c); iexact Ha
    · unfold owing
      icases HO with ⟨%W', %hW, HO⟩
      iexists W'
      isplitr
      · ipureintro
        intro p hp
        rcases hW hp with h | ⟨w, s, rfl⟩
        · exact h
        · exact Nat.zero_le _
      iexact HO

/-- The second call: from the wide rows and their indices to the tokens. -/
theorem sample_call (hO : ∀ c g, O c g none = 0) (c : Dev nD) {α : Type}
    (k : PUnit → Prog (TpuEff nD τ sig (Elt F) (ΛP (F := F)) .tc) α) (Q : α → sProp 𝕄) :
    iprop((iprop(boundary (c.tc : Thread nD τ) ∗ (rLoc c ↦[Finset.univ]{fullShare} tokens (W c) (I c)) ∗ owing O B c)
            -∗ wp frame (wpE (D (F := F)) 𝒱 (c.tc : Thread nD τ) none) Set.univ (k ⟨⟩) Q)
        ∗ boundary (c.tc : Thread nD τ) ∗ ((rd2 O B W I R c).arrays (entry2 W I R c) ∗ owing O B c)
        ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE (D (F := F)) 𝒱 (c.tc : Thread nD τ) none) Set.univ (.op (.customCall (Pipeline.entry 1) ()) k) Q :=
  Pipeline.RDat.RegionSeg.wp pcfgs adm (rds2 O B W I R) none cellOf_inj EP defs₀ 𝒱₀ (K (F := F)).L (K (F := F)).lev
    (region2 O B W I R hO) c none (fun _ h => nomatch h) k Q

end Cert.Proof.Token

end
-- ==== Proof.Run.lean ====
/-
  The kernel's whole run: the host program on the TensorCore around its three calls, for any float values `F`. Host
  operations prepare the operands; the first call builds the packed table; the SparseCore call gathers one row of it per
  token index; the last call draws the tokens. `run_main` says what memory holds at the end: the arguments unchanged, and
  the result the tokens drawn from rows that are, row by row, the packed table's.
-/
module

public import proofs.«01_k».proof.Proof.Tile
public import proofs.«01_k».proof.Proof.Sample
public import Idealize.ShloMosaic.Lib.Pipeline.Frame

@[expose] public section

set_option maxRecDepth 16384

noncomputable section

namespace Cert.Proof.Token

open Cert.KernelIdeal Cert.KernelIdeal.Gen
open Idealize.ShloMosaic Idealize.ShloMosaic.TcCoe
open Idealize.ShloMosaic.SparseCore (S V T)
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat RDat)

variable {F : FTy → Type} [FloatOps F] [∀ e, Nonempty (Elt F e)]

local notation "𝕄" => MT nD τ sig (HIx 1) (Elt F) ℕ UU ℕ

/-! ## The host operations -/

/-- What the host computes before the first call. -/
def prep : List (HloOp τ sig (Elt F)) :=
  [ StableHlo.unary main_arg0 main_v0 ((extractStridedSlice S16384x1 ![0, 199] · slices_S16384x200_S16384x1_0_199) : (⟨S16384x200, .i32⟩ : BufTy).Contents (Elt F) → (⟨S16384x1, .i32⟩ : BufTy).Contents (Elt F)),
    StableHlo.reshape main_v0 main_v1 (rfl : (.i32 : EltTy) = .i32) shapeCasts_S16384x1_S16384,
    StableHlo.unary main_arg1 main_v2 ((transpose S32x1000000 [1, 0] · transposes_S1000000x32_S32x1000000_1_0) : (⟨S1000000x32, .f32⟩ : BufTy).Contents (Elt F) → (⟨S32x1000000, .f32⟩ : BufTy).Contents (Elt F)),
    StableHlo.nullary main_v3 (iotaInDim S8x8 32 0),
    StableHlo.nullary main_v4 (iotaInDim S8x8 32 1),
    StableHlo.nullary main_c (constantI S_ 32 0#32),
    StableHlo.unary main_c main_v5 (broadcastInDim S8x8 ![] bcast_S_S8x8 : (⟨S_, .i32⟩ : BufTy).Contents (Elt F) → (⟨S8x8, .i32⟩ : BufTy).Contents (Elt F)),
    StableHlo.binary main_v3 main_v5 main_v6 (addi : (⟨S8x8, .i32⟩ : BufTy).Contents (Elt F) → (⟨S8x8, .i32⟩ : BufTy).Contents (Elt F) → (⟨S8x8, .i32⟩ : BufTy).Contents (Elt F)),
    StableHlo.binary main_v6 main_v4 main_v7 (cmpi .eq : (⟨S8x8, .i32⟩ : BufTy).Contents (Elt F) → (⟨S8x8, .i32⟩ : BufTy).Contents (Elt F) → (⟨S8x8, .i1⟩ : BufTy).Contents (Elt F)),
    StableHlo.unary main_v7 main_v8 (uitofp .f32 : (⟨S8x8, .i1⟩ : BufTy).Contents (Elt F) → (⟨S8x8, .f32⟩ : BufTy).Contents (Elt F)),
    StableHlo.unary main_v8 main_v9 (broadcastInDim S8x1x8x1 ![0, 2] bcast_S8x8_S8x1x8x1_0_2 : (⟨S8x8, .f32⟩ : BufTy).Contents (Elt F) → (⟨S8x1x8x1, .f32⟩ : BufTy).Contents (Elt F)),
    StableHlo.unary main_arg2 main_v10 ((transpose S32x16 [1, 0] · transposes_S16x32_S32x16_1_0) : (⟨S16x32, .f32⟩ : BufTy).Contents (Elt F) → (⟨S32x16, .f32⟩ : BufTy).Contents (Elt F)),
    StableHlo.unary main_v10 main_v11 (broadcastInDim S1x32x1x16 ![1, 3] bcast_S32x16_S1x32x1x16_1_3 : (⟨S32x16, .f32⟩ : BufTy).Contents (Elt F) → (⟨S1x32x1x16, .f32⟩ : BufTy).Contents (Elt F)),
    StableHlo.unary main_v9 main_v12 (broadcastInDim S8x32x8x16 ![0, 1, 2, 3] bcast_S8x1x8x1_S8x32x8x16_0_1_2_3 : (⟨S8x1x8x1, .f32⟩ : BufTy).Contents (Elt F) → (⟨S8x32x8x16, .f32⟩ : BufTy).Contents (Elt F)),
    StableHlo.unary main_v11 main_v13 (broadcastInDim S8x32x8x16 ![0, 1, 2, 3] bcast_S1x32x1x16_S8x32x8x16_0_1_2_3 : (⟨S1x32x1x16, .f32⟩ : BufTy).Contents (Elt F) → (⟨S8x32x8x16, .f32⟩ : BufTy).Contents (Elt F)),
    StableHlo.binary main_v12 main_v13 main_v14 (mulf : (⟨S8x32x8x16, .f32⟩ : BufTy).Contents (Elt F) → (⟨S8x32x8x16, .f32⟩ : BufTy).Contents (Elt F) → (⟨S8x32x8x16, .f32⟩ : BufTy).Contents (Elt F)),
    StableHlo.reshape main_v14 main_v15 (rfl : (.f32 : EltTy) = .f32) shapeCasts_S8x32x8x16_S256x128,
    StableHlo.reshape main_arg3 main_v16 (rfl : (.f32 : EltTy) = .f32) shapeCasts_S16_S1x16,
    StableHlo.unary main_v16 main_v17 (broadcastInDim S8x16 ![0, 1] bcast_S1x16_S8x16_0_1 : (⟨S1x16, .f32⟩ : BufTy).Contents (Elt F) → (⟨S8x16, .f32⟩ : BufTy).Contents (Elt F)),
    StableHlo.reshape main_v17 main_v18 (rfl : (.f32 : EltTy) = .f32) shapeCasts_S8x16_S128,
    StableHlo.reshape main_v18 main_v19 (rfl : (.f32 : EltTy) = .f32) shapeCasts_S128_S1x128 ]

/-- The one operation between the SparseCore call and the last. -/
def column : HloOp τ sig (Elt F) :=
  StableHlo.unary main_v1 main_v22 (broadcastInDim S16384x1 ![0] bcast_S16384_S16384x1_0 : (⟨S16384, .i32⟩ : BufTy).Contents (Elt F) → (⟨S16384x1, .i32⟩ : BufTy).Contents (Elt F))

variable (m : (ℓ : Loc nD τ sig) → Buf (Elt F) ℓ) (ρ : Dev nD → PrngReg)

/-- The TensorCore's buffers when the first call starts. -/
abbrev hv (d : Dev nD) : Valuation τ sig (Elt F) := StableHlo.after (prep (F := F)) (StableHlo.launchContents m d)

/-- The token indices, the transposed embedding, the block-diagonal weights and the repeated bias, as the host leaves them. -/
abbrev ixOf (d : Dev nD) : Buf (Elt F) (iLoc d) := hv m d (Proc.devRef .tc main_v1)
abbrev embOf (d : Dev nD) : Vec F S32x1000000 .f32 := hv m d (Proc.devRef .tc main_v2)
abbrev wgtOf (d : Dev nD) : Vec F S256x128 .f32 := hv m d (Proc.devRef .tc main_v15)
abbrev biasOf (d : Dev nD) : Vec F S1x128 .f32 := hv m d (Proc.devRef .tc main_v19)
/-- The indices as a column. -/
abbrev colOf (d : Dev nD) : Vec F S16384x1 .i32 := broadcastInDim S16384x1 ![0] bcast_S16384_S16384x1_0 (ixOf m d)

/-- The tables the gather may read: those the first call can leave. -/
abbrev TabOf (d : Dev nD) (G : Buf (Elt F) (tLoc d)) : Prop := ∀ j, Packed (embOf m d) (wgtOf m d) (biasOf m d) j (G j)

abbrev PP : (K (F := F)).Pay (nD := nD) (Val := Elt F) (Name := ℕ) (U := UU) := Py (ixOf m) (TabOf m)

theorem main_eq (d : Dev nD) : main (F := F) d = (StableHlo.seq (prep (F := F)) >>= fun _ => do
    Prog.lift (.customCall (SparseCore.inner (Pipeline.entry 0)) ())
    sc.run d 0
    hlo rfl (column (F := F)) (fun _ => .ret ⟨⟩)
    Prog.lift (.customCall (SparseCore.inner (Pipeline.entry 1)) ())
    pure ⟨⟩) := rfl

/-! ## The buffers, held and split -/

abbrev pt (d : Dev nD) (b : Ref sig .tc) (W : Buf (Elt F) ((T d : Thread nD τ).loc b)) : sProp 𝕄 :=
  ((T d : Thread nD τ).loc b) ↦{fullShare} W

/-- The buffers the calls and the claim use. -/
def kept : Finset (DevRef τ sig) :=
  {Proc.devRef .tc main_arg0, Proc.devRef .tc main_arg1, Proc.devRef .tc main_arg2, Proc.devRef .tc main_arg3,
    Proc.devRef .tc main_v1, Proc.devRef .tc main_v2, Proc.devRef .tc main_v15, Proc.devRef .tc main_v19,
    Proc.devRef .tc main_v20, Proc.devRef .tc main_v21, Proc.devRef .tc main_v22, Proc.devRef .tc main_v23}

theorem kept_sub : kept ⊆ Pipeline.ucRefs τ sig := by decide

theorem kept_eq (d : Dev nD) (W : Valuation τ sig (Elt F)) : (StableHlo.held (T d) kept W : sProp 𝕄)
    = iprop(pt d main_arg0 (W main_arg0) ∗ pt d main_arg1 (W main_arg1) ∗ pt d main_arg2 (W main_arg2) ∗ pt d main_arg3 (W main_arg3)
      ∗ pt d main_v1 (W main_v1) ∗ pt d main_v2 (W main_v2) ∗ pt d main_v15 (W main_v15) ∗ pt d main_v19 (W main_v19)
      ∗ pt d main_v20 (W main_v20) ∗ pt d main_v21 (W main_v21) ∗ pt d main_v22 (W main_v22) ∗ pt d main_v23 (W main_v23)) := by
  unfold StableHlo.held
  rw [bigSep_eq_bigSepL_of_eq [Proc.devRef .tc main_arg0, Proc.devRef .tc main_arg1, Proc.devRef .tc main_arg2, Proc.devRef .tc main_arg3,
    Proc.devRef .tc main_v1, Proc.devRef .tc main_v2, Proc.devRef .tc main_v15, Proc.devRef .tc main_v19,
    Proc.devRef .tc main_v20, Proc.devRef .tc main_v21, Proc.devRef .tc main_v22, Proc.devRef .tc main_v23] (by decide) (by decide)]
  rfl

theorem prep_sub : ∀ op ∈ prep (F := F), op.bufs ⊆ Pipeline.ucRefs τ sig := fun op h => Pipeline.sub_ucRefs op (by
  revert op
  rw [← List.forall_iff_forall_mem]
  unfold prep
  simp only [List.Forall, StableHlo.nullary_bufs_sub, StableHlo.unary_bufs_sub, StableHlo.binary_bufs_sub, StableHlo.reshape_bufs_sub, and_self])

theorem prep_fresh : ∀ op ∈ prep (F := F), op.fresh = ∅ :=
  List.forall_iff_forall_mem.mp (StableHlo.forall_fresh_of_map rfl)

/-- The results of the host operations. -/
def results : List (Ref sig .tc) :=
  [main_v0, main_v1, main_v2, main_v3, main_v4, main_c, main_v5, main_v6, main_v7, main_v8, main_v9, main_v10, main_v11,
    main_v12, main_v13, main_v14, main_v15, main_v16, main_v17, main_v18, main_v19]

theorem hv_of_notMem (d : Dev nD) {r : Ref sig .tc} (hr : r ∉ results) : hv m d (Proc.devRef .tc r) = m (d, Proc.devRef .tc r) :=
  StableHlo.after_of_writes_sub prep _ (StableHlo.forall_writes_sub_of_map rfl) hr

theorem pt_of_notMem (d : Dev nD) (r : Ref sig .tc) (hr : r ∉ results) :
    pt d r (hv m d (Proc.devRef .tc r)) ⊢ (pt d r (m ((T d : Thread nD τ).loc r)) : sProp 𝕄) :=
  Entails.of_eq (congrArg (pt d r) (hv_of_notMem m d hr))

/-- The pair of buffers the column is made in. -/
def pairOf : Finset (DevRef τ sig) := {Proc.devRef .tc main_v1, Proc.devRef .tc main_v22}

theorem pairOf_eq (d : Dev nD) (W : Valuation τ sig (Elt F)) : (StableHlo.held (T d) pairOf W : sProp 𝕄)
    = iprop(pt d main_v1 (W main_v1) ∗ pt d main_v22 (W main_v22)) := by
  unfold StableHlo.held
  rw [bigSep_eq_bigSepL_of_eq [Proc.devRef .tc main_v1, Proc.devRef .tc main_v22] (by decide) (by decide)]
  rfl

theorem column_sub : (column (F := F)).bufs ⊆ pairOf := by
  show (StableHlo.unary _ _ _).bufs ⊆ _
  rw [StableHlo.unary_bufs]; decide

/-! ### The first call's arrays -/

theorem sep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem arrays_zero (O : Dev nD → CellTallies nD τ sig (HIx 1)) (B : ℕ)
    (A2 : Dev nD → Vec F S32x1000000 .f32) (A15 : Dev nD → Vec F S256x128 .f32) (A19 : Dev nD → Vec F S1x128 .f32) (A20 : Dev nD → Vec F S131072x128 .f32) (d : Dev nD) :
    iprop(pt d main_v2 (A2 d) ∗ pt d main_v15 (A15 d) ∗ pt d main_v19 (A19 d) ∗ pt d main_v20 (A20 d))
      ⊢ ((rd0 O B A2 A15 A19 A20 d).arrays (entry0 A2 A15 A19 A20 d) : sProp 𝕄) := by
  unfold Pipeline.RDat.arrays
  rw [bigSep_W0]
  iintro ⟨H2, H15, H19, H20⟩
  ihave H := (Transfers.pointsTo_toks_split (ℓ := (T d : Thread nD τ).loc main_v2) (S := Finset.univ) (f := A2 d) fullShare 8) $$ H2
  icases H with ⟨-, H⟩
  ihave H' := (Entails.of_eq (sep_eight
    (fun i => ((T d : Thread nD τ).loc main_v2 ↦[Finset.univ]{Transfers.shareTok fullShare 8 i} A2 d : sProp 𝕄)))) $$ H
  icases H' with ⟨H0, H1, H2, H3, H4, H5, H6, H7⟩
  rw [(arr_whole0 0).set_eq_univ, (arr_whole0 8).set_eq_univ, (arr_whole0 9).set_eq_univ, (arr_whole0 10).set_eq_univ]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H15]; · iexact H15
  isplitl [H19]; · iexact H19
  iexact H20

theorem arrays_two (O : Dev nD → CellTallies nD τ sig (HIx 1)) (B : ℕ)
    (W : Dev nD → Vec F S16384x128 .f32) (I : Dev nD → Vec F S16384x1 .i32) (R : Dev nD → Vec F S16384x3 .i32) (d : Dev nD) :
    iprop(pt d main_v21 (W d) ∗ pt d main_v22 (I d) ∗ pt d main_v23 (R d))
      ⊢ ((rd2 O B W I R d).arrays (entry2 W I R d) : sProp 𝕄) := by
  unfold Pipeline.RDat.arrays
  rw [bigSep_W2, (arr_whole2 0).set_eq_univ, (arr_whole2 1).set_eq_univ, (arr_whole2 2).set_eq_univ]
  exact BIBase.Entails.rfl

/-! ### The gather's blocks -/

theorem iSet_eq (w : Fin 32) : iSet w = (irow w).set := by
  show ((View.whole (main_v1_scv : Ref sig .scVector)).slice (irow w)).set = _
  rw [View.set_slice]; exact Finset.map_refl
theorem oSet_eq (w : Fin 32) : oSet w = (orow w).set := by
  show ((View.whole (main_v21_scv : Ref sig .scVector)).slice (orow w)).set = _
  rw [View.set_slice]; exact Finset.map_refl
theorem iSet_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem iSet_cover : (Finset.univ : Finset (Fin 32)).biUnion iSet = Finset.univ :=
  (Finset.biUnion_congr rfl fun i _ => iSet_eq i).trans (Rect.biUnion_part idiv)
theorem oSet_cover : (Finset.univ : Finset (Fin 32)).biUnion oSet = Finset.univ :=
  (Finset.biUnion_congr rfl fun i _ => oSet_eq i).trans (Rect.biUnion_part odiv)

theorem iPts_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]

/-- The tiles, as blocks. -/
def tileEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (show 2 * (w.val / 2) + w.val % 2 = w.val by omega)

theorem tiles_eq (Φ : Fin 32 → sProp 𝕄) :
    (bigSep Finset.univ fun c : Fin ((K (F := F)).nCore 0) => bigSep Finset.univ fun s : Fin 16 => Φ (wid (Fin.cast nCore_zero c) s)) = bigSep Finset.univ Φ := by
  rw [bigSep_univ_equiv tileEquiv Φ, bigSep_univ_prod]
  rfl

theorem st_of (ix : (d : Dev nD) → Buf (Elt F) (iLoc d)) (Tab : (d : Dev nD) → Buf (Elt F) (tLoc d) → Prop) (d : Dev nD)
    (G : Buf (Elt F) (tLoc d)) (hG : Tab d G) (f : Buf (Elt F) (oLoc d)) :
    iprop((iLoc d ↦{fullShare} ix d) ∗ (tLoc d ↦{fullShare} G) ∗ (oLoc d ↦{fullShare} f))
      ⊢ bigSep Finset.univ fun c : Fin ((K (F := F)).nCore 0) => (Py ix Tab).st 0 d c := by
  show _ ⊢ bigSep Finset.univ fun c : Fin ((K (F := F)).nCore 0) => bigSep Finset.univ fun s : Fin 16 => goR ix Tab d (wid (Fin.cast nCore_zero c) s)
  rw [tiles_eq (fun w => goR ix Tab d w), iPts_blocks, oPts_blocks]
  iintro ⟨Hi, Ht, Ho⟩
  ihave H := (Transfers.pointsTo_toks_split (ℓ := tLoc d) (S := Finset.univ) (f := G) fullShare 32) $$ Ht
  icases H with ⟨-, Ht⟩
  iapply (show iprop((bigSep Finset.univ fun w : Fin 32 => iLoc d ↦[iSet w]{fullShare} ix d)
      ∗ (bigSep Finset.univ fun w : Fin 32 => tLoc d ↦[Finset.univ]{tq w} G) ∗ bigSep Finset.univ fun w : Fin 32 => oLoc d ↦[oSet w]{fullShare} f)
      ⊢ bigSep Finset.univ fun w : Fin 32 => goR ix Tab d w from by
    rw [← bigSep_sep', ← bigSep_sep']
    refine bigSep_mono fun w _ => ?_
    show iprop((iLoc d ↦[iSet w]{fullShare} ix d) ∗ (tLoc d ↦{tq w} G) ∗ oLoc d ↦[oSet w]{fullShare} f) ⊢ goR ix Tab d w
    iintro ⟨Hi, Ht, Ho⟩
    iexists G
    isplitr; · ipureintro; exact hG
    isplitl [Hi]; · iexact Hi
    isplitl [Ht]; · iexact Ht
    iexists f; iexact Ho)
  isplitl [Hi]; · iexact Hi
  isplitl [Ht]; · iexact Ht
  iexact Ho

/-- What the gather leaves: every row is the row its index names of some table it may have read. -/
def GatheredOf (ix : (d : Dev nD) → Buf (Elt F) (iLoc d)) (Tab : (d : Dev nD) → Buf (Elt F) (tLoc d) → Prop) (d : Dev nD) (f : Buf (Elt F) (oLoc d)) : Prop :=
  ∀ j : S16384x128.Idx, ∃ G, Tab d G ∧ ∀ (i : S16384.Idx) (k : S131072x128.Idx), (i 0).val = (j 0).val → (k 0).val = (rowWord (ix d i)).toNat →
    (k 1).val = (j 1).val → f j = G k

theorem dn_to (ix : (d : Dev nD) → Buf (Elt F) (iLoc d)) (Tab : (d : Dev nD) → Buf (Elt F) (tLoc d) → Prop) (d : Dev nD) :
    (bigSep Finset.univ fun c : Fin ((K (F := F)).nCore 0) => (Py ix Tab).dn 0 d c)
      ⊢ (iprop((iLoc d ↦{fullShare} ix d) ∗ ∃ f, ⌜GatheredOf ix Tab d f⌝ ∗ oLoc d ↦{fullShare} f) : sProp 𝕄) := by
  show (bigSep Finset.univ fun c : Fin ((K (F := F)).nCore 0) => bigSep Finset.univ fun s : Fin 16 => tdR ix Tab d (wid (Fin.cast nCore_zero c) s)) ⊢ _
  rw [tiles_eq (fun w => tdR ix Tab d w), iPts_blocks, bigSep_sep']
  iintro ⟨Hi, Ho⟩
  isplitl [Hi]; · iexact Hi
  ihave H := (show (bigSep Finset.univ fun w : Fin 32 => iprop(∃ f : Buf (Elt F) (oLoc d), oPts d w f ∗ ⌜∃ G, Tab d G ∧ ∀ j ∈ oSet w, Gathered (ix d) G f j⌝))
      ⊢ (bigSep Finset.univ fun w : Fin 32 => iprop(∃ f : Buf (Elt F) (oLoc d), ⌜∃ G, Tab d G ∧ ∀ j ∈ oSet w, Gathered (ix d) G f j⌝ ∗ oPts d w f)) from
    bigSep_mono fun w _ => by
      show iprop(∃ f : Buf (Elt F) (oLoc d), oPts d w f ∗ ⌜∃ G, Tab d G ∧ ∀ j ∈ oSet w, Gathered (ix d) G f j⌝)
        ⊢ iprop(∃ f : Buf (Elt F) (oLoc d), ⌜∃ G, Tab d G ∧ ∀ j ∈ oSet w, Gathered (ix d) G f j⌝ ∗ oPts d w f)
      iintro ⟨%f, Hf, %h⟩
      iexists f
      isplitr; · ipureintro; exact h
      iexact Hf) $$ Ho
  ihave H := (bigSep_exists_pi Finset.univ (fun (w : Fin 32) (f : Buf (Elt F) (oLoc d)) => iprop(⌜∃ G, Tab d G ∧ ∀ j ∈ oSet w, Gathered (ix d) G f j⌝ ∗ oPts d w f))) $$ H
  icases H with ⟨%fs, H⟩
  ihave H := (bigSep_pure_sep Finset.univ (fun w : Fin 32 => ∃ G, Tab d G ∧ ∀ j ∈ oSet w, Gathered (ix d) G (fs w) j) (fun w => oPts d w (fs w))) $$ H
  icases H with ⟨%hfs, H⟩
  ihave H' := (pointsTo_biUnion_join (ℓ := oLoc d) (q := fullShare) (Val := Elt F) Finset.univ oSet fs (fs 0) oSet_disjoint) $$ H
  icases H' with ⟨%g, %hg, Hg⟩
  rw [oSet_cover]
  iexists g
  isplitr
  · ipureintro
    intro j
    obtain ⟨w, -, hj⟩ := Finset.mem_biUnion.mp (by rw [oSet_cover]; exact Finset.mem_univ j : j ∈ (Finset.univ : Finset (Fin 32)).biUnion oSet)
    obtain ⟨G, hG, h⟩ := hfs w (Finset.mem_univ w)
    exact ⟨G, hG, fun i k h0 h1 h2 => (hg w (Finset.mem_univ w) j hj).trans (h j hj i k h0 h1 h2)⟩
  · iexact Hg

/-! ## The launch element -/

abbrev pins : (p : Fin 2) → Pipeline.Cfg sig Λ₀ := Pipeline.pin (pcfgs (F := F)) adm

/-- The handshakes' rounds and the pipelines'. -/
def u₀ : UU := (initOf (K (F := F)).hsCells (K (F := F)).hsToks,
  (initOf (Pipeline.cells (pins (F := F)) cellOf_inj) (Pipeline.launchToks (pins (F := F)) cellOf_inj), 1))

/-- What the host thread gets of it: both pipelines' cells and tokens. -/
abbrev Gh (d : Dev nD) : sProp 𝕄 :=
  iprop((bigSep Finset.univ fun p : Fin 2 => Pipeline.cellsGhost (pins (F := F)) EP p d) ∗ bigSep Finset.univ fun p : Fin 2 => Pipeline.toksInit (pins (F := F)) EP p d)

theorem emp_bigSep {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks)
    ((initOf (Pipeline.cells (pins (F := F)) cellOf_inj) (Pipeline.launchToks (pins (F := F)) cellOf_inj), 1) : UP × Counters)) $$ Hu
  icases H with ⟨HH, H2⟩
  ihave H := (own_pair_emb (embR : Emb (UP × Counters) 𝕄) (initOf (Pipeline.cells (pins (F := F)) cellOf_inj) (Pipeline.launchToks (pins (F := F)) cellOf_inj)) (1 : Counters)) $$ H2
  icases H with ⟨HP, -⟩
  ihave HP := (show (BI.own (((Emb.inl : Emb UP (UP × Counters)).trans (embR : Emb (UP × Counters) 𝕄)) (initOf (Pipeline.cells (pins (F := F)) cellOf_inj) (Pipeline.launchToks (pins (F := F)) cellOf_inj))) : sProp 𝕄)
    ⊢ BI.own (EP (initOf (Pipeline.cells (pins (F := F)) cellOf_inj) (Pipeline.launchToks (pins (F := F)) cellOf_inj))) from BIBase.Entails.rfl) $$ HP
  imod (Pipeline.fund_ghost (nD := nD) (τ := τ) (pins (F := F)) EP cellOf_inj) $$ HP with ⟨Hc, Ht⟩
  imodintro
  isplitl [HH]; · iexact HH
  isplitl [Hc Ht]
  · rw [bigSep_sep']
    isplitl [Hc]; · iexact Hc
    iexact Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), emp_bigSep]
  iempintro

/-! ## The host program -/

theorem owed_none (n : ℕ) (c : Dev nD) (g : GSem nD τ sig) : (K (F := F)).Otc c n g none = 0 := by
  by_contra h
  have := SparseCore.Cfg.lev_of_Otc_pos (K := K (F := F)) (Nat.pos_of_ne_zero h)
  rw [SparseCore.Cfg.lev_none] at this
  omega

/-- The pipelined calls as programs over their own labels; the host runs them lifted. -/
def call0 : Prog (TpuEff nD τ sig (Elt F) (ΛP (F := F)) .tc) PUnit := .op (.customCall (Pipeline.entry 0) ()) .ret
def call1 : Prog (TpuEff nD τ sig (Elt F) (ΛP (F := F)) .tc) PUnit := .op (.customCall (Pipeline.entry 1) ()) .ret

theorem lift_0 : (Prog.lift (.customCall (SparseCore.inner (Pipeline.entry 0)) ()) : Prog (TpuEff nD τ sig (Elt F) (SparseCore.Sig (ΛP (F := F)) 1) .tc) PUnit)
    = SparseCore.liftProg call0 := rfl
theorem lift_1 : (Prog.lift (.customCall (SparseCore.inner (Pipeline.entry 1)) ()) : Prog (TpuEff nD τ sig (Elt F) (SparseCore.Sig (ΛP (F := F)) 1) .tc) PUnit)
    = SparseCore.liftProg call1 := rfl

theorem project_step (A2 : Dev nD → Vec F S32x1000000 .f32) (A15 : Dev nD → Vec F S256x128 .f32) (A19 : Dev nD → Vec F S1x128 .f32)
    (A20 : Dev nD → Vec F S131072x128 .f32) (n : ℕ) (d : Dev nD) (Φ : PUnit → sProp 𝕄) :
    iprop(boundary (T d : Thread nD τ) ∗ (pt d main_v2 (A2 d) ∗ pt d main_v15 (A15 d) ∗ pt d main_v19 (A19 d) ∗ pt d main_v20 (A20 d))
        ∗ (K (F := F)).tcSt EH d n ∗ levAts (K (F := F)).L (K (F := F)).lev
        ∗ Pipeline.cellsGhost (pins (F := F)) EP 0 d ∗ Pipeline.toksInit (pins (F := F)) EP 0 d
        ∗ (iprop(boundary (T d : Thread nD τ) ∗ packedTable A2 A15 A19 d ∗ (K (F := F)).tcSt EH d n) -∗ Φ ⟨⟩))
      ⊢ wp frame (wpE ((K (F := F)).defs (D (F := F))) 𝒱 (T d) none) Set.univ
          (Prog.lift (.customCall (SparseCore.inner (Pipeline.entry 0)) ())) Φ := by
  rw [lift_0]
  refine BIBase.Entails.trans ?_ ((K (F := F)).wp_liftProg (D (F := F)) 𝒱 (T d) Set.univ none call0 Φ)
  refine BIBase.Entails.trans ?_ (project_call (fun c => (K (F := F)).Otc c n) (8 * n) A2 A15 A19 A20
    (fun c g => owed_none n c g) d .ret Φ)
  unfold SparseCore.Cfg.tcSt
  iintro ⟨Hb, Ha, ⟨HO, Hst⟩, Hl, Hc, Ht, Hk⟩
  isplitl [Hk Hst]
  · iintro ⟨Hb, Htab, HO⟩
    rw [wp_ret]; imodintro
    iapply Hk
    isplitl [Hb]; · iexact Hb
    isplitl [Htab]; · iexact Htab
    isplitl [HO]; · unfold owing; iexact HO
    iexact Hst
  isplitl [Hb]; · iexact Hb
  isplitl [Ha HO]
  · isplitl [Ha]; · iapply (arrays_zero _ _ A2 A15 A19 A20 d); iexact Ha
    unfold owing; iexact HO
  isplitl [Hl]; · iexact Hl
  isplitl [Hc]; · iexact Hc
  iexact Ht

theorem sample_step (W : Dev nD → Vec F S16384x128 .f32) (I : Dev nD → Vec F S16384x1 .i32) (R : Dev nD → Vec F S16384x3 .i32)
    (n : ℕ) (d : Dev nD) (Φ : PUnit → sProp 𝕄) :
    iprop(boundary (T d : Thread nD τ) ∗ (pt d main_v21 (W d) ∗ pt d main_v22 (I d) ∗ pt d main_v23 (R d))
        ∗ (K (F := F)).tcSt EH d n ∗ levAts (K (F := F)).L (K (F := F)).lev
        ∗ Pipeline.cellsGhost (pins (F := F)) EP 1 d ∗ Pipeline.toksInit (pins (F := F)) EP 1 d
        ∗ (iprop(boundary (T d : Thread nD τ) ∗ (rLoc d ↦{fullShare} tokens (W d) (I d)) ∗ (K (F := F)).tcSt EH d n) -∗ Φ ⟨⟩))
      ⊢ wp frame (wpE ((K (F := F)).defs (D (F := F))) 𝒱 (T d) none) Set.univ
          (Prog.lift (.customCall (SparseCore.inner (Pipeline.entry 1)) ())) Φ := by
  rw [lift_1]
  refine BIBase.Entails.trans ?_ ((K (F := F)).wp_liftProg (D (F := F)) 𝒱 (T d) Set.univ none call1 Φ)
  refine BIBase.Entails.trans ?_ (sample_call (fun c => (K (F := F)).Otc c n) (8 * n) W I R
    (fun c g => owed_none n c g) d .ret Φ)
  unfold SparseCore.Cfg.tcSt
  iintro ⟨Hb, Ha, ⟨HO, Hst⟩, Hl, Hc, Ht, Hk⟩
  isplitl [Hk Hst]
  · iintro ⟨Hb, Htok, HO⟩
    rw [wp_ret]; imodintro
    iapply Hk
    isplitl [Hb]; · iexact Hb
    isplitl [Htok]; · iexact Htok
    isplitl [HO]; · unfold owing; iexact HO
    iexact Hst
  isplitl [Hb]; · iexact Hb
  isplitl [Ha HO]
  · isplitl [Ha]; · iapply (arrays_two _ _ W I R d); iexact Ha
    unfold owing; iexact HO
  isplitl [Hl]; · iexact Hl
  isplitl [Hc]; · iexact Hc
  iexact Ht

/-- What the host thread ends with. -/
abbrev FIN (d : Dev nD) : sProp 𝕄 :=
  iprop((pt d main_arg0 (m ((T d : Thread nD τ).loc main_arg0)) ∗ pt d main_arg1 (m ((T d : Thread nD τ).loc main_arg1))
      ∗ pt d main_arg2 (m ((T d : Thread nD τ).loc main_arg2)) ∗ pt d main_arg3 (m ((T d : Thread nD τ).loc main_arg3)))
    ∗ ∃ f : Buf (Elt F) (oLoc d), ⌜GatheredOf (ixOf m) (TabOf m) d f⌝ ∗ rLoc d ↦{fullShare} tokens f (colOf m d))

theorem column_result (d : Dev nD) : (column (F := F)).result (hv m d) (Proc.devRef .tc main_v22) = colOf m d := by
  unfold column
  rw [StableHlo.unary_result']

theorem column_ne (d : Dev nD) : (column (F := F)).result (hv m d) (Proc.devRef .tc main_v1) = ixOf m d := by
  unfold column
  exact StableHlo.unary_result_ne' _ _ _ _ (by decide)

theorem hmain (κ : GSem nD τ sig → ℕ) (d : Dev nD) :
    iprop((K (F := F)).ctx EH (PP m) κ ∗ (K (F := F)).tcSt EH d 0 ∗ (K (F := F)).tcRes m ρ d ∗ Gh (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, show unscopedBufs d (fun b => m ((T d : Thread nD τ).loc b)) = StableHlo.held (T d) (Pipeline.ucRefs τ sig) (StableHlo.launchContents m d)
    from Pipeline.unscopedBufs_held (Ix := HIx 1) (Name := ℕ) (U := UU) (Lvl := ℕ) d (StableHlo.launchContents m d)]
  iintro ⟨#Hctx, Hst, ⟨Hb, Hbufs, Hts, -⟩, ⟨Hc, Ht⟩⟩
  ihave Hc := (Entails.of_eq (bigSep_univ_eq_bigSepL [(0 : Fin 2), 1] (by decide) (by decide) (fun p => (Pipeline.cellsGhost (pins (F := F)) EP p d : sProp 𝕄)))) $$ Hc
  ihave Ht := (Entails.of_eq (bigSep_univ_eq_bigSepL [(0 : Fin 2), 1] (by decide) (by decide) (fun p => (Pipeline.toksInit (pins (F := F)) EP p d : sProp 𝕄)))) $$ Ht
  ihave Hc := (show bigSepL [(0 : Fin 2), 1] (fun p => (Pipeline.cellsGhost (pins (F := F)) EP p d : sProp 𝕄))
    ⊢ iprop(Pipeline.cellsGhost (pins (F := F)) EP 0 d ∗ Pipeline.cellsGhost (pins (F := F)) EP 1 d) from BIBase.Entails.rfl) $$ Hc
  ihave Ht := (show bigSepL [(0 : Fin 2), 1] (fun p => (Pipeline.toksInit (pins (F := F)) EP p d : sProp 𝕄))
    ⊢ iprop(Pipeline.toksInit (pins (F := F)) EP 0 d ∗ Pipeline.toksInit (pins (F := F)) EP 1 d) from BIBase.Entails.rfl) $$ Ht
  icases Hc with ⟨Hc0, Hc1⟩
  icases Ht with ⟨Ht0, Ht1⟩
  iapply (StableHlo.wp_seq 𝒱 none Set.univ d (Pipeline.ucRefs τ sig) _ (prep (F := F)) prep_sub prep_fresh (StableHlo.launchContents m d)) $$ [Hb Hbufs]
  · isplitl [Hb]; · iexact Hb
    iexact Hbufs
  iintro ⟨Hb, Hbufs⟩
  ihave Hbufs := (Entails.of_eq (StableHlo.held_sub_split (T d) kept_sub (hv m d))) $$ Hbufs
  icases Hbufs with ⟨Hbufs, -⟩
  ihave Hbufs := (Entails.of_eq (kept_eq d (hv m d))) $$ Hbufs
  icases Hbufs with ⟨Ha0, Ha1, Ha2, Ha3, H1, H2, H15, H19, H20, H21, H22, H23⟩
  simp only [wp_bind, wp_pure]
  iapply (project_step (embOf m) (wgtOf m) (biasOf m) (fun d => hv m d (Proc.devRef .tc main_v20)) 0 d _)
  isplitl [Hb]; · iexact Hb
  isplitl [H2 H15 H19 H20]
  · isplitl [H2]; · iexact H2
    isplitl [H15]; · iexact H15
    isplitl [H19]; · iexact H19
    iexact H20
  isplitl [Hst]; · iexact Hst
  isplitr; · iapply (SparseCore.Cfg.ctx_levAts (K := K (F := F)) (EH := EH) (P := PP m) κ); iexact Hctx
  isplitl [Hc0]; · iexact Hc0
  isplitl [Ht0]; · iexact Ht0
  iintro ⟨Hb, Htab, Hst⟩
  unfold packedTable
  icases Htab with ⟨%G, %hG, Htab⟩
  iapply ((K (F := F)).wp_run (D (F := F)) 𝒱 (EH := EH) (P := PP m) κ d 0)
  isplitr; · iexact Hctx
  isplitl [Hst]; · iexact Hst
  isplitl [H1 Htab H21]
  · iapply (st_of (ixOf m) (TabOf m) d G hG (hv m d (Proc.devRef .tc main_v21)))
    isplitl [H1]; · iexact H1
    isplitl [Htab]; · iexact Htab
    iexact H21
  iintro ⟨Hst, Hdn⟩
  ihave Hdn := (dn_to (ixOf m) (TabOf m) d) $$ Hdn
  icases Hdn with ⟨H1, %f, %hf, H21⟩
  iapply (StableHlo.wp_hlo_within 𝒱 (T d) none Set.univ (column_sub (F := F)) (V := hv m d)) $$ [Hb H1 H22]
  · isplitl [Hb]; · iexact Hb
    rw [pairOf_eq]
    isplitl [H1]; · iexact H1
    iexact H22
  iintro ⟨Hb, Hp⟩
  ihave Hp := (Entails.of_eq (pairOf_eq d ((column (F := F)).result (hv m d)))) $$ Hp
  icases Hp with ⟨-, H22⟩
  rw [column_result m d, wp_ret]
  imodintro
  iapply (sample_step (fun _ => f) (colOf m) (fun d => hv m d (Proc.devRef .tc main_v23)) 1 d _)
  isplitl [Hb]; · iexact Hb
  isplitl [H21 H22 H23]
  · isplitl [H21]; · iexact H21
    isplitl [H22]; · iexact H22
    iexact H23
  isplitl [Hst]; · iexact Hst
  isplitr; · iapply (SparseCore.Cfg.ctx_levAts (K := K (F := F)) (EH := EH) (P := PP m) κ); iexact Hctx
  isplitl [Hc1]; · iexact Hc1
  isplitl [Ht1]; · iexact Ht1
  iintro ⟨Hb, Htok, Hst⟩
  imodintro
  isplitl [Hst]; · iexact Hst
  isplitr [Hb Hts]
  · isplitl [Ha0 Ha1 Ha2 Ha3]
    · isplitl [Ha0]; · iapply (pt_of_notMem m d main_arg0 (by decide)); iexact Ha0
      isplitl [Ha1]; · iapply (pt_of_notMem m d main_arg1 (by decide)); iexact Ha1
      isplitl [Ha2]; · iapply (pt_of_notMem m d main_arg2 (by decide)); iexact Ha2
      iapply (pt_of_notMem m d main_arg3 (by decide)); iexact Ha3
    iexists f
    isplitr; · ipureintro; exact hf
    iexact Htok
  isplitl [Hb]; · iexact Hb
  iexact Hts

/-! ## The run -/

/-- What a final memory satisfies on device `d`. -/
def Final (d : Dev nD) (M : (ℓ : Loc nD τ sig) → Buf (Elt F) ℓ) : Prop :=
  (M ((T d : Thread nD τ).loc main_arg0) = m ((T d : Thread nD τ).loc main_arg0) ∧ M ((T d : Thread nD τ).loc main_arg1) = m ((T d : Thread nD τ).loc main_arg1)
    ∧ M ((T d : Thread nD τ).loc main_arg2) = m ((T d : Thread nD τ).loc main_arg2) ∧ M ((T d : Thread nD τ).loc main_arg3) = m ((T d : Thread nD τ).loc main_arg3))
  ∧ ∃ f : Buf (Elt F) (oLoc d), GatheredOf (ixOf m) (TabOf m) d f ∧ M (rLoc d) = tokens f (colOf m d)

theorem read_off (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜Final m d s'.mem.mem⌝ : sProp 𝕄) := by
  iintro ⟨⟨⟨H0, H1, H2, H3⟩, %f, %hf, Hr⟩, HSI⟩
  ihave H := (read_off s' ((T d : Thread nD τ).loc main_arg0) _) $$ [HSI H0]
  · isplitl [HSI] <;> iassumption
  icases H with ⟨%h0, HSI⟩
  ihave H := (read_off s' ((T d : Thread nD τ).loc main_arg1) _) $$ [HSI H1]
  · isplitl [HSI] <;> iassumption
  icases H with ⟨%h1, HSI⟩
  ihave H := (read_off s' ((T d : Thread nD τ).loc main_arg2) _) $$ [HSI H2]
  · isplitl [HSI] <;> iassumption
  icases H with ⟨%h2, HSI⟩
  ihave H := (read_off s' ((T d : Thread nD τ).loc main_arg3) _) $$ [HSI H3]
  · isplitl [HSI] <;> iassumption
  icases H with ⟨%h3, HSI⟩
  ihave H := (read_off s' (rLoc d) _) $$ [HSI Hr]
  · isplitl [HSI] <;> iassumption
  icases H with ⟨%h4, -⟩
  ipureintro
  exact ⟨⟨h0, h1, h2, h3⟩, f, hf, h4⟩

/-- The kernel runs: it ends, at rest, its arguments unchanged and its result the tokens of the gathered rows. -/
theorem run_main (hpre : PreOK (ixOf m)) :
    θ_run (Cert.KernelIdeal.defs (F := F)) (Cert.KernelIdeal.threads (F := F)) ⟨m, fun _ => 0, ρ⟩
      (fun r => (∀ c : Dev nD, Final m c r.2.mem) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (ixOf m) (TabOf m) facts hpre)
    (fun q _ => match q with | 0 => SparseCore.Cfg.VecSplit.of_plain (vecSplit (ixOf m) (TabOf m)))
    m ρ main (Gh (F := F)) (FIN m) (u₀ (F := F)) (sep_elim_left.trans (hu₀ m)) (hmain m ρ)
    (fun d s' => Final m d s'.mem.mem) (hfin m) (fun r => (∀ c : Dev nD, Final m c r.2.mem) ∧ r.2.sem = fun _ => 0)
    (fun _ h hz => ⟨h, hz⟩)

end Cert.Proof.Token

end
-- ==== Proof.Range.lean ====
/-
  The precondition, read off: an in-range history keeps every token index the kernel uses below 1000000.
-/
module

public import proofs.«01_k».proof.Defs
public import proofs.«01_k».proof.Proof.Run
public import proofs.«01_k».proof.Proof.Gen.Kernel
public import Idealize.ShloMosaic.Lib.ReduceAll
public import Idealize.ShloMosaic.Lib.StableHlo.ReadAt

@[expose] public section

set_option maxRecDepth 16384

noncomputable section

namespace Cert.Proof.Token

open Cert.KernelIdeal Cert.KernelIdeal.Gen
open Idealize.ShloMosaic Idealize.ShloMosaic.TcCoe Idealize.SL.Sem

variable {F : FTy → Type} [FloatOps F] [∀ e, Nonempty (Elt F e)]

/-- The last column of a history. -/
def lastAt (j : S16384.Idx) : S16384x200.Idx := fun a => match a with
  | 0 => ⟨(j 0).val, (j 0).isLt⟩
  | 1 => ⟨199, by decide⟩

/-- A word at least 0 and below 1000000, compared as signed, is a number below 1000000. -/
theorem word_lt (v : BitVec 32) (e : IntOp.andi (IntOp.cmpi .sge v 0#32) (IntOp.cmpi .slt v 1000000#32) = 1#1) : v.toNat < 1000000 := by
  have and_bool (p q : Bool) : IntOp.andi (BitVec.ofBool p) (BitVec.ofBool q) = BitVec.ofBool (p && q) := by cases p <;> cases q <;> rfl
  have bool_one (p : Bool) : BitVec.ofBool p = 1#1 ↔ p = true := by cases p <;> decide
  simp only [IntOp.cmpi, and_bool, bool_one, Bool.and_eq_true, BitVec.sle_eq_decide, BitVec.slt_eq_decide, decide_eq_true_eq,
    BitVec.toInt_eq_toNat_cond, BitVec.toNat_ofNat, Nat.reducePow, Nat.reduceMod] at e
  omega

theorem lt_of_pre [Cert.Pre_in_range.Facts] (x0 : Vec F S16384x200 .i32) (x1 : Vec F S1000000x32 .f32) (x2 : Vec F S16x32 .f32) (x3 : Vec F S16 .f32)
    (h : Cert.Pre_in_range.fn x0 x1 x2 x3 = fun _ => 1#1) (i : S16384x200.Idx) : (x0 i).toNat < 1000000 := by
  have h0 := Host.reduce_andi_all _ _ _ _ (fun a => a.elim0) (congrFun h (fun a => a.elim0)) i
  pointwise at h0
  exact word_lt _ h0

theorem ixOf_eq (m : (ℓ : Loc nD τ sig) → Buf (Elt F) ℓ) (d : Dev nD) (j : S16384.Idx) :
    ixOf m d j = m ((SparseCore.T d : Thread nD τ).loc main_arg0) (lastAt j) := by
  show StableHlo.after (prep (F := F)) (StableHlo.launchContents m d) (Proc.devRef .tc main_v1) j = _
  unfold prep
  after_reads_at
  exact congrArg (m (d, Proc.devRef .tc main_arg0)) (funext fun a => by match a with | 0 => rfl | 1 => rfl)

/-- Every token index the kernel uses is below 1000000. -/
theorem ixOf_lt [Cert.Pre_in_range.Facts] (m : (ℓ : Loc nD τ sig) → Buf (Elt F) ℓ) (d : Dev nD)
    (h : Cert.Pre_in_range.fn (m ((SparseCore.T d : Thread nD τ).loc main_arg0)) (m ((SparseCore.T d : Thread nD τ).loc main_arg1))
      (m ((SparseCore.T d : Thread nD τ).loc main_arg2)) (m ((SparseCore.T d : Thread nD τ).loc main_arg3)) = fun _ => 1#1) (j : S16384.Idx) :
    (ixOf m d j).toNat < 1000000 := by
  rw [ixOf_eq]; exact lt_of_pre _ _ _ _ h _

theorem ok_of_lt (m : (ℓ : Loc nD τ sig) → Buf (Elt F) ℓ) (h : ∀ d j, (ixOf m d j).toNat < 1000000) : PreOK (ixOf m) :=
  fun d j => lt_of_lt_of_le (h d j) (by decide)

/-! ## The two frames -/

/-- The run ends with the arguments unchanged and every counter at zero. -/
theorem frame_run [Cert.Pre_in_range.Facts] (m : (ℓ : Loc nD τ sig) → Buf (Elt F) ℓ) (ρ : Dev nD → PrngReg)
    (h : ∀ d, Cert.Pre_in_range.fn (m ((SparseCore.T d : Thread nD τ).loc main_arg0)) (m ((SparseCore.T d : Thread nD τ).loc main_arg1))
      (m ((SparseCore.T d : Thread nD τ).loc main_arg2)) (m ((SparseCore.T d : Thread nD τ).loc main_arg3)) = fun _ => 1#1) :
    θ_run (Cert.KernelIdeal.defs (F := F)) (Cert.KernelIdeal.threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run Cert.KernelIdeal.defs _ _).mono (fun _ h => ⟨fun c => (h.1 c).1, h.2⟩) (run_main m ρ (ok_of_lt m fun d => ixOf_lt m d (h d)))

theorem frame_kernelIdeal [Cert.Pre_in_range.Facts] : Cert.quiescent_KernelIdeal := fun m ρ h => frame_run (F := Ideal) m ρ h

set_option maxHeartbeats 2000000 in
/-- The kernel on words has the idealized kernel's text: the same bodies, so the same programs. -/
theorem same_bodies : (Cert.Kernel.defs₀ (F := Bits) : Defs nD τ sig (Elt Bits) Λ₀) = Cert.KernelIdeal.defs₀ (F := Bits) := by
  funext p
  match p with
  | .tc => exact funext fun l : Fin 3 => match l with | 0 => rfl | 1 => rfl | 2 => rfl
  | .scVector c s => exact funext fun l : Fin 3 => match l with | 0 => rfl | 1 => rfl | 2 => rfl
  | .scScalar c => exact funext fun l : Fin 3 => match l with | 0 => rfl | 1 => rfl | 2 => rfl

theorem same_defs : (Cert.Kernel.defs (F := Bits) : Defs nD τ sig (Elt Bits) _) = Cert.KernelIdeal.defs (F := Bits) :=
  congrArg (fun D => Cert.KernelIdeal.sc.defs (Pipeline.defs Cert.KernelIdeal.pcfgs D)) same_bodies

theorem frame_kernel [Cert.Pre_in_range.Facts] : Cert.quiescent_Kernel := fun m ρ h => by
  have r := frame_run (F := Bits) m ρ h
  rw [← same_defs] at r
  exact r

end Cert.Proof.Token
end
-- ==== Proof.Plain.lean ====
/-
  The reference's whole run: a straight line of host operations, each writing one buffer of its own. `ops` is that line;
  `run` says the program ends with every buffer at the line's values; the `settled` lemmas say each buffer ends at its
  operation's function of the final contents of the buffers it reads, so the reference's result is read one operation at a time.
-/
module

public import proofs.«01_k».proof.Proof.Gen.ReferenceIdeal
public import Idealize.ShloMosaic.Lib.StableHlo.Run

@[expose] public section

set_option maxRecDepth 65536

noncomputable section

namespace Cert.Proof.Plain

open Cert.ReferenceIdeal Cert.ReferenceIdeal.Gen
open Idealize.ShloMosaic Idealize.ShloMosaic.TcCoe Idealize.SL.Sem
open Idealize.ShloMosaic.StableHlo (TRef)

variable {F : FTy → Type} [FloatOps F]

/-! ## The line of operations -/

/-- The last column of the history. -/
def columnOps : List (HloOp τ sig (Elt F)) :=
  [ StableHlo.unary main_arg0 main_v0 ((extractStridedSlice S16384x1 ![0, 199] · slices_S16384x200_S16384x1_0_199) : (⟨S16384x200, .i32⟩ : BufTy).Contents (Elt F) → (⟨S16384x1, .i32⟩ : BufTy).Contents (Elt F)),
    StableHlo.reshape main_v0 main_v1 (rfl : (.i32 : EltTy) = .i32) shapeCasts_S16384x1_S16384 ]

/-- The rows of a table at given indices. -/
def takeOps (arg0 : TRef sig ⟨S1000000x32, .f32⟩) (arg1 : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 1000000#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 999999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S1000000x32_S16384x1_S16384x32_1_0_n_n_0_1_132 x i),
    TRef.unary φ.v12 φ.v14 (broadcastInDim S16384x32 ![0] bcast_S16384_S16384x32_0),
    TRef.nullary φ.cst (constant S_ .f32 0x7FC00000#32),
    TRef.unary φ.cst φ.v15 (broadcastInDim S16384x32 ![] bcast_S_S16384x32),
    TRef.ternary φ.v14 φ.v13 φ.v15 φ.v16 select ]

/-- The logits, their softmax, the key's two words and the counters. -/
def probOps : List (HloOp τ sig (Elt F)) :=
  [ StableHlo.unary main_arg2 main_v3 ((transpose S32x16 [1, 0] · transposes_S16x32_S32x16_1_0) : (⟨S16x32, .f32⟩ : BufTy).Contents (Elt F) → (⟨S32x16, .f32⟩ : BufTy).Contents (Elt F)),
    StableHlo.binary main_v2 main_v3 main_v4 ((fun l r => Host.dotGeneral dot_S16384x32_S32x16_S16384x16_1_0_0_1_n_n none l r) : (⟨S16384x32, .f32⟩ : BufTy).Contents (Elt F) → (⟨S32x16, .f32⟩ : BufTy).Contents (Elt F) → (⟨S16384x16, .f32⟩ : BufTy).Contents (Elt F)),
    StableHlo.unary main_arg3 main_v5 (broadcastInDim S1x16 ![1] bcast_S16_S1x16_1 : (⟨S16, .f32⟩ : BufTy).Contents (Elt F) → (⟨S1x16, .f32⟩ : BufTy).Contents (Elt F)),
    StableHlo.unary main_v5 main_v6 (broadcastInDim S16384x16 ![0, 1] bcast_S1x16_S16384x16_0_1 : (⟨S1x16, .f32⟩ : BufTy).Contents (Elt F) → (⟨S16384x16, .f32⟩ : BufTy).Contents (Elt F)),
    StableHlo.binary main_v4 main_v6 main_v7 (addf : (⟨S16384x16, .f32⟩ : BufTy).Contents (Elt F) → (⟨S16384x16, .f32⟩ : BufTy).Contents (Elt F) → (⟨S16384x16, .f32⟩ : BufTy).Contents (Elt F)),
    StableHlo.nullary main_cst (constant S_ .f32 0xFF800000#32),
    StableHlo.binary main_v7 main_cst main_v8 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.nullary main_cst_0 (constant S_ .f32 0xFF800000#32),
    StableHlo.unary main_cst_0 main_v9 (broadcastInDim S16384 ![] bcast_S_S16384 : (⟨S_, .f32⟩ : BufTy).Contents (Elt F) → (⟨S16384, .f32⟩ : BufTy).Contents (Elt F)),
    StableHlo.binary main_v9 main_v8 main_v10 (maximumf : (⟨S16384, .f32⟩ : BufTy).Contents (Elt F) → (⟨S16384, .f32⟩ : BufTy).Contents (Elt F) → (⟨S16384, .f32⟩ : BufTy).Contents (Elt F)),
    StableHlo.unary main_v10 main_v11 (broadcastInDim S16384x1 ![0] bcast_S16384_S16384x1_0 : (⟨S16384, .f32⟩ : BufTy).Contents (Elt F) → (⟨S16384x1, .f32⟩ : BufTy).Contents (Elt F)),
    StableHlo.unary main_v11 main_v12 (broadcastInDim S16384x16 ![0, 1] bcast_S16384x1_S16384x16_0_1 : (⟨S16384x1, .f32⟩ : BufTy).Contents (Elt F) → (⟨S16384x16, .f32⟩ : BufTy).Contents (Elt F)),
    StableHlo.binary main_v7 main_v12 main_v13 (subf : (⟨S16384x16, .f32⟩ : BufTy).Contents (Elt F) → (⟨S16384x16, .f32⟩ : BufTy).Contents (Elt F) → (⟨S16384x16, .f32⟩ : BufTy).Contents (Elt F)),
    StableHlo.unary main_v13 main_v14 (Host.exp : (⟨S16384x16, .f32⟩ : BufTy).Contents (Elt F) → (⟨S16384x16, .f32⟩ : BufTy).Contents (Elt F)),
    StableHlo.nullary main_cst_1 (constant S_ .f32 0x00000000#32),
    StableHlo.binary main_v14 main_cst_1 main_v15 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.unary main_v15 main_v16 (broadcastInDim S16384x1 ![0] bcast_S16384_S16384x1_0 : (⟨S16384, .f32⟩ : BufTy).Contents (Elt F) → (⟨S16384x1, .f32⟩ : BufTy).Contents (Elt F)),
    StableHlo.unary main_v16 main_v17 (broadcastInDim S16384x16 ![0, 1] bcast_S16384x1_S16384x16_0_1 : (⟨S16384x1, .f32⟩ : BufTy).Contents (Elt F) → (⟨S16384x16, .f32⟩ : BufTy).Contents (Elt F)),
    StableHlo.binary main_v14 main_v17 main_v18 (Host.divf : (⟨S16384x16, .f32⟩ : BufTy).Contents (Elt F) → (⟨S16384x16, .f32⟩ : BufTy).Contents (Elt F) → (⟨S16384x16, .f32⟩ : BufTy).Contents (Elt F)),
    StableHlo.nullary main_c (constantI S_ 32 42#32),
    StableHlo.nullary main_c_2 (constantI S_ 32 32#32),
    StableHlo.binary main_c main_c_2 main_v19 (Host.shrui : (⟨S_, .i32⟩ : BufTy).Contents (Elt F) → (⟨S_, .i32⟩ : BufTy).Contents (Elt F) → (⟨S_, .i32⟩ : BufTy).Contents (Elt F)),
    StableHlo.unary main_v19 main_v20 (id : (⟨S_, .i32⟩ : BufTy).Contents (Elt F) → (⟨S_, .i32⟩ : BufTy).Contents (Elt F)),
    StableHlo.unary main_v20 main_v21 (broadcastInDim S1 ![] bcast_S_S1 : (⟨S_, .i32⟩ : BufTy).Contents (Elt F) → (⟨S1, .i32⟩ : BufTy).Contents (Elt F)),
    StableHlo.nullary main_c_3 (constantI S_ 32 4294967295#32),
    StableHlo.binary main_c main_c_3 main_v22 (andi : (⟨S_, .i32⟩ : BufTy).Contents (Elt F) → (⟨S_, .i32⟩ : BufTy).Contents (Elt F) → (⟨S_, .i32⟩ : BufTy).Contents (Elt F)),
    StableHlo.unary main_v22 main_v23 (id : (⟨S_, .i32⟩ : BufTy).Contents (Elt F) → (⟨S_, .i32⟩ : BufTy).Contents (Elt F)),
    StableHlo.unary main_v23 main_v24 (broadcastInDim S1 ![] bcast_S_S1 : (⟨S_, .i32⟩ : BufTy).Contents (Elt F) → (⟨S1, .i32⟩ : BufTy).Contents (Elt F)),
    StableHlo.binary main_v21 main_v24 main_v25 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.unary main_v25 main_v26 ((extractStridedSlice S1 ![0] · slices_S2_S1_0) : (⟨S2, .i32⟩ : BufTy).Contents (Elt F) → (⟨S1, .i32⟩ : BufTy).Contents (Elt F)),
    StableHlo.reshape main_v26 main_v27 (rfl : (.i32 : EltTy) = .i32) shapeCasts_S1_S_,
    StableHlo.unary main_v25 main_v28 ((extractStridedSlice S1 ![1] · slices_S2_S1_1) : (⟨S2, .i32⟩ : BufTy).Contents (Elt F) → (⟨S1, .i32⟩ : BufTy).Contents (Elt F)),
    StableHlo.reshape main_v28 main_v29 (rfl : (.i32 : EltTy) = .i32) shapeCasts_S1_S_,
    StableHlo.nullary main_v30 (iotaInDim S16384x3x16 64 0),
    StableHlo.nullary main_v31 (iotaInDim S16384x3x16 64 1),
    StableHlo.nullary main_v32 (iotaInDim S16384x3x16 64 2),
    StableHlo.nullary main_c_4 (constantI S_ 64 48#64),
    StableHlo.unary main_c_4 main_v33 (broadcastInDim S16384x3x16 ![] bcast_S_S16384x3x16 : (⟨S_, .i64⟩ : BufTy).Contents (Elt F) → (⟨S16384x3x16, .i64⟩ : BufTy).Contents (Elt F)),
    StableHlo.binary main_v33 main_v30 main_v34 (muli : (⟨S16384x3x16, .i64⟩ : BufTy).Contents (Elt F) → (⟨S16384x3x16, .i64⟩ : BufTy).Contents (Elt F) → (⟨S16384x3x16, .i64⟩ : BufTy).Contents (Elt F)),
    StableHlo.nullary main_c_5 (constantI S_ 64 16#64),
    StableHlo.unary main_c_5 main_v35 (broadcastInDim S16384x3x16 ![] bcast_S_S16384x3x16 : (⟨S_, .i64⟩ : BufTy).Contents (Elt F) → (⟨S16384x3x16, .i64⟩ : BufTy).Contents (Elt F)),
    StableHlo.binary main_v35 main_v31 main_v36 (muli : (⟨S16384x3x16, .i64⟩ : BufTy).Contents (Elt F) → (⟨S16384x3x16, .i64⟩ : BufTy).Contents (Elt F) → (⟨S16384x3x16, .i64⟩ : BufTy).Contents (Elt F)),
    StableHlo.nullary main_c_6 (constantI S_ 64 1#64),
    StableHlo.unary main_c_6 main_v37 (broadcastInDim S16384x3x16 ![] bcast_S_S16384x3x16 : (⟨S_, .i64⟩ : BufTy).Contents (Elt F) → (⟨S16384x3x16, .i64⟩ : BufTy).Contents (Elt F)),
    StableHlo.binary main_v37 main_v32 main_v38 (muli : (⟨S16384x3x16, .i64⟩ : BufTy).Contents (Elt F) → (⟨S16384x3x16, .i64⟩ : BufTy).Contents (Elt F) → (⟨S16384x3x16, .i64⟩ : BufTy).Contents (Elt F)),
    StableHlo.binary main_v34 main_v36 main_v39 (addi : (⟨S16384x3x16, .i64⟩ : BufTy).Contents (Elt F) → (⟨S16384x3x16, .i64⟩ : BufTy).Contents (Elt F) → (⟨S16384x3x16, .i64⟩ : BufTy).Contents (Elt F)),
    StableHlo.binary main_v39 main_v38 main_v40 (addi : (⟨S16384x3x16, .i64⟩ : BufTy).Contents (Elt F) → (⟨S16384x3x16, .i64⟩ : BufTy).Contents (Elt F) → (⟨S16384x3x16, .i64⟩ : BufTy).Contents (Elt F)),
    StableHlo.nullary main_c_7 (constantI S_ 64 32#64),
    StableHlo.unary main_c_7 main_v41 (broadcastInDim S16384x3x16 ![] bcast_S_S16384x3x16 : (⟨S_, .i64⟩ : BufTy).Contents (Elt F) → (⟨S16384x3x16, .i64⟩ : BufTy).Contents (Elt F)),
    StableHlo.binary main_v40 main_v41 main_v42 (Host.shrui : (⟨S16384x3x16, .i64⟩ : BufTy).Contents (Elt F) → (⟨S16384x3x16, .i64⟩ : BufTy).Contents (Elt F) → (⟨S16384x3x16, .i64⟩ : BufTy).Contents (Elt F)),
    StableHlo.unary main_v40 main_v43 ((trunci 32 · natLt_32_64) : (⟨S16384x3x16, .i64⟩ : BufTy).Contents (Elt F) → (⟨S16384x3x16, .i32⟩ : BufTy).Contents (Elt F)),
    StableHlo.unary main_v42 main_v44 ((trunci 32 · natLt_32_64) : (⟨S16384x3x16, .i64⟩ : BufTy).Contents (Elt F) → (⟨S16384x3x16, .i32⟩ : BufTy).Contents (Elt F)) ]

/-- The random words, statements in four parts. -/
def wordOps0 (arg0 arg1 : TRef sig ⟨S_, .i32⟩) (arg2 arg3 : TRef sig ⟨S16384x3x16, .i32⟩) (φ : fn_threefry2x32.Bufs) : List (HloOp τ sig (Elt F)) :=
  [ TRef.binary arg0 arg1 φ.v0 xori,
    TRef.nullary φ.c (constantI S_ 32 466688986#32),
    TRef.binary φ.v0 φ.c φ.v1 xori,
    TRef.unary arg0 φ.v2 (broadcastInDim S16384x3x16 ![] bcast_S_S16384x3x16),
    TRef.binary arg2 φ.v2 φ.v3 addi,
    TRef.unary arg1 φ.v4 (broadcastInDim S16384x3x16 ![] bcast_S_S16384x3x16),
    TRef.binary arg3 φ.v4 φ.v5 addi,
    TRef.binary φ.v3 φ.v5 φ.v6 addi,
    TRef.nullary φ.c_0 (constantI S_ 32 13#32),
    TRef.unary φ.c_0 φ.v7 (broadcastInDim S16384x3x16 ![] bcast_S_S16384x3x16),
    TRef.binary φ.v5 φ.v7 φ.v8 Host.shli,
    TRef.nullary φ.c_1 (constantI S_ 32 19#32),
    TRef.unary φ.c_1 φ.v9 (broadcastInDim S16384x3x16 ![] bcast_S_S16384x3x16),
    TRef.binary φ.v5 φ.v9 φ.v10 Host.shrui,
    TRef.binary φ.v8 φ.v10 φ.v11 ori,
    TRef.binary φ.v6 φ.v11 φ.v12 xori,
    TRef.binary φ.v6 φ.v12 φ.v13 addi,
    TRef.nullary φ.c_2 (constantI S_ 32 15#32),
    TRef.unary φ.c_2 φ.v14 (broadcastInDim S16384x3x16 ![] bcast_S_S16384x3x16),
    TRef.binary φ.v12 φ.v14 φ.v15 Host.shli,
    TRef.nullary φ.c_3 (constantI S_ 32 17#32),
    TRef.unary φ.c_3 φ.v16 (broadcastInDim S16384x3x16 ![] bcast_S_S16384x3x16),
    TRef.binary φ.v12 φ.v16 φ.v17 Host.shrui,
    TRef.binary φ.v15 φ.v17 φ.v18 ori,
    TRef.binary φ.v13 φ.v18 φ.v19 xori,
    TRef.binary φ.v13 φ.v19 φ.v20 addi,
    TRef.nullary φ.c_4 (constantI S_ 32 26#32),
    TRef.unary φ.c_4 φ.v21 (broadcastInDim S16384x3x16 ![] bcast_S_S16384x3x16),
    TRef.binary φ.v19 φ.v21 φ.v22 Host.shli,
    TRef.nullary φ.c_5 (constantI S_ 32 6#32),
    TRef.unary φ.c_5 φ.v23 (broadcastInDim S16384x3x16 ![] bcast_S_S16384x3x16),
    TRef.binary φ.v19 φ.v23 φ.v24 Host.shrui,
    TRef.binary φ.v22 φ.v24 φ.v25 ori,
    TRef.binary φ.v20 φ.v25 φ.v26 xori,
    TRef.binary φ.v20 φ.v26 φ.v27 addi,
    TRef.nullary φ.c_6 (constantI S_ 32 6#32),
    TRef.unary φ.c_6 φ.v28 (broadcastInDim S16384x3x16 ![] bcast_S_S16384x3x16),
    TRef.binary φ.v26 φ.v28 φ.v29 Host.shli,
    TRef.nullary φ.c_7 (constantI S_ 32 26#32),
    TRef.unary φ.c_7 φ.v30 (broadcastInDim S16384x3x16 ![] bcast_S_S16384x3x16),
    TRef.binary φ.v26 φ.v30 φ.v31 Host.shrui,
    TRef.binary φ.v29 φ.v31 φ.v32 ori,
    TRef.binary φ.v27 φ.v32 φ.v33 xori,
    TRef.unary arg1 φ.v34 (broadcastInDim S16384x3x16 ![] bcast_S_S16384x3x16),
    TRef.binary φ.v27 φ.v34 φ.v35 addi,
    TRef.unary φ.v1 φ.v36 (broadcastInDim S16384x3x16 ![] bcast_S_S16384x3x16),
    TRef.binary φ.v33 φ.v36 φ.v37 addi,
    TRef.nullary φ.c_8 (constantI S_ 32 1#32),
    TRef.unary φ.c_8 φ.v38 (broadcastInDim S16384x3x16 ![] bcast_S_S16384x3x16),
    TRef.binary φ.v37 φ.v38 φ.v39 addi,
    TRef.binary φ.v35 φ.v39 φ.v40 addi,
    TRef.nullary φ.c_9 (constantI S_ 32 17#32),
    TRef.unary φ.c_9 φ.v41 (broadcastInDim S16384x3x16 ![] bcast_S_S16384x3x16),
    TRef.binary φ.v39 φ.v41 φ.v42 Host.shli,
    TRef.nullary φ.c_10 (constantI S_ 32 15#32),
    TRef.unary φ.c_10 φ.v43 (broadcastInDim S16384x3x16 ![] bcast_S_S16384x3x16),
    TRef.binary φ.v39 φ.v43 φ.v44 Host.shrui,
    TRef.binary φ.v42 φ.v44 φ.v45 ori,
    TRef.binary φ.v40 φ.v45 φ.v46 xori,
    TRef.binary φ.v40 φ.v46 φ.v47 addi ]

def wordOps1 (arg0 arg1 : TRef sig ⟨S_, .i32⟩) (arg2 arg3 : TRef sig ⟨S16384x3x16, .i32⟩) (φ : fn_threefry2x32.Bufs) : List (HloOp τ sig (Elt F)) :=
  [ TRef.nullary φ.c_11 (constantI S_ 32 29#32),
    TRef.unary φ.c_11 φ.v48 (broadcastInDim S16384x3x16 ![] bcast_S_S16384x3x16),
    TRef.binary φ.v46 φ.v48 φ.v49 Host.shli,
    TRef.nullary φ.c_12 (constantI S_ 32 3#32),
    TRef.unary φ.c_12 φ.v50 (broadcastInDim S16384x3x16 ![] bcast_S_S16384x3x16),
    TRef.binary φ.v46 φ.v50 φ.v51 Host.shrui,
    TRef.binary φ.v49 φ.v51 φ.v52 ori,
    TRef.binary φ.v47 φ.v52 φ.v53 xori,
    TRef.binary φ.v47 φ.v53 φ.v54 addi,
    TRef.nullary φ.c_13 (constantI S_ 32 16#32),
    TRef.unary φ.c_13 φ.v55 (broadcastInDim S16384x3x16 ![] bcast_S_S16384x3x16),
    TRef.binary φ.v53 φ.v55 φ.v56 Host.shli,
    TRef.nullary φ.c_14 (constantI S_ 32 16#32),
    TRef.unary φ.c_14 φ.v57 (broadcastInDim S16384x3x16 ![] bcast_S_S16384x3x16),
    TRef.binary φ.v53 φ.v57 φ.v58 Host.shrui,
    TRef.binary φ.v56 φ.v58 φ.v59 ori,
    TRef.binary φ.v54 φ.v59 φ.v60 xori,
    TRef.binary φ.v54 φ.v60 φ.v61 addi,
    TRef.nullary φ.c_15 (constantI S_ 32 24#32),
    TRef.unary φ.c_15 φ.v62 (broadcastInDim S16384x3x16 ![] bcast_S_S16384x3x16),
    TRef.binary φ.v60 φ.v62 φ.v63 Host.shli,
    TRef.nullary φ.c_16 (constantI S_ 32 8#32),
    TRef.unary φ.c_16 φ.v64 (broadcastInDim S16384x3x16 ![] bcast_S_S16384x3x16),
    TRef.binary φ.v60 φ.v64 φ.v65 Host.shrui,
    TRef.binary φ.v63 φ.v65 φ.v66 ori,
    TRef.binary φ.v61 φ.v66 φ.v67 xori,
    TRef.unary φ.v1 φ.v68 (broadcastInDim S16384x3x16 ![] bcast_S_S16384x3x16),
    TRef.binary φ.v61 φ.v68 φ.v69 addi,
    TRef.unary arg0 φ.v70 (broadcastInDim S16384x3x16 ![] bcast_S_S16384x3x16),
    TRef.binary φ.v67 φ.v70 φ.v71 addi,
    TRef.nullary φ.c_17 (constantI S_ 32 2#32),
    TRef.unary φ.c_17 φ.v72 (broadcastInDim S16384x3x16 ![] bcast_S_S16384x3x16),
    TRef.binary φ.v71 φ.v72 φ.v73 addi,
    TRef.binary φ.v69 φ.v73 φ.v74 addi,
    TRef.nullary φ.c_18 (constantI S_ 32 13#32),
    TRef.unary φ.c_18 φ.v75 (broadcastInDim S16384x3x16 ![] bcast_S_S16384x3x16),
    TRef.binary φ.v73 φ.v75 φ.v76 Host.shli,
    TRef.nullary φ.c_19 (constantI S_ 32 19#32),
    TRef.unary φ.c_19 φ.v77 (broadcastInDim S16384x3x16 ![] bcast_S_S16384x3x16),
    TRef.binary φ.v73 φ.v77 φ.v78 Host.shrui,
    TRef.binary φ.v76 φ.v78 φ.v79 ori,
    TRef.binary φ.v74 φ.v79 φ.v80 xori,
    TRef.binary φ.v74 φ.v80 φ.v81 addi,
    TRef.nullary φ.c_20 (constantI S_ 32 15#32),
    TRef.unary φ.c_20 φ.v82 (broadcastInDim S16384x3x16 ![] bcast_S_S16384x3x16),
    TRef.binary φ.v80 φ.v82 φ.v83 Host.shli,
    TRef.nullary φ.c_21 (constantI S_ 32 17#32),
    TRef.unary φ.c_21 φ.v84 (broadcastInDim S16384x3x16 ![] bcast_S_S16384x3x16),
    TRef.binary φ.v80 φ.v84 φ.v85 Host.shrui,
    TRef.binary φ.v83 φ.v85 φ.v86 ori,
    TRef.binary φ.v81 φ.v86 φ.v87 xori,
    TRef.binary φ.v81 φ.v87 φ.v88 addi,
    TRef.nullary φ.c_22 (constantI S_ 32 26#32),
    TRef.unary φ.c_22 φ.v89 (broadcastInDim S16384x3x16 ![] bcast_S_S16384x3x16),
    TRef.binary φ.v87 φ.v89 φ.v90 Host.shli,
    TRef.nullary φ.c_23 (constantI S_ 32 6#32),
    TRef.unary φ.c_23 φ.v91 (broadcastInDim S16384x3x16 ![] bcast_S_S16384x3x16),
    TRef.binary φ.v87 φ.v91 φ.v92 Host.shrui,
    TRef.binary φ.v90 φ.v92 φ.v93 ori,
    TRef.binary φ.v88 φ.v93 φ.v94 xori ]

def wordOps2 (arg0 arg1 : TRef sig ⟨S_, .i32⟩) (arg2 arg3 : TRef sig ⟨S16384x3x16, .i32⟩) (φ : fn_threefry2x32.Bufs) : List (HloOp τ sig (Elt F)) :=
  [ TRef.binary φ.v88 φ.v94 φ.v95 addi,
    TRef.nullary φ.c_24 (constantI S_ 32 6#32),
    TRef.unary φ.c_24 φ.v96 (broadcastInDim S16384x3x16 ![] bcast_S_S16384x3x16),
    TRef.binary φ.v94 φ.v96 φ.v97 Host.shli,
    TRef.nullary φ.c_25 (constantI S_ 32 26#32),
    TRef.unary φ.c_25 φ.v98 (broadcastInDim S16384x3x16 ![] bcast_S_S16384x3x16),
    TRef.binary φ.v94 φ.v98 φ.v99 Host.shrui,
    TRef.binary φ.v97 φ.v99 φ.v100 ori,
    TRef.binary φ.v95 φ.v100 φ.v101 xori,
    TRef.unary arg0 φ.v102 (broadcastInDim S16384x3x16 ![] bcast_S_S16384x3x16),
    TRef.binary φ.v95 φ.v102 φ.v103 addi,
    TRef.unary arg1 φ.v104 (broadcastInDim S16384x3x16 ![] bcast_S_S16384x3x16),
    TRef.binary φ.v101 φ.v104 φ.v105 addi,
    TRef.nullary φ.c_26 (constantI S_ 32 3#32),
    TRef.unary φ.c_26 φ.v106 (broadcastInDim S16384x3x16 ![] bcast_S_S16384x3x16),
    TRef.binary φ.v105 φ.v106 φ.v107 addi,
    TRef.binary φ.v103 φ.v107 φ.v108 addi,
    TRef.nullary φ.c_27 (constantI S_ 32 17#32),
    TRef.unary φ.c_27 φ.v109 (broadcastInDim S16384x3x16 ![] bcast_S_S16384x3x16),
    TRef.binary φ.v107 φ.v109 φ.v110 Host.shli,
    TRef.nullary φ.c_28 (constantI S_ 32 15#32),
    TRef.unary φ.c_28 φ.v111 (broadcastInDim S16384x3x16 ![] bcast_S_S16384x3x16),
    TRef.binary φ.v107 φ.v111 φ.v112 Host.shrui,
    TRef.binary φ.v110 φ.v112 φ.v113 ori,
    TRef.binary φ.v108 φ.v113 φ.v114 xori,
    TRef.binary φ.v108 φ.v114 φ.v115 addi,
    TRef.nullary φ.c_29 (constantI S_ 32 29#32),
    TRef.unary φ.c_29 φ.v116 (broadcastInDim S16384x3x16 ![] bcast_S_S16384x3x16),
    TRef.binary φ.v114 φ.v116 φ.v117 Host.shli,
    TRef.nullary φ.c_30 (constantI S_ 32 3#32),
    TRef.unary φ.c_30 φ.v118 (broadcastInDim S16384x3x16 ![] bcast_S_S16384x3x16),
    TRef.binary φ.v114 φ.v118 φ.v119 Host.shrui,
    TRef.binary φ.v117 φ.v119 φ.v120 ori,
    TRef.binary φ.v115 φ.v120 φ.v121 xori,
    TRef.binary φ.v115 φ.v121 φ.v122 addi,
    TRef.nullary φ.c_31 (constantI S_ 32 16#32),
    TRef.unary φ.c_31 φ.v123 (broadcastInDim S16384x3x16 ![] bcast_S_S16384x3x16),
    TRef.binary φ.v121 φ.v123 φ.v124 Host.shli,
    TRef.nullary φ.c_32 (constantI S_ 32 16#32),
    TRef.unary φ.c_32 φ.v125 (broadcastInDim S16384x3x16 ![] bcast_S_S16384x3x16),
    TRef.binary φ.v121 φ.v125 φ.v126 Host.shrui,
    TRef.binary φ.v124 φ.v126 φ.v127 ori,
    TRef.binary φ.v122 φ.v127 φ.v128 xori,
    TRef.binary φ.v122 φ.v128 φ.v129 addi,
    TRef.nullary φ.c_33 (constantI S_ 32 24#32),
    TRef.unary φ.c_33 φ.v130 (broadcastInDim S16384x3x16 ![] bcast_S_S16384x3x16),
    TRef.binary φ.v128 φ.v130 φ.v131 Host.shli,
    TRef.nullary φ.c_34 (constantI S_ 32 8#32),
    TRef.unary φ.c_34 φ.v132 (broadcastInDim S16384x3x16 ![] bcast_S_S16384x3x16),
    TRef.binary φ.v128 φ.v132 φ.v133 Host.shrui,
    TRef.binary φ.v131 φ.v133 φ.v134 ori,
    TRef.binary φ.v129 φ.v134 φ.v135 xori,
    TRef.unary arg1 φ.v136 (broadcastInDim S16384x3x16 ![] bcast_S_S16384x3x16),
    TRef.binary φ.v129 φ.v136 φ.v137 addi,
    TRef.unary φ.v1 φ.v138 (broadcastInDim S16384x3x16 ![] bcast_S_S16384x3x16),
    TRef.binary φ.v135 φ.v138 φ.v139 addi,
    TRef.nullary φ.c_35 (constantI S_ 32 4#32),
    TRef.unary φ.c_35 φ.v140 (broadcastInDim S16384x3x16 ![] bcast_S_S16384x3x16),
    TRef.binary φ.v139 φ.v140 φ.v141 addi,
    TRef.binary φ.v137 φ.v141 φ.v142 addi ]

def wordOps3 (arg0 arg1 : TRef sig ⟨S_, .i32⟩) (arg2 arg3 : TRef sig ⟨S16384x3x16, .i32⟩) (φ : fn_threefry2x32.Bufs) : List (HloOp τ sig (Elt F)) :=
  [ TRef.nullary φ.c_36 (constantI S_ 32 13#32),
    TRef.unary φ.c_36 φ.v143 (broadcastInDim S16384x3x16 ![] bcast_S_S16384x3x16),
    TRef.binary φ.v141 φ.v143 φ.v144 Host.shli,
    TRef.nullary φ.c_37 (constantI S_ 32 19#32),
    TRef.unary φ.c_37 φ.v145 (broadcastInDim S16384x3x16 ![] bcast_S_S16384x3x16),
    TRef.binary φ.v141 φ.v145 φ.v146 Host.shrui,
    TRef.binary φ.v144 φ.v146 φ.v147 ori,
    TRef.binary φ.v142 φ.v147 φ.v148 xori,
    TRef.binary φ.v142 φ.v148 φ.v149 addi,
    TRef.nullary φ.c_38 (constantI S_ 32 15#32),
    TRef.unary φ.c_38 φ.v150 (broadcastInDim S16384x3x16 ![] bcast_S_S16384x3x16),
    TRef.binary φ.v148 φ.v150 φ.v151 Host.shli,
    TRef.nullary φ.c_39 (constantI S_ 32 17#32),
    TRef.unary φ.c_39 φ.v152 (broadcastInDim S16384x3x16 ![] bcast_S_S16384x3x16),
    TRef.binary φ.v148 φ.v152 φ.v153 Host.shrui,
    TRef.binary φ.v151 φ.v153 φ.v154 ori,
    TRef.binary φ.v149 φ.v154 φ.v155 xori,
    TRef.binary φ.v149 φ.v155 φ.v156 addi,
    TRef.nullary φ.c_40 (constantI S_ 32 26#32),
    TRef.unary φ.c_40 φ.v157 (broadcastInDim S16384x3x16 ![] bcast_S_S16384x3x16),
    TRef.binary φ.v155 φ.v157 φ.v158 Host.shli,
    TRef.nullary φ.c_41 (constantI S_ 32 6#32),
    TRef.unary φ.c_41 φ.v159 (broadcastInDim S16384x3x16 ![] bcast_S_S16384x3x16),
    TRef.binary φ.v155 φ.v159 φ.v160 Host.shrui,
    TRef.binary φ.v158 φ.v160 φ.v161 ori,
    TRef.binary φ.v156 φ.v161 φ.v162 xori,
    TRef.binary φ.v156 φ.v162 φ.v163 addi,
    TRef.nullary φ.c_42 (constantI S_ 32 6#32),
    TRef.unary φ.c_42 φ.v164 (broadcastInDim S16384x3x16 ![] bcast_S_S16384x3x16),
    TRef.binary φ.v162 φ.v164 φ.v165 Host.shli,
    TRef.nullary φ.c_43 (constantI S_ 32 26#32),
    TRef.unary φ.c_43 φ.v166 (broadcastInDim S16384x3x16 ![] bcast_S_S16384x3x16),
    TRef.binary φ.v162 φ.v166 φ.v167 Host.shrui,
    TRef.binary φ.v165 φ.v167 φ.v168 ori,
    TRef.binary φ.v163 φ.v168 φ.v169 xori,
    TRef.unary φ.v1 φ.v170 (broadcastInDim S16384x3x16 ![] bcast_S_S16384x3x16),
    TRef.binary φ.v163 φ.v170 φ.v171 addi,
    TRef.unary arg0 φ.v172 (broadcastInDim S16384x3x16 ![] bcast_S_S16384x3x16),
    TRef.binary φ.v169 φ.v172 φ.v173 addi,
    TRef.nullary φ.c_44 (constantI S_ 32 5#32),
    TRef.unary φ.c_44 φ.v174 (broadcastInDim S16384x3x16 ![] bcast_S_S16384x3x16),
    TRef.binary φ.v173 φ.v174 φ.v175 addi ]

/-- The top 23 bits of each word. -/
def bitOps : List (HloOp τ sig (Elt F)) :=
  [ StableHlo.binary main_v45_0 main_v45_1 main_v46 (xori : (⟨S16384x3x16, .i32⟩ : BufTy).Contents (Elt F) → (⟨S16384x3x16, .i32⟩ : BufTy).Contents (Elt F) → (⟨S16384x3x16, .i32⟩ : BufTy).Contents (Elt F)),
    StableHlo.nullary main_c_8 (constantI S_ 32 9#32),
    StableHlo.unary main_c_8 main_v47 (broadcastInDim S16384x3x16 ![] bcast_S_S16384x3x16 : (⟨S_, .i32⟩ : BufTy).Contents (Elt F) → (⟨S16384x3x16, .i32⟩ : BufTy).Contents (Elt F)),
    StableHlo.binary main_v46 main_v47 main_v48 (Host.shrui : (⟨S16384x3x16, .i32⟩ : BufTy).Contents (Elt F) → (⟨S16384x3x16, .i32⟩ : BufTy).Contents (Elt F) → (⟨S16384x3x16, .i32⟩ : BufTy).Contents (Elt F)) ]

/-- The noisy log-probabilities. -/
def noiseOps : List (HloOp τ sig (Elt F)) :=
  [ StableHlo.nullary main_c_9 (constantI S_ 32 1065353216#32),
    StableHlo.unary main_c_9 main_v49 (broadcastInDim S16384x3x16 ![] bcast_S_S16384x3x16 : (⟨S_, .i32⟩ : BufTy).Contents (Elt F) → (⟨S16384x3x16, .i32⟩ : BufTy).Contents (Elt F)),
    StableHlo.binary main_v48 main_v49 main_v50 (ori : (⟨S16384x3x16, .i32⟩ : BufTy).Contents (Elt F) → (⟨S16384x3x16, .i32⟩ : BufTy).Contents (Elt F) → (⟨S16384x3x16, .i32⟩ : BufTy).Contents (Elt F)),
    StableHlo.unary main_v50 main_v51 (bitcastToFloat .f32 : (⟨S16384x3x16, .i32⟩ : BufTy).Contents (Elt F) → (⟨S16384x3x16, .f32⟩ : BufTy).Contents (Elt F)),
    StableHlo.nullary main_cst_10 (constant S_ .f32 0x3F800000#32),
    StableHlo.unary main_cst_10 main_v52 (broadcastInDim S16384x3x16 ![] bcast_S_S16384x3x16 : (⟨S_, .f32⟩ : BufTy).Contents (Elt F) → (⟨S16384x3x16, .f32⟩ : BufTy).Contents (Elt F)),
    StableHlo.binary main_v51 main_v52 main_v53 (subf : (⟨S16384x3x16, .f32⟩ : BufTy).Contents (Elt F) → (⟨S16384x3x16, .f32⟩ : BufTy).Contents (Elt F) → (⟨S16384x3x16, .f32⟩ : BufTy).Contents (Elt F)),
    StableHlo.nullary main_cst_11 (constant S_ .f32 0x3F800000#32),
    StableHlo.unary main_cst_11 main_v54 (broadcastInDim S16384x3x16 ![] bcast_S_S16384x3x16 : (⟨S_, .f32⟩ : BufTy).Contents (Elt F) → (⟨S16384x3x16, .f32⟩ : BufTy).Contents (Elt F)),
    StableHlo.binary main_v53 main_v54 main_v55 (mulf : (⟨S16384x3x16, .f32⟩ : BufTy).Contents (Elt F) → (⟨S16384x3x16, .f32⟩ : BufTy).Contents (Elt F) → (⟨S16384x3x16, .f32⟩ : BufTy).Contents (Elt F)),
    StableHlo.nullary main_cst_12 (constant S_ .f32 0x00800000#32),
    StableHlo.unary main_cst_12 main_v56 (broadcastInDim S16384x3x16 ![] bcast_S_S16384x3x16 : (⟨S_, .f32⟩ : BufTy).Contents (Elt F) → (⟨S16384x3x16, .f32⟩ : BufTy).Contents (Elt F)),
    StableHlo.binary main_v55 main_v56 main_v57 (addf : (⟨S16384x3x16, .f32⟩ : BufTy).Contents (Elt F) → (⟨S16384x3x16, .f32⟩ : BufTy).Contents (Elt F) → (⟨S16384x3x16, .f32⟩ : BufTy).Contents (Elt F)),
    StableHlo.nullary main_cst_13 (constant S_ .f32 0x00800000#32),
    StableHlo.unary main_cst_13 main_v58 (broadcastInDim S16384x3x16 ![] bcast_S_S16384x3x16 : (⟨S_, .f32⟩ : BufTy).Contents (Elt F) → (⟨S16384x3x16, .f32⟩ : BufTy).Contents (Elt F)),
    StableHlo.binary main_v58 main_v57 main_v59 (maximumf : (⟨S16384x3x16, .f32⟩ : BufTy).Contents (Elt F) → (⟨S16384x3x16, .f32⟩ : BufTy).Contents (Elt F) → (⟨S16384x3x16, .f32⟩ : BufTy).Contents (Elt F)),
    StableHlo.unary main_v59 main_v60 (Host.log : (⟨S16384x3x16, .f32⟩ : BufTy).Contents (Elt F) → (⟨S16384x3x16, .f32⟩ : BufTy).Contents (Elt F)),
    StableHlo.unary main_v60 main_v61 (Host.negf : (⟨S16384x3x16, .f32⟩ : BufTy).Contents (Elt F) → (⟨S16384x3x16, .f32⟩ : BufTy).Contents (Elt F)),
    StableHlo.unary main_v61 main_v62 (Host.log : (⟨S16384x3x16, .f32⟩ : BufTy).Contents (Elt F) → (⟨S16384x3x16, .f32⟩ : BufTy).Contents (Elt F)),
    StableHlo.unary main_v62 main_v63 (Host.negf : (⟨S16384x3x16, .f32⟩ : BufTy).Contents (Elt F) → (⟨S16384x3x16, .f32⟩ : BufTy).Contents (Elt F)),
    StableHlo.nullary main_cst_14 (constant S_ .f32 0x1E3CE508#32),
    StableHlo.unary main_cst_14 main_v64 (broadcastInDim S16384x16 ![] bcast_S_S16384x16 : (⟨S_, .f32⟩ : BufTy).Contents (Elt F) → (⟨S16384x16, .f32⟩ : BufTy).Contents (Elt F)),
    StableHlo.binary main_v18 main_v64 main_v65 (addf : (⟨S16384x16, .f32⟩ : BufTy).Contents (Elt F) → (⟨S16384x16, .f32⟩ : BufTy).Contents (Elt F) → (⟨S16384x16, .f32⟩ : BufTy).Contents (Elt F)),
    StableHlo.unary main_v65 main_v66 (Host.log : (⟨S16384x16, .f32⟩ : BufTy).Contents (Elt F) → (⟨S16384x16, .f32⟩ : BufTy).Contents (Elt F)),
    StableHlo.unary main_v66 main_v67 (broadcastInDim S16384x1x16 ![0, 2] bcast_S16384x16_S16384x1x16_0_2 : (⟨S16384x16, .f32⟩ : BufTy).Contents (Elt F) → (⟨S16384x1x16, .f32⟩ : BufTy).Contents (Elt F)),
    StableHlo.unary main_v67 main_v68 (broadcastInDim S16384x3x16 ![0, 1, 2] bcast_S16384x1x16_S16384x3x16_0_1_2 : (⟨S16384x1x16, .f32⟩ : BufTy).Contents (Elt F) → (⟨S16384x3x16, .f32⟩ : BufTy).Contents (Elt F)),
    StableHlo.binary main_v63 main_v68 main_v69 (addf : (⟨S16384x3x16, .f32⟩ : BufTy).Contents (Elt F) → (⟨S16384x3x16, .f32⟩ : BufTy).Contents (Elt F) → (⟨S16384x3x16, .f32⟩ : BufTy).Contents (Elt F)) ]

/-- The index of the greatest. -/
def argmaxOps (arg0 : TRef sig ⟨S16384x3x16, .f32⟩) (φ : fn_argmax.Bufs) : List (HloOp τ sig (Elt F)) :=
  [ TRef.nullary φ.v0 (iotaInDim S16384x3x16 32 2),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S16384x3x16_S16384x3_d2 h_S_ j).1),
    TRef.quaternary arg0 φ.v0 φ.cst φ.c φ.v1_1 (fun x y u v j => (Host.argReduce reducer_argmax_f32_i32 x y u v reducesTo_S16384x3x16_S16384x3_d2 h_S_ j).2) ]

/-- The whole line. -/
def ops : List (HloOp τ sig (Elt F)) :=
  columnOps ++ (takeOps (.of main_arg1) (.of main_v1) main_call0 ++ (probOps
    ++ (wordOps0 (.of main_v27) (.of main_v29) (.of main_v44) (.of main_v43) main_call1
    ++ (wordOps1 (.of main_v27) (.of main_v29) (.of main_v44) (.of main_v43) main_call1
    ++ (wordOps2 (.of main_v27) (.of main_v29) (.of main_v44) (.of main_v43) main_call1
    ++ (wordOps3 (.of main_v27) (.of main_v29) (.of main_v44) (.of main_v43) main_call1
    ++ (bitOps ++ (noiseOps ++ argmaxOps (.of main_v69) main_call2))))))))

theorem take_eq (arg0 : TRef sig ⟨S1000000x32, .f32⟩) (arg1 : TRef sig ⟨S16384, .i32⟩) (φ : fn_take.Bufs) :
    fn_take.body (F := F) arg0 arg1 φ = StableHlo.seq (takeOps arg0 arg1 φ) := rfl
theorem word_eq0 (arg0 arg1 : TRef sig ⟨S_, .i32⟩) (arg2 arg3 : TRef sig ⟨S16384x3x16, .i32⟩) (φ : fn_threefry2x32.Bufs) :
    fn_threefry2x32.body_part0 (F := F) arg0 arg1 arg2 arg3 φ = StableHlo.seq (wordOps0 arg0 arg1 arg2 arg3 φ) := rfl
theorem word_eq1 (arg0 arg1 : TRef sig ⟨S_, .i32⟩) (arg2 arg3 : TRef sig ⟨S16384x3x16, .i32⟩) (φ : fn_threefry2x32.Bufs) :
    fn_threefry2x32.body_part1 (F := F) arg0 arg1 arg2 arg3 φ = StableHlo.seq (wordOps1 arg0 arg1 arg2 arg3 φ) := rfl
theorem word_eq2 (arg0 arg1 : TRef sig ⟨S_, .i32⟩) (arg2 arg3 : TRef sig ⟨S16384x3x16, .i32⟩) (φ : fn_threefry2x32.Bufs) :
    fn_threefry2x32.body_part2 (F := F) arg0 arg1 arg2 arg3 φ = StableHlo.seq (wordOps2 arg0 arg1 arg2 arg3 φ) := rfl
theorem word_eq3 (arg0 arg1 : TRef sig ⟨S_, .i32⟩) (arg2 arg3 : TRef sig ⟨S16384x3x16, .i32⟩) (φ : fn_threefry2x32.Bufs) :
    fn_threefry2x32.body_part3 (F := F) arg0 arg1 arg2 arg3 φ = StableHlo.seq (wordOps3 arg0 arg1 arg2 arg3 φ) := rfl
theorem argmax_eq (arg0 : TRef sig ⟨S16384x3x16, .f32⟩) (φ : fn_argmax.Bufs) :
    fn_argmax.body (F := F) arg0 φ = StableHlo.seq (argmaxOps arg0 φ) := rfl

theorem part0_eq (d : Dev nD) : main_part0 (F := F) d = (StableHlo.seq columnOps >>= fun _ =>
    fn_take.body (.of main_arg1) (.of main_v1) main_call0 >>= fun _ => StableHlo.seq probOps >>= fun _ =>
    (fn_threefry2x32.body_part0 (.of main_v27) (.of main_v29) (.of main_v44) (.of main_v43) main_call1 >>= fun _ =>
     fn_threefry2x32.body_part1 (.of main_v27) (.of main_v29) (.of main_v44) (.of main_v43) main_call1 >>= fun _ =>
     fn_threefry2x32.body_part2 (.of main_v27) (.of main_v29) (.of main_v44) (.of main_v43) main_call1 >>= fun _ =>
     fn_threefry2x32.body_part3 (.of main_v27) (.of main_v29) (.of main_v44) (.of main_v43) main_call1) >>= fun _ => StableHlo.seq bitOps) := rfl

theorem part1_eq (d : Dev nD) : main_part1 (F := F) d = (StableHlo.seq noiseOps >>= fun _ =>
    fn_argmax.body (.of main_v69) main_call2) := rfl

theorem main_eq (d : Dev nD) : main (F := F) d = StableHlo.seq (ops (F := F)) := by
  show (main_part0 (F := F) d >>= fun _ => main_part1 (F := F) d) = _
  rw [part0_eq, part1_eq, take_eq, word_eq0, word_eq1, word_eq2, word_eq3, argmax_eq]
  unfold ops
  simp only [StableHlo.seq_append, bind_assoc]

/-! ## Every buffer is written once, in order -/

/-- The buffers the line writes, in order. -/
def written : List (Ref sig .tc) :=
  [ main_v0, main_v1, main_call0_c, main_call0_v0, main_call0_v1, main_call0_c_0, main_call0_v2, main_call0_v3, main_call0_v4, main_call0_v5,
    main_call0_c_1, main_call0_c_2, main_call0_v6, main_call0_v7, main_call0_v8, main_call0_v9, main_call0_v10, main_call0_v11, main_call0_c_3,
    main_call0_v12, main_call0_v13, main_call0_v14, main_call0_cst, main_call0_v15, main_v2, main_v3, main_v4, main_v5, main_v6, main_v7, main_cst,
    main_v8, main_cst_0, main_v9, main_v10, main_v11, main_v12, main_v13, main_v14, main_cst_1, main_v15, main_v16, main_v17, main_v18, main_c,
    main_c_2, main_v19, main_v20, main_v21, main_c_3, main_v22, main_v23, main_v24, main_v25, main_v26, main_v27, main_v28, main_v29, main_v30,
    main_v31, main_v32, main_c_4, main_v33, main_v34, main_c_5, main_v35, main_v36, main_c_6, main_v37, main_v38, main_v39, main_v40, main_c_7,
    main_v41, main_v42, main_v43, main_v44, main_call1_v0, main_call1_c, main_call1_v1, main_call1_v2, main_call1_v3, main_call1_v4, main_call1_v5,
    main_call1_v6, main_call1_c_0, main_call1_v7, main_call1_v8, main_call1_c_1, main_call1_v9, main_call1_v10, main_call1_v11, main_call1_v12,
    main_call1_v13, main_call1_c_2, main_call1_v14, main_call1_v15, main_call1_c_3, main_call1_v16, main_call1_v17, main_call1_v18, main_call1_v19,
    main_call1_v20, main_call1_c_4, main_call1_v21, main_call1_v22, main_call1_c_5, main_call1_v23, main_call1_v24, main_call1_v25, main_call1_v26,
    main_call1_v27, main_call1_c_6, main_call1_v28, main_call1_v29, main_call1_c_7, main_call1_v30, main_call1_v31, main_call1_v32, main_call1_v33,
    main_call1_v34, main_call1_v35, main_call1_v36, main_call1_v37, main_call1_c_8, main_call1_v38, main_call1_v39, main_call1_v40, main_call1_c_9,
    main_call1_v41, main_call1_v42, main_call1_c_10, main_call1_v43, main_call1_v44, main_call1_v45, main_call1_v46, main_call1_v47, main_call1_c_11,
    main_call1_v48, main_call1_v49, main_call1_c_12, main_call1_v50, main_call1_v51, main_call1_v52, main_call1_v53, main_call1_v54, main_call1_c_13,
    main_call1_v55, main_call1_v56, main_call1_c_14, main_call1_v57, main_call1_v58, main_call1_v59, main_call1_v60, main_call1_v61, main_call1_c_15,
    main_call1_v62, main_call1_v63, main_call1_c_16, main_call1_v64, main_call1_v65, main_call1_v66, main_call1_v67, main_call1_v68, main_call1_v69,
    main_call1_v70, main_call1_v71, main_call1_c_17, main_call1_v72, main_call1_v73, main_call1_v74, main_call1_c_18, main_call1_v75, main_call1_v76,
    main_call1_c_19, main_call1_v77, main_call1_v78, main_call1_v79, main_call1_v80, main_call1_v81, main_call1_c_20, main_call1_v82, main_call1_v83,
    main_call1_c_21, main_call1_v84, main_call1_v85, main_call1_v86, main_call1_v87, main_call1_v88, main_call1_c_22, main_call1_v89, main_call1_v90,
    main_call1_c_23, main_call1_v91, main_call1_v92, main_call1_v93, main_call1_v94, main_call1_v95, main_call1_c_24, main_call1_v96, main_call1_v97,
    main_call1_c_25, main_call1_v98, main_call1_v99, main_call1_v100, main_call1_v101, main_call1_v102, main_call1_v103, main_call1_v104,
    main_call1_v105, main_call1_c_26, main_call1_v106, main_call1_v107, main_call1_v108, main_call1_c_27, main_call1_v109, main_call1_v110,
    main_call1_c_28, main_call1_v111, main_call1_v112, main_call1_v113, main_call1_v114, main_call1_v115, main_call1_c_29, main_call1_v116,
    main_call1_v117, main_call1_c_30, main_call1_v118, main_call1_v119, main_call1_v120, main_call1_v121, main_call1_v122, main_call1_c_31,
    main_call1_v123, main_call1_v124, main_call1_c_32, main_call1_v125, main_call1_v126, main_call1_v127, main_call1_v128, main_call1_v129,
    main_call1_c_33, main_call1_v130, main_call1_v131, main_call1_c_34, main_call1_v132, main_call1_v133, main_call1_v134, main_call1_v135,
    main_call1_v136, main_call1_v137, main_call1_v138, main_call1_v139, main_call1_c_35, main_call1_v140, main_call1_v141, main_call1_v142,
    main_call1_c_36, main_call1_v143, main_call1_v144, main_call1_c_37, main_call1_v145, main_call1_v146, main_call1_v147, main_call1_v148,
    main_call1_v149, main_call1_c_38, main_call1_v150, main_call1_v151, main_call1_c_39, main_call1_v152, main_call1_v153, main_call1_v154,
    main_call1_v155, main_call1_v156, main_call1_c_40, main_call1_v157, main_call1_v158, main_call1_c_41, main_call1_v159, main_call1_v160,
    main_call1_v161, main_call1_v162, main_call1_v163, main_call1_c_42, main_call1_v164, main_call1_v165, main_call1_c_43, main_call1_v166,
    main_call1_v167, main_call1_v168, main_call1_v169, main_call1_v170, main_v45_0, main_call1_v172, main_call1_v173, main_call1_c_44,
    main_call1_v174, main_v45_1, main_v46, main_c_8, main_v47, main_v48, main_c_9, main_v49, main_v50, main_v51, main_cst_10, main_v52, main_v53,
    main_cst_11, main_v54, main_v55, main_cst_12, main_v56, main_v57, main_cst_13, main_v58, main_v59, main_v60, main_v61, main_v62, main_v63,
    main_cst_14, main_v64, main_v65, main_v66, main_v67, main_v68, main_v69, main_call2_v0, main_call2_cst, main_call2_c, main_call2_v1_0, main_v70 ]

/-- A buffer's number. -/
abbrev num (r : Ref sig .tc) : ℕ := r.idx.val

theorem written_num : written.map num = List.range' 4 335 := by decide +kernel

theorem ops_writes : (ops (F := F)).map HloOp.writes = written.map fun r => {Proc.devRef (τ := τ) .tc r} := rfl

theorem ops_fresh : ∀ op ∈ ops (F := F), op.fresh = ∅ :=
  List.forall_iff_forall_mem.mp (StableHlo.forall_fresh_of_map rfl)

end Cert.Proof.Plain
end
-- ==== Proof.Settled.lean ====
/-
  The reference's run, and its final contents read one operation at a time: a buffer ends at its operation's function of
  the final contents of the buffers that operation reads, since each buffer is written once and read only afterwards.
-/
module

public import proofs.«01_k».proof.Defs
public import proofs.«01_k».proof.Proof.Plain
public import proofs.«01_k».proof.Proof.Gen.Pre_in_range
public import Idealize.ShloMosaic.Lib.Pipeline.Frame
public import Idealize.ShloMosaic.Lib.Quiescent

@[expose] public section

set_option maxRecDepth 65536

noncomputable section

namespace Cert.Proof.Plain

open Cert.ReferenceIdeal Cert.ReferenceIdeal.Gen
open Idealize.ShloMosaic Idealize.ShloMosaic.TcCoe Idealize.SL.Sem
open Idealize.ShloMosaic.StableHlo (TRef)

variable {F : FTy → Type} [FloatOps F]

/-! ## The run -/

theorem ops_sub : (ops (F := F)).Forall fun op => op.bufs ⊆ StableHlo.tcRefs τ sig := by
  unfold ops columnOps takeOps probOps wordOps0 wordOps1 wordOps2 wordOps3 bitOps noiseOps argmaxOps
  simp only [List.forall_append, List.Forall, TRef.nullary, TRef.unary, TRef.binary, TRef.ternary, TRef.quaternary,
    StableHlo.nullary_bufs_sub, StableHlo.unary_bufs_sub, StableHlo.binary_bufs_sub, StableHlo.ternary_bufs_sub,
    StableHlo.quaternary_bufs_sub, StableHlo.reshape_bufs_sub, and_self]

/-- The final contents of a buffer, from the contents `V` at launch. -/
abbrev fin (V : Valuation τ sig (Elt F)) (r : Ref sig .tc) : (Proc.devRef (τ := τ) .tc r).ty.Contents (Elt F) :=
  StableHlo.after ops V (Proc.devRef .tc r)

theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      ∀ (d : Dev nD) (b : Ref sig .tc), r.2.mem ((d.tc : Thread nD τ).loc b) = fin (StableHlo.launchContents m d) b :=
  StableHlo.run_seq (by decide) (by decide) _ _ (fun _ => ops) main_eq (fun _ => ops_sub) m ρ (fun _ => ops_fresh)

/-! ## One operation at a time -/

section Settled

variable (V : Valuation τ sig (Elt F))

theorem num_of_mem_drop {i : ℕ} {r : Ref sig .tc} (h : r ∈ written.drop i) : 4 + i ≤ num r := by
  have h1 : num r ∈ (written.map num).drop i := by rw [← List.map_drop]; exact List.mem_map_of_mem h
  rw [written_num, List.drop_range'] at h1
  have := List.mem_range'_1.mp h1
  omega

/-- A buffer numbered before position `i` is at its final contents there. -/
theorem early (i : ℕ) {r : Ref sig .tc} (h : num r < 4 + i) :
    fin V r = StableHlo.after (ops.take i) V (Proc.devRef .tc r) := by
  have e : ops (F := F) = ops.take i ++ ops.drop i := (List.take_append_drop i ops).symm
  show StableHlo.after ops V _ = _
  conv_lhs => rw [e, Idealize.ShloMosaic.StableHlo.after_append]
  refine StableHlo.after_of_writes_sub (W := written.drop i) _ _ (StableHlo.forall_writes_sub_of_map ?_) fun hm => ?_
  · rw [List.map_drop, List.map_drop, ops_writes]
  · exact absurd (num_of_mem_drop hm) (by omega)

/-- The operation at position `i` sets the buffer numbered `4 + i`. -/
theorem settle (i : ℕ) {op : HloOp τ sig (Elt F)} (hop : ops[i]? = some op) {r : Ref sig .tc} (h : num r = 4 + i) :
    fin V r = op.result (StableHlo.after (ops.take i) V) (Proc.devRef .tc r) := by
  rw [early V (i + 1) (by omega), List.take_succ, hop, Idealize.ShloMosaic.StableHlo.after_append]
  rfl

variable {x a b c e y : Ref sig .tc}

theorem settled0 (i : ℕ) {v : y.ty.Contents (Elt F)} {hy} (hop : ops[i]? = some (StableHlo.nullary y v hy)) (h : num y = 4 + i) :
    fin V y = v := by
  rw [settle V i hop h, StableHlo.nullary_result']
theorem settled1 (i : ℕ) {f : x.ty.Contents (Elt F) → y.ty.Contents (Elt F)} {hx hy} (hop : ops[i]? = some (StableHlo.unary x y f hx hy)) (h : num y = 4 + i)
    (h0 : num x < 4 + i) : fin V y = f (fin V x) := by
  rw [settle V i hop h, StableHlo.unary_result', early V i h0]
theorem settled2 (i : ℕ) {f : a.ty.Contents (Elt F) → b.ty.Contents (Elt F) → y.ty.Contents (Elt F)} {ha hb hy}
    (hop : ops[i]? = some (StableHlo.binary a b y f ha hb hy)) (h : num y = 4 + i)
    (h0 : num a < 4 + i) (h1 : num b < 4 + i) : fin V y = f (fin V a) (fin V b) := by
  rw [settle V i hop h, StableHlo.binary_result', early V i h0, early V i h1]
theorem settled3 (i : ℕ) {f : c.ty.Contents (Elt F) → a.ty.Contents (Elt F) → b.ty.Contents (Elt F) → y.ty.Contents (Elt F)} {hc ha hb hy}
    (hop : ops[i]? = some (StableHlo.ternary c a b y f hc ha hb hy)) (h : num y = 4 + i)
    (h0 : num c < 4 + i) (h1 : num a < 4 + i) (h2 : num b < 4 + i) : fin V y = f (fin V c) (fin V a) (fin V b) := by
  rw [settle V i hop h, StableHlo.ternary_result', early V i h0, early V i h1, early V i h2]
theorem settled4 (i : ℕ) {f : a.ty.Contents (Elt F) → b.ty.Contents (Elt F) → c.ty.Contents (Elt F) → e.ty.Contents (Elt F) → y.ty.Contents (Elt F)} {ha hb hc he hy}
    (hop : ops[i]? = some (StableHlo.quaternary a b c e y f ha hb hc he hy)) (h : num y = 4 + i)
    (h0 : num a < 4 + i) (h1 : num b < 4 + i) (h2 : num c < 4 + i) (h3 : num e < 4 + i) : fin V y = f (fin V a) (fin V b) (fin V c) (fin V e) := by
  rw [settle V i hop h, StableHlo.quaternary_result', early V i h0, early V i h1, early V i h2, early V i h3]
theorem settledR (i : ℕ) {he hn hx hy} (hop : ops[i]? = some (StableHlo.reshape (Val := Elt F) x y he hn hx hy)) (h : num y = 4 + i)
    (h0 : num x < 4 + i) : fin V y = fun j => he ▸ shapeCast y.ty.shape (fin V x) hn j := by
  rw [settle V i hop h, StableHlo.reshape_result', early V i h0]

/-- The arguments are never written. -/
theorem fin_arg (h : num x < 4) : fin V x = V (Proc.devRef .tc x) := by
  rw [early V 0 (by omega)]; rfl

end Settled

/-- The reference's frame. -/
theorem frame_referenceIdeal : Cert.quiescent_ReferenceIdeal := fun m ρ _ =>
  (θ_run Cert.ReferenceIdeal.defs _ _).mono (fun r h => ⟨fun c =>
      ⟨(h c main_arg0).trans (fin_arg _ (by decide)), (h c main_arg1).trans (fin_arg _ (by decide)),
        (h c main_arg2).trans (fin_arg _ (by decide)), (h c main_arg3).trans (fin_arg _ (by decide))⟩,
      sem_eq_zero_of_no_sems (by decide) r.2⟩)
    (run (F := Ideal) m ρ)

end Cert.Proof.Plain
end
-- ==== Proof.Rows.lean ====
/-
  The packed table's entries: an index's row of the table holds, at the sixteen columns of the index's group, the
  embedding's row times the weights plus the bias.
-/
module

public import proofs.«01_k».proof.Proof.Range
public import Idealize.ShloMosaic.Lib.Pointwise
public import Idealize.ShloMosaic.Lib.IdealHost
public import Idealize.ShloMosaic.PureOps.Ideal.Laws

@[expose] public section

set_option maxRecDepth 65536

noncomputable section

namespace Cert.Proof.Token

open Cert.KernelIdeal Cert.KernelIdeal.Gen
open Idealize.ShloMosaic Idealize.ShloMosaic.TcCoe Idealize.ShloMosaic.Tactic

/-! ## The body's value at an index -/

/-- Eight blocks one below the other. -/
def stack (Z : Fin 8 → FVec Ideal S32x8192 .f32) : FVec Ideal S256x8192 .f32 :=
  concatenate S256x8192 0 [⟨S32x8192, Z 0⟩, ⟨S32x8192, Z 1⟩, ⟨S32x8192, Z 2⟩, ⟨S32x8192, Z 3⟩, ⟨S32x8192, Z 4⟩, ⟨S32x8192, Z 5⟩, ⟨S32x8192, Z 6⟩, ⟨S32x8192, Z 7⟩]
    concatenates_S32x8192_S32x8192_S32x8192_S32x8192_S32x8192_S32x8192_S32x8192_S32x8192_S256x8192_d0

theorem stack_at (Z : Fin 8 → FVec Ideal S32x8192 .f32) (p : Fin 256) (r : Fin 8192) :
    stack Z (ix2 p r) = Z ⟨p.val / 32, by omega⟩ (ix2 ⟨p.val % 32, by omega⟩ r) := by
  have hp := p.isLt
  unfold stack
  pointwise
  split_ifs <;> refine congr (congrArg Z (Fin.ext ?_)) (congrArg (ix2 · r) (Fin.ext ?_)) <;> simp <;> omega

/-- The body's operations on a stack. -/
def product (S : FVec Ideal S256x8192 .f32) (w : FVec Ideal S256x128 .f32) (b : FVec Ideal S1x128 .f32) : FVec Ideal S8192x128 .f32 :=
  addf (matmul dot_S256x8192_S256x128_S8192x128_0_0_1_1_n_n none S (shapeCast S256x128 w shapeCasts_S256x128_S256x128) (constant S8192x128 .f32 0x00000000#32))
    (broadcastTo S8192x128 (shapeCast S1x128 b shapeCasts_S1x128_S1x128) broadcasts_S1x128_S8192x128)

theorem product_at (S : FVec Ideal S256x8192 .f32) (w : FVec Ideal S256x128 .f32) (b : FVec Ideal S1x128 .f32) (r : Fin 8192) (q : Fin 128) :
    product S w b (ix2 r q) = (∑ p : Fin 256, S (ix2 p r) * w (ix2 p q)) + b (ix2 0 q) := by
  unfold product
  pointwise

theorem same_block (z : FVec Ideal S32x8192 .f32) : shapeCast S32x8192 z shapeCasts_S32x8192_S32x8192 = z := by
  funext j
  pointwise

theorem packed_eq (Z : Fin 8 → FVec Ideal S32x8192 .f32) (w : FVec Ideal S256x128 .f32) (b : FVec Ideal S1x128 .f32) :
    packed (F := Ideal) Z w b = product (stack Z) w b := by
  have h : packed (F := Ideal) Z w b = product (stack fun g => shapeCast S32x8192 (Z g) shapeCasts_S32x8192_S32x8192) w b := rfl
  rw [h]
  congr 2
  funext g
  exact same_block (Z g)

/-- With block-diagonal weights and a repeated bias, only the column's own block counts. -/
theorem packed_at (Z : Fin 8 → FVec Ideal S32x8192 .f32) (w : FVec Ideal S256x128 .f32) (b : FVec Ideal S1x128 .f32) (W : Fin 16 → Fin 32 → EReal) (B : Fin 16 → EReal)
    (hw : ∀ (p : Fin 256) (q : Fin 128), w (ix2 p q) = (if p.val / 32 = q.val / 16 then 1 else 0) * W ⟨q.val % 16, by omega⟩ ⟨p.val % 32, by omega⟩)
    (hb : ∀ q : Fin 128, b (ix2 0 q) = B ⟨q.val % 16, by omega⟩) (r : Fin 8192) (g : Fin 8) (k : Fin 16) :
    packed (F := Ideal) Z w b (ix2 r ⟨16 * g.val + k.val, by omega⟩) = (∑ t : Fin 32, Z g (ix2 t r) * W k t) + B k := by
  rw [packed_eq, product_at, hb]
  have hk : (⟨(16 * g.val + k.val) % 16, by omega⟩ : Fin 16) = k := Fin.ext (by show (16 * g.val + k.val) % 16 = k.val; omega)
  rw [hk]
  congr 1
  have e : ∀ x : Fin 8 × Fin 32, stack Z (ix2 (finProdFinEquiv x : Fin (8 * 32)) r) * w (ix2 (finProdFinEquiv x : Fin (8 * 32)) ⟨16 * g.val + k.val, by omega⟩)
      = if x.1 = g then Z g (ix2 x.2 r) * W k x.2 else 0 := by
    rintro ⟨h, t⟩
    have hv : (finProdFinEquiv (h, t) : Fin (8 * 32)).val = t.val + 32 * h.val := rfl
    rw [stack_at, hw]
    have h1 : (finProdFinEquiv (h, t) : Fin (8 * 32)).val / 32 = h.val := by rw [hv]; omega
    have h2 : (⟨(finProdFinEquiv (h, t) : Fin (8 * 32)).val % 32, by omega⟩ : Fin 32) = t := Fin.ext (by show _ % 32 = t.val; rw [hv]; omega)
    have h3 : (⟨(finProdFinEquiv (h, t) : Fin (8 * 32)).val / 32, by omega⟩ : Fin 8) = h := Fin.ext h1
    rw [h3, h1]
    have h4 : (16 * g.val + k.val) / 16 = g.val := by omega
    by_cases c : h = g
    · subst c
      rw [if_pos rfl, if_pos (by show h.val = (16 * h.val + k.val) / 16; omega), one_mul]
      exact congrArg₂ (fun (a : Fin 32) (b : Fin 16) => Z h (ix2 a r) * W b a) h2 hk
    · rw [if_neg c, if_neg (by show ¬ h.val = (16 * g.val + k.val) / 16; rw [h4]; exact fun e => c (Fin.ext e)), zero_mul, mul_zero]
  have s : (∑ p : Fin 256, stack Z (ix2 p r) * w (ix2 p ⟨16 * g.val + k.val, by omega⟩))
      = ∑ x : Fin 8 × Fin 32, stack Z (ix2 (finProdFinEquiv x : Fin (8 * 32)) r) * w (ix2 (finProdFinEquiv x : Fin (8 * 32)) ⟨16 * g.val + k.val, by omega⟩) :=
    (Equiv.sum_comp (finProdFinEquiv (m := 8) (n := 32)) fun p : Fin (8 * 32) => stack Z (ix2 p r) * w (ix2 p ⟨16 * g.val + k.val, by omega⟩)).symm
  refine s.trans ?_
  rw [Finset.sum_congr rfl fun x _ => e x, Fintype.sum_prod_type, Finset.sum_eq_single g]
  · exact Finset.sum_congr rfl fun t _ => if_pos rfl
  · exact fun h _ c => Finset.sum_eq_zero fun t _ => if_neg c
  · exact fun h => absurd (Finset.mem_univ g) h

/-! ## The host's arrays -/

variable (m : (ℓ : Loc nD τ sig) → Buf (Elt Ideal) ℓ) (d : Dev nD)

/-- The arguments the table is made of. -/
abbrev embArg : FVec Ideal S1000000x32 .f32 := m ((SparseCore.T d : Thread nD τ).loc main_arg1)
abbrev wgtArg : FVec Ideal S16x32 .f32 := m ((SparseCore.T d : Thread nD τ).loc main_arg2)
abbrev biasArg : FVec Ideal S16 .f32 := m ((SparseCore.T d : Thread nD τ).loc main_arg3)

/-- The number made of an equality of two small counters. -/
theorem eye_at (a b : ℕ) (ha : a < 8) (hb : b < 8) :
    FloatOps.uitofp (F := Ideal) FTy.f32 (IntOp.cmpi CmpIPredicate.eq (IntOp.addi (BitVec.ofNat 32 a) 0#32) (BitVec.ofNat 32 b)) = if a = b then (1 : EReal) else 0 := by
  have z : IntOp.cmpi CmpIPredicate.eq (IntOp.addi (BitVec.ofNat 32 a) 0#32) (BitVec.ofNat 32 b) = if a = b then 1#1 else 0#1 :=
    (by decide +kernel : ∀ a b : Fin 8, IntOp.cmpi CmpIPredicate.eq (IntOp.addi (BitVec.ofNat 32 a.val) 0#32) (BitVec.ofNat 32 b.val) = if a.val = b.val then 1#1 else 0#1) ⟨a, ha⟩ ⟨b, hb⟩
  rw [z]
  split_ifs
  · show (((1#1 : BitVec 1).toNat : ℝ) : EReal) = 1
    simp
  · show (((0#1 : BitVec 1).toNat : ℝ) : EReal) = 0
    simp

theorem embOf_at (t : Fin 32) (n : Fin 1000000) : embOf m d (ix2 t n) = embArg m d (ix2 n t) := by
  show StableHlo.after (prep (F := Ideal)) (StableHlo.launchContents m d) (Proc.devRef .tc main_v2) (ix2 t n) = _
  unfold prep
  after_reads_at

theorem biasOf_at (q : Fin 128) : biasOf m d (ix2 0 q) = biasArg m d (ix1 ⟨q.val % 16, by omega⟩) := by
  show StableHlo.after (prep (F := Ideal)) (StableHlo.launchContents m d) (Proc.devRef .tc main_v19) (ix2 0 q) = _
  unfold prep
  after_reads_at

theorem wgtOf_at (p : Fin 256) (q : Fin 128) : wgtOf m d (ix2 p q)
    = (if p.val / 32 = q.val / 16 then 1 else 0) * wgtArg m d (ix2 ⟨q.val % 16, by omega⟩ ⟨p.val % 32, by omega⟩) := by
  show StableHlo.after (prep (F := Ideal)) (StableHlo.launchContents m d) (Proc.devRef .tc main_v15) (ix2 p q) = _
  unfold prep
  after_reads_at
  exact congrArg (fun x : EReal => x * _) (eye_at (p.val / 32) (q.val / 16) (by omega) (by omega))

/-! ## The gathered entry -/

/-- The entry of a packed table in an index's row, at a column of the index's group. -/
theorem entry_at (A : FVec Ideal S32x1000000 .f32) (w : FVec Ideal S256x128 .f32) (b : FVec Ideal S1x128 .f32) (E : FVec Ideal S1000000x32 .f32)
    (W : FVec Ideal S16x32 .f32) (B : FVec Ideal S16 .f32) (hA : ∀ (t : Fin 32) (n : Fin 1000000), A (ix2 t n) = E (ix2 n t))
    (hw : ∀ (p : Fin 256) (q : Fin 128), w (ix2 p q) = (if p.val / 32 = q.val / 16 then 1 else 0) * W (ix2 ⟨q.val % 16, by omega⟩ ⟨p.val % 32, by omega⟩))
    (hb : ∀ q : Fin 128, b (ix2 0 q) = B (ix1 ⟨q.val % 16, by omega⟩)) (G : FVec Ideal S131072x128 .f32) (hG : ∀ j, Packed A w b j (G j))
    (v : BitVec 32) (h : v.toNat < 1000000) (k : Fin 16) (j : S131072x128.Idx) (h0 : (j 0).val = (rowWord v).toNat)
    (h1 : (j 1).val = 16 * (v.toNat / 8192 % 8) + k.val) : G j = (∑ t : Fin 32, E (ix2 ⟨v.toNat, h⟩ t) * W (ix2 k t)) + B (ix1 k) := by
  obtain ⟨Z, hZ, p⟩ := hG j
  have hr := rowWord_toNat v (by omega)
  rw [p (ix2 ⟨v.toNat % 8192, by omega⟩ ⟨16 * (v.toNat / 8192 % 8) + k.val, by omega⟩) (by show v.toNat % 8192 = _; rw [h0, hr]; omega) h1.symm]
  refine (packed_at Z w b (fun k t => W (ix2 k t)) (fun k => B (ix1 k)) hw hb ⟨v.toNat % 8192, by omega⟩ ⟨v.toNat / 8192 % 8, by omega⟩ k).trans ?_
  refine congrArg (fun x : EReal => x + B (ix1 k)) (Finset.sum_congr rfl fun t _ => congrArg (fun x : EReal => x * W (ix2 k t)) ?_)
  refine (hZ ⟨v.toNat / 8192 % 8, by omega⟩ (ix2 t ⟨v.toNat % 8192, by omega⟩) (ix2 t ⟨v.toNat, h⟩) rfl ?_).trans (hA t ⟨v.toNat, h⟩)
  show v.toNat = ((j 0).val / 8192 * 8 + v.toNat / 8192 % 8) * 8192 + v.toNat % 8192
  rw [h0, hr]
  omega

/-- What the gather brings for a token: its embedding's row times the weights, plus the bias. -/
theorem gathered_at {f : FVec Ideal S16384x128 .f32} (hf : GatheredOf (ixOf m) (TabOf m) d f) (n : Fin 16384)
    (h : (ixOf m d (ix1 n) : BitVec 32).toNat < 1000000) (k : Fin 16) (c : Fin 128) (hc : c.val = 16 * ((ixOf m d (ix1 n) : BitVec 32).toNat / 8192 % 8) + k.val) :
    f (ix2 n c) = (∑ t : Fin 32, embArg m d (ix2 ⟨_, h⟩ t) * wgtArg m d (ix2 k t)) + biasArg m d (ix1 k) := by
  obtain ⟨G, hG, e⟩ := hf (ix2 n c)
  have hl : (rowWord (ixOf m d (ix1 n))).toNat < 131072 := by rw [rowWord_toNat _ (by omega)]; omega
  exact (e (ix1 n) (ix2 ⟨_, hl⟩ c) rfl rfl rfl).trans (entry_at (embOf m d) (wgtOf m d) (biasOf m d) (embArg m d) (wgtArg m d) (biasArg m d) (embOf_at m d) (wgtOf_at m d)
    (biasOf_at m d) G hG (ixOf m d (ix1 n)) h k (ix2 ⟨_, hl⟩ c) rfl hc)

end Cert.Proof.Token
end
-- ==== Proof.Words.lean ====
/-
  The random words: the cipher threefry with the two words 0 and 42 for key, twenty turns of a pair of words with a key
  injected after every fourth, applied to a draw's position.
-/
module

public import Idealize.ShloMosaic.PureOps.Vector

@[expose] public section

set_option maxRecDepth 65536

noncomputable section

namespace Cert.Proof.Words

/-- A pair of words. -/
abbrev Pair := BitVec 32 × BitVec 32

/-- One turn: the sum, and the second word rotated left by `d` of 32, with the sum added bit by bit; `e` is `32 - d`. -/
def turn (d e : ℕ) (p : Pair) : Pair := (p.1 + p.2, (p.1 + p.2) ^^^ ((p.2 <<< d) ||| (p.2 >>> e)))

/-- A key injected: one word to each side, and the injection's number. -/
def inject (a b n : BitVec 32) (p : Pair) : Pair := (p.1 + a, p.2 + b + n)

/-- The four turns of an even round. -/
def even (p : Pair) : Pair := turn 6 26 (turn 26 6 (turn 15 17 (turn 13 19 p)))
/-- The four turns of an odd round. -/
def odd (p : Pair) : Pair := turn 24 8 (turn 16 16 (turn 29 3 (turn 17 15 p)))

/-- The key's third word, from the first two and the cipher's constant. -/
def third : BitVec 32 := 466689008#32

/-- The two words drawn at position `c`. -/
def words (c : BitVec 32) : Pair :=
  inject third 0#32 5#32 (even (inject 42#32 third 4#32 (odd (inject 0#32 42#32 3#32 (even (inject third 0#32 2#32 (odd (inject 42#32 third 1#32 (even (0#32, c + 42#32))))))))))

/-- The one word drawn at position `c`. -/
def word (c : BitVec 32) : BitVec 32 := (words c).1 ^^^ (words c).2

end Cert.Proof.Words
end
-- ==== Proof.Lanewords.lean ====
/-
  The sampling body's vectors of words: at each lane they are the cipher's words at the lane's draw.
-/
module

public import proofs.«01_k».proof.Proof.Words
public import proofs.«01_k».proof.Proof.Sample

@[expose] public section

set_option maxRecDepth 65536

noncomputable section

namespace Cert.Proof.Token

open Cert.KernelIdeal Cert.KernelIdeal.Gen
open Idealize.ShloMosaic
open Cert.Proof.Words

section Lanes
variable (a : BitVec 32) (p q : IVec S1024x96 32) (x : S1024x96.Idx)

/-- The draw's position at a lane: rows are of 48 draws, the second half of the lanes is of the second half of the block. -/
def place (a : BitVec 32) (x : S1024x96.Idx) : BitVec 32 :=
  (a * 2048#32 + (BitVec.ofNat 32 (x 0).val + (if 48 ≤ (x 1).val then 1024#32 else 0#32))) * 48#32
    + (BitVec.ofNat 32 (x 1).val - (if 48 ≤ (x 1).val then 48#32 else 0#32))

theorem lane0 : (k2_pay4 a x, k2_pay5 a x) = turn 13 19 (0#32, k2_pay3 a x) := rfl
theorem lane1 : (k2_pay6 a x, k2_pay7 a x) = turn 15 17 (k2_pay4 a x, k2_pay5 a x) := rfl
theorem lane2 : (k2_pay8 a x, k2_pay9 a x) = turn 26 6 (k2_pay6 a x, k2_pay7 a x) := rfl
theorem lane3 : (k2_pay10 p q x + 42#32, k2_pay11 p q x) = inject 42#32 third 1#32 (turn 6 26 (p x, q x)) := rfl
theorem lane4 : (k2_pay12 p q x, k2_pay13 p q x) = turn 17 15 (k2_pay10 p q x + 42#32, k2_pay11 p q x) := rfl
theorem lane5 : (k2_pay14 p q x, k2_pay15 p q x) = turn 29 3 (k2_pay12 p q x, k2_pay13 p q x) := rfl
theorem lane6 : (k2_pay16 p q x, k2_pay17 p q x) = turn 16 16 (k2_pay14 p q x, k2_pay15 p q x) := rfl
theorem lane7 : (k2_pay19 p q x, k2_pay20 p q x + 2#32) = inject third 0#32 2#32 (turn 24 8 (k2_pay16 p q x, k2_pay17 p q x)) := rfl
theorem lane8 : (k2_pay22 p q x, k2_pay23 p q x) = turn 13 19 (p x, q x + 2#32) := rfl
theorem lane9 : (k2_pay24 p q x, k2_pay25 p q x) = turn 15 17 (k2_pay22 p q x, k2_pay23 p q x) := rfl
theorem lane10 : (k2_pay26 p q x, k2_pay27 p q x) = turn 26 6 (k2_pay24 p q x, k2_pay25 p q x) := rfl
theorem lane11 : (k2_pay28 p q x + 0#32, k2_pay29 p q x) = inject 0#32 42#32 3#32 (turn 6 26 (k2_pay26 p q x, k2_pay27 p q x)) := rfl
theorem lane12 : (k2_pay30 p q x, k2_pay31 p q x) = turn 17 15 (k2_pay28 p q x + 0#32, k2_pay29 p q x) := rfl
theorem lane13 : (k2_pay30 p q x + k2_pay31 p q x, k2_pay34 (k2_pay31 p q) (k2_pay32 p q) k2_pay33 x) = turn 29 3 (k2_pay30 p q x, k2_pay31 p q x) := rfl
theorem lane14 : (k2_pay35 p q k2_pay33 x, k2_pay36 p q k2_pay33 x) = turn 16 16 (q x, k2_pay34 p q k2_pay33 x) := rfl
theorem lane15 : (k2_pay37 p q k2_pay33 x + 42#32, k2_pay38 p q k2_pay33 x) = inject 42#32 third 4#32 (turn 24 8 (k2_pay35 p q k2_pay33 x, k2_pay36 p q k2_pay33 x)) := rfl
theorem lane16 : (k2_pay39 p q k2_pay33 x, k2_pay40 p q k2_pay33 x) = turn 13 19 (k2_pay37 p q k2_pay33 x + 42#32, k2_pay38 p q k2_pay33 x) := rfl
theorem lane17 : (k2_pay41 p q k2_pay33 x, k2_pay42 p q k2_pay33 x) = turn 15 17 (k2_pay39 p q k2_pay33 x, k2_pay40 p q k2_pay33 x) := rfl
theorem lane18 : (k2_pay43 p q k2_pay33 x, k2_pay44 p q k2_pay33 x) = turn 26 6 (k2_pay41 p q k2_pay33 x, k2_pay42 p q k2_pay33 x) := rfl

theorem lane_start : k2_pay3 a x = place a x + 42#32 := by
  have hx : (x 1).val < 96 := (x 1).isLt
  have e : IntOp.cmpi .sge (BitVec.ofNat 32 (x 1).val) 48#32 = if 48 ≤ (x 1).val then 1#1 else 0#1 := by
    revert hx; generalize (x 1).val = n; revert n; decide +kernel
  have i0 : iota .tc S1024x96 32 [0] iota_S1024x96_d0_w32 x = BitVec.ofNat 32 (x 0).val := by
    show BitVec.ofNat 32 (0 * _ + _) = _
    rw [Nat.zero_mul, Nat.zero_add]
  have i1 : iota .tc S1024x96 32 [1] iota_S1024x96_d1_w32 x = BitVec.ofNat 32 (x 1).val := by
    show BitVec.ofNat 32 (0 * _ + _) = _
    rw [Nat.zero_mul, Nat.zero_add]
  simp only [k2_pay3, addi, muli, subi, select, cmpi, broadcast, i0, i1, e]
  unfold place
  by_cases c : 48 ≤ (x 1).val
  · rw [if_pos c, if_pos c, if_pos c]; rfl
  · rw [if_neg c, if_neg c, if_neg c]; rfl

/-- After three even turns of the last round, the two vectors are the cipher's state. -/
theorem lane_words : inject third 0#32 5#32 (turn 6 26 (wordA a x, wordB a x)) = words (place a x) := by
  unfold words even odd
  rw [← lane_start, ← lane0, ← lane1, ← lane2, ← lane3 (k2_pay8 a) (k2_pay9 a), ← lane4, ← lane5, ← lane6, ← lane7]
  have e : ∀ p q : IVec S1024x96 32, (k2_pay43 (k2_pay31 p q) (k2_pay32 p q) k2_pay33 x, k2_pay44 (k2_pay31 p q) (k2_pay32 p q) k2_pay33 x)
      = turn 26 6 (turn 15 17 (turn 13 19 (inject 42#32 third 4#32 (odd (inject 0#32 42#32 3#32 (even (p x, q x + 2#32))))))) := fun p q => by
    unfold even odd
    rw [← lane8, ← lane9, ← lane10, ← lane11, ← lane12, ← lane13]
    rw [show k2_pay30 p q x + k2_pay31 p q x = k2_pay32 p q x from rfl, ← lane14, ← lane15, ← lane16, ← lane17, ← lane18]
  exact congrArg (fun r => inject third 0#32 5#32 (turn 6 26 r)) (e (words31 a).1 (words31 a).2)

end Lanes

end Cert.Proof.Token
end
-- ==== Proof.Pick.lean ====
/-
  A drawn token: of sixteen values, the least index of the greatest. The sampling body takes it as the least, over the
  indices whose value equals the greatest, of the index as a float.
-/
module

public import proofs.«01_k».proof.Proof.Words
public import Idealize.ShloMosaic.Lib.StableHlo.ReadAt
public import Idealize.ShloMosaic.PureOps.Ideal

@[expose] public section

set_option maxRecDepth 65536

noncomputable section

namespace Cert.Proof.Words

open Idealize.ShloMosaic

/-- The greatest of sixteen values. -/
def best (v : Fin 16 → EReal) : EReal := Finset.univ.fold max ⊥ v

theorem le_best (v : Fin 16 → EReal) (k : Fin 16) : v k ≤ best v :=
  Finset.le_fold_max (v k) |>.mpr (.inr ⟨k, Finset.mem_univ k, le_refl _⟩)

theorem best_attained (v : Fin 16 → EReal) : ∃ k, v k = best v := by
  obtain ⟨k, _, hk⟩ := Finset.exists_max_image Finset.univ v ⟨0, Finset.mem_univ 0⟩
  exact ⟨k, le_antisymm (le_best v k) (Finset.fold_max_le _ |>.mpr ⟨bot_le, fun i hi => hk i hi⟩)⟩

/-- `t` is the word of the least index of the greatest value. -/
def Picks (v : Fin 16 → EReal) (t : BitVec 32) : Prop :=
  ∃ k : Fin 16, t = BitVec.ofNat 32 k.val ∧ v k = best v ∧ ∀ i, v i = best v → k ≤ i

theorem Picks.unique {v : Fin 16 → EReal} {s t : BitVec 32} (hs : Picks v s) (ht : Picks v t) : s = t := by
  obtain ⟨a, rfl, ha, la⟩ := hs
  obtain ⟨b, rfl, hb, lb⟩ := ht
  rw [le_antisymm (la b hb) (lb a ha)]

/-- The token, as the sampling body takes it. -/
def tok (v : Fin 16 → EReal) : BitVec 32 :=
  Ideal.fptosi 32 (Finset.univ.fold min ⊤ fun k : Fin 16 => if v k = best v then (((k.val : ℕ) : ℝ) : EReal) else ((16 : ℝ) : EReal))

theorem fptosi_nat (k : Fin 16) : Ideal.fptosi 32 (((k.val : ℕ) : ℝ) : EReal) = BitVec.ofNat 32 k.val := by
  have h : (0 : ℝ) ≤ ((k.val : ℕ) : ℝ) := Nat.cast_nonneg _
  unfold Ideal.fptosi
  rw [Ideal.toIntClamped_coe, if_pos h, Int.floor_natCast]
  have e : max (-((2 ^ (32 - 1) : ℕ) : ℤ)) (min (((2 ^ (32 - 1) : ℕ) : ℤ) - 1) ((k.val : ℕ) : ℤ)) = ((k.val : ℕ) : ℤ) := by
    have := k.isLt; omega
  rw [e]; rfl

theorem tok_picks (v : Fin 16 → EReal) : Picks v (tok v) := by
  obtain ⟨k, hk, least⟩ : ∃ k, v k = best v ∧ ∀ i, v i = best v → k ≤ i := by
    have h := best_attained v
    classical
    have hne : (Finset.univ.filter fun k => v k = best v).Nonempty := by
      obtain ⟨k, hk⟩ := h; exact ⟨k, Finset.mem_filter.mpr ⟨Finset.mem_univ k, hk⟩⟩
    refine ⟨_, (Finset.mem_filter.mp (Finset.min'_mem _ hne)).2, fun i hi => Finset.min'_le _ _ (Finset.mem_filter.mpr ⟨Finset.mem_univ i, hi⟩)⟩
  refine ⟨k, ?_, hk, least⟩
  have e : (Finset.univ.fold min ⊤ fun k : Fin 16 => if v k = best v then (((k.val : ℕ) : ℝ) : EReal) else ((16 : ℝ) : EReal)) = (((k.val : ℕ) : ℝ) : EReal) := by
    apply le_antisymm
    · exact Finset.fold_min_le _ |>.mpr (.inr ⟨k, Finset.mem_univ k, by rw [if_pos hk]⟩)
    · refine Finset.le_fold_min _ |>.mpr ⟨le_top, fun i _ => ?_⟩
      by_cases hi : v i = best v
      · rw [if_pos hi]; exact_mod_cast least i hi
      · rw [if_neg hi]; have := k.isLt; exact_mod_cast (by omega : k.val ≤ 16)
  unfold tok
  rw [e, fptosi_nat]

/-! ## The noise and the probabilities -/

/-- The float pattern `b`. -/
abbrev flt (b : BitVec 32) : EReal := Ideal.ofBits .f32 b

/-- The noise a word gives: a uniform float from its upper 23 bits, then minus the logarithm of minus its logarithm. -/
def noise (w : BitVec 32) : EReal :=
  -(Ideal.log (-(Ideal.log (max (flt 0x00800000#32)
    ((flt ((w >>> 9) ||| 1065353216#32) - flt 0x3F800000#32) * flt 0x3F800000#32 + flt 0x00800000#32)))))

/-- The logarithm of the softmax of sixteen logits, a small constant added. -/
def lprob (l : Fin 16 → EReal) (k : Fin 16) : EReal :=
  Ideal.log (Ideal.div (Ideal.exp (l k - best l)) (∑ i, Ideal.exp (l i - best l)) + flt 0x1E3CE508#32)

theorem flt_bot : flt 0xFF800000#32 = ⊥ := by simp [flt, Ideal.ofBits, Ideal.ieee]
theorem flt_top : flt 0x7F800000#32 = ⊤ := by simp [flt, Ideal.ofBits, Ideal.ieee]
theorem flt_sixteen : flt 0x41800000#32 = ((16 : ℝ) : EReal) := by
  simp [flt, Ideal.ofBits, Ideal.ieee]
  rw [← EReal.coe_mul]
  congr 1
  norm_num

end Cert.Proof.Words
end
-- ==== Proof.Lanes.lean ====
/-
  The sampling body at one token: the token it writes for a row and a draw is taken from the row's sixteen values
  "logarithm plus noise", the noise of the words at the draw's positions.
-/
module

public import proofs.«01_k».proof.Proof.Lanewords
public import proofs.«01_k».proof.Proof.Pick
public import Idealize.ShloMosaic.PureOps.Ideal.Laws
public import Idealize.ShloMosaic.Lib.Pointwise.Reduce

@[expose] public section

set_option maxRecDepth 65536

noncomputable section

namespace Cert.Proof.Token

open Cert.KernelIdeal Cert.KernelIdeal.Gen
open Idealize.ShloMosaic Idealize.ShloMosaic.Tactic
open Cert.Proof.Words

/-! ## The noisy values -/

section Noisy
variable (l : FVec Ideal S2048x16 .f32) (p q : IVec S1024x96 32) (x : S1024x96.Idx)

/-- The logarithms in the layout of the lanes: three copies of the first half of the rows, three of the second. -/
def spread (l : FVec Ideal S2048x16 .f32) : FVec Ideal S1024x96 .f32 :=
  let u := extractStridedSlice S1024x16 ![0, 0] l slices_S2048x16_o0_0_S1024x16
  let v := extractStridedSlice S1024x16 ![1024, 0] l slices_S2048x16_o1024_0_S1024x16
  concatenate S1024x96 1 [⟨S1024x16, u⟩, ⟨S1024x16, u⟩, ⟨S1024x16, u⟩, ⟨S1024x16, v⟩, ⟨S1024x16, v⟩, ⟨S1024x16, v⟩]
    concatenates_S1024x16_S1024x16_S1024x16_S1024x16_S1024x16_S1024x16_S1024x96_d1

theorem spread_at : spread l x = l (ix2 ⟨(x 0).val + (if 48 ≤ (x 1).val then 1024 else 0), by have := (x 0).isLt; simp at *; split <;> omega⟩
    ⟨(x 1).val % 16, Nat.mod_lt _ (by decide)⟩) := by
  have h0 : (x 0).val < 1024 := (x 0).isLt
  have h1 : (x 1).val < 96 := (x 1).isLt
  unfold spread
  pointwise
  split_ifs <;> first | (exfalso; omega) | (congr 1; apply congrArg₂ <;> (apply Fin.ext; simp; try (first | omega | (split <;> omega))))

/-- The bits of the uniform floats, as the body's operations. -/
def mantissa (p q : IVec S1024x96 32) : IVec S1024x96 32 :=
  let s := addi p q
  let r := xori s (ori (shli q (broadcast S1024x96 6#32)) (shrui q (broadcast S1024x96 26#32)))
  ori (shrui (xori (addi s (broadcast S1024x96 466689008#32)) (addi (addi r (broadcast S1024x96 0#32)) (broadcast S1024x96 5#32))) (broadcast S1024x96 9#32))
    (broadcast S1024x96 1065353216#32)

theorem mantissa_at : mantissa p q x = (((inject third 0#32 5#32 (turn 6 26 (p x, q x))).1 ^^^ (inject third 0#32 5#32 (turn 6 26 (p x, q x))).2) >>> 9) ||| 1065353216#32 := rfl

/-- The noise of given bits, as the body's operations. -/
def fuzz (b : IVec S1024x96 32) : FVec Ideal S1024x96 .f32 :=
  let z := broadcast S1024x96 (Scalar.ofBits (F := Ideal) .f32 0x00000000#32)
  let o := broadcast S1024x96 (Scalar.ofBits (F := Ideal) .f32 0x3F800000#32)
  let t := broadcast S1024x96 (Scalar.ofBits (F := Ideal) .f32 0x00800000#32)
  subf z (log (subf z (log (maximumf t (addf (mulf (subf (bitcastToFloat .f32 b) o) o) t)))))

theorem fuzz_at (b : IVec S1024x96 32) : fuzz b x = flt 0x00000000#32 - Ideal.log (flt 0x00000000#32 - Ideal.log (max (flt 0x00800000#32)
    ((flt (b x) - flt 0x3F800000#32) * flt 0x3F800000#32 + flt 0x00800000#32))) := rfl

theorem noisy_eq : k2_pay45 l p q = addf (spread l) (fuzz (mantissa p q)) := rfl

theorem noisy_at : k2_pay45 l p q x = spread l x
    + noise ((inject third 0#32 5#32 (turn 6 26 (p x, q x))).1 ^^^ (inject third 0#32 5#32 (turn 6 26 (p x, q x))).2) := by
  rw [noisy_eq]
  show spread l x + fuzz (mantissa p q) x = _
  rw [fuzz_at, mantissa_at]
  unfold noise
  rw [show flt 0x00000000#32 = 0 from Ideal.ofBits_zero_f32, zero_sub, zero_sub]

end Noisy

/-! ## The tokens of a group of lanes -/

theorem top16 (x : FVec Ideal S1024x16 .f32) (h1 h2) (i : S1024.Idx) :
    multiReduction .maximumf [1] S1024 x 0xFF800000#32 reduces_S1024x16_S1024 h1 h2 i = best fun k => x (ix2 (i 0) k) := by
  unfold best
  rw [← flt_bot, multiReduction_maximumf_eq_fold]
  exact Shape.Reduces.fold_fiber_r2_a1 reduces_S1024x16_S1024 i max _ x

theorem low16 (x : FVec Ideal S1024x16 .f32) (h1 h2) (i : S1024.Idx) :
    multiReduction .minimumf [1] S1024 x 0x7F800000#32 reduces_S1024x16_S1024 h1 h2 i = Finset.univ.fold min ⊤ fun k : Fin 16 => x (ix2 (i 0) k) := by
  rw [← flt_top, multiReduction_minimumf_eq_fold]
  exact Shape.Reduces.fold_fiber_r2_a1 reduces_S1024x16_S1024 i min _ x

/-- A vector stood up as a column and spread along sixteen lanes. -/
theorem column_at (y : FVec Ideal S1024 .f32) (i : S1024.Idx) (k : Fin 16) :
    broadcastTo S1024x16 (shapeCast S1024x1 y shapeCasts_S1024_S1024x1) broadcasts_S1024x1_S1024x16 (ix2 (i 0) k) = y i := by
  pointwise

/-- The token of row `i` of a block of sixteen lanes, as the body's operations. -/
def drawOf (x : FVec Ideal S1024x16 .f32) : IVec S1024 32 :=
  fptosi 32 (multiReduction .minimumf [1] S1024 (select (cmpf .oeq x (broadcastTo S1024x16 (shapeCast S1024x1
    (multiReduction .maximumf [1] S1024 x 0xFF800000#32 reduces_S1024x16_S1024 (.inl rfl) rfl) shapeCasts_S1024_S1024x1) broadcasts_S1024x1_S1024x16))
    (k2_pay46 (F := Ideal)) (broadcast S1024x16 (flt 0x41800000#32))) 0x7F800000#32 reduces_S1024x16_S1024 (.inl rfl) rfl)

theorem drawOf_at (x : FVec Ideal S1024x16 .f32) (i : S1024.Idx) : drawOf x i = tok fun k => x (ix2 (i 0) k) := by
  have h : drawOf x i = Ideal.fptosi 32 (multiReduction .minimumf [1] S1024 (select (cmpf .oeq x (broadcastTo S1024x16 (shapeCast S1024x1
    (multiReduction .maximumf [1] S1024 x 0xFF800000#32 reduces_S1024x16_S1024 (.inl rfl) rfl) shapeCasts_S1024_S1024x1) broadcasts_S1024x1_S1024x16))
    (k2_pay46 (F := Ideal)) (broadcast S1024x16 (flt 0x41800000#32))) 0x7F800000#32 reduces_S1024x16_S1024 (.inl rfl) rfl i) := rfl
  rw [h]
  refine congrArg (Ideal.fptosi 32) ((low16 _ _ _ i).trans ?_)
  refine congrArg (fun f => Finset.univ.fold min ⊤ f) ?_
  funext k
  have e : broadcastTo S1024x16 (shapeCast S1024x1
      (multiReduction .maximumf [1] S1024 x 0xFF800000#32 reduces_S1024x16_S1024 (.inl rfl) rfl) shapeCasts_S1024_S1024x1) broadcasts_S1024x1_S1024x16 (ix2 (i 0) k)
      = best fun k => x (ix2 (i 0) k) := (column_at _ i k).trans (top16 x _ _ i)
  have g : k2_pay46 (F := Ideal) (ix2 (i 0) k) = (((k.val : ℕ) : ℝ) : EReal) := by
    have i1 : iota .tc S1024x16 32 [1] iota_S1024x16_d1_w32 (ix2 (i 0) k) = BitVec.ofNat 32 k.val := by
      show BitVec.ofNat 32 (0 * _ + _) = _
      rw [Nat.zero_mul, Nat.zero_add]; rfl
    show (((iota .tc S1024x16 32 [1] iota_S1024x16_d1_w32 (ix2 (i 0) k)).toInt : ℝ) : EReal) = _
    rw [i1]
    have : (BitVec.ofNat 32 k.val).toInt = (k.val : ℤ) := (by decide : ∀ k : Fin 16, (BitVec.ofNat 32 k.val).toInt = (k.val : ℤ)) k
    rw [this]; norm_cast
  show Scalar.select (Ideal.cmp .oeq (x (ix2 (i 0) k)) _) (k2_pay46 (F := Ideal) (ix2 (i 0) k)) (flt 0x41800000#32) = _
  rw [e, g, flt_sixteen]
  unfold Scalar.select Ideal.cmp
  by_cases c : x (ix2 (i 0) k) = best fun k => x (ix2 (i 0) k)
  · rw [if_pos c, if_pos]; simp [c]
  · rw [if_neg c, if_neg]; simp [c]

/-! ## One token of a block -/

section Drawn
variable (a : BitVec 32) (l : FVec Ideal S2048x16 .f32)

/-- The noisy values of a block. -/
def noisy (a : BitVec 32) (l : FVec Ideal S2048x16 .f32) : FVec Ideal S1024x96 .f32 := k2_pay45 l (wordA a) (wordB a)

/-- The values one draw of one row chooses among. -/
def choices (a : BitVec 32) (l : FVec Ideal S2048x16 .f32) (r : Fin 2048) (s : Fin 3) (k : Fin 16) : EReal :=
  l (ix2 r k) + noise (word (BitVec.ofNat 32 ((a.toNat * 2048 + r.val) * 48 + s.val * 16 + k.val)))

theorem group_at (r : Fin 1024) (g : Fin 6) (k : Fin 16) (h : a.toNat < 8) :
    noisy a l (ix2 r ⟨g.val * 16 + k.val, by omega⟩)
      = choices a l ⟨r.val + (if 3 ≤ g.val then 1024 else 0), by split <;> omega⟩ ⟨g.val % 3, by omega⟩ k := by
  unfold noisy choices
  rw [noisy_at, spread_at, lane_words]
  have e : place a (ix2 r ⟨g.val * 16 + k.val, by omega⟩)
      = BitVec.ofNat 32 ((a.toNat * 2048 + (r.val + (if 3 ≤ g.val then 1024 else 0))) * 48 + (g.val % 3) * 16 + k.val) := by
    show (a * 2048#32 + (BitVec.ofNat 32 r.val + (if 48 ≤ g.val * 16 + k.val then 1024#32 else 0#32))) * 48#32
      + (BitVec.ofNat 32 (g.val * 16 + k.val) - (if 48 ≤ g.val * 16 + k.val then 48#32 else 0#32)) = _
    have hr := r.isLt
    have hk := k.isLt
    have hg := g.isLt
    apply BitVec.eq_of_toNat_eq
    by_cases c : 3 ≤ g.val
    · rw [if_pos (by omega), if_pos (by omega), if_pos c]
      simp only [BitVec.toNat_add, BitVec.toNat_mul, BitVec.toNat_sub, BitVec.toNat_ofNat]
      omega
    · rw [if_neg (by omega), if_neg (by omega), if_neg c]
      simp only [BitVec.toNat_add, BitVec.toNat_mul, BitVec.toNat_sub, BitVec.toNat_ofNat]
      omega
  rw [e]
  refine congrArg₂ (· + ·) (congrArg l (congrArg₂ ix2 (Fin.ext ?_) (Fin.ext ?_))) rfl
  · show r.val + (if 48 ≤ g.val * 16 + k.val then 1024 else 0) = r.val + (if 3 ≤ g.val then 1024 else 0)
    congr 1
    by_cases c : 3 ≤ g.val
    · rw [if_pos (by omega), if_pos c]
    · rw [if_neg (by omega), if_neg c]
  · show (g.val * 16 + k.val) % 16 = k.val
    omega

/-! The six groups of lanes, one column of tokens each. -/

theorem col0 (v : FVec Ideal S1024x96 .f32) (l' : FVec Ideal S2048x16 .f32) (p q) (hv : v = k2_pay45 l' p q) (i : S1024x1.Idx) :
    k2_pay49 (k2_pay46 (F := Ideal)) (k2_pay47 l' p q) (k2_pay48 (F := Ideal)) i = tok fun k => v (ix2 (i 0) ⟨0 * 16 + k.val, by omega⟩) := by
  subst hv
  have h : k2_pay49 (k2_pay46 (F := Ideal)) (k2_pay47 l' p q) (k2_pay48 (F := Ideal))
    = shapeCast S1024x1 (drawOf (extractStridedSlice S1024x16 ![0, 0] (k2_pay45 l' p q) slices_S1024x96_o0_0_S1024x16)) shapeCasts_S1024_S1024x1 := rfl
  rw [h]
  generalize k2_pay45 l' p q = v
  pointwise
  rw [drawOf_at]
  congr 1
  funext k
  pointwise

theorem col1 (v : FVec Ideal S1024x96 .f32) (i : S1024x1.Idx) :
    k2_pay50 v (k2_pay46 (F := Ideal)) i = tok fun k => v (ix2 (i 0) ⟨1 * 16 + k.val, by omega⟩) := by
  have h : k2_pay50 v (k2_pay46 (F := Ideal))
    = shapeCast S1024x1 (drawOf (extractStridedSlice S1024x16 ![0, 16] v slices_S1024x96_o0_16_S1024x16)) shapeCasts_S1024_S1024x1 := rfl
  rw [h]
  pointwise
  rw [drawOf_at]
  congr 1
  funext k
  pointwise

theorem col2 (v : FVec Ideal S1024x96 .f32) (i : S1024x1.Idx) :
    k2_pay51 v (k2_pay46 (F := Ideal)) i = tok fun k => v (ix2 (i 0) ⟨2 * 16 + k.val, by omega⟩) := by
  have h : k2_pay51 v (k2_pay46 (F := Ideal))
    = shapeCast S1024x1 (drawOf (extractStridedSlice S1024x16 ![0, 32] v slices_S1024x96_o0_32_S1024x16)) shapeCasts_S1024_S1024x1 := rfl
  rw [h]
  pointwise
  rw [drawOf_at]
  congr 1
  funext k
  pointwise

theorem col3 (v : FVec Ideal S1024x96 .f32) (i : S1024x1.Idx) :
    k2_pay52 v (k2_pay46 (F := Ideal)) i = tok fun k => v (ix2 (i 0) ⟨3 * 16 + k.val, by omega⟩) := by
  have h : k2_pay52 v (k2_pay46 (F := Ideal))
    = shapeCast S1024x1 (drawOf (extractStridedSlice S1024x16 ![0, 48] v slices_S1024x96_o0_48_S1024x16)) shapeCasts_S1024_S1024x1 := rfl
  rw [h]
  pointwise
  rw [drawOf_at]
  congr 1
  funext k
  pointwise

theorem col4 (v : FVec Ideal S1024x96 .f32) (i : S1024x1.Idx) :
    k2_pay53 v (k2_pay46 (F := Ideal)) i = tok fun k => v (ix2 (i 0) ⟨4 * 16 + k.val, by omega⟩) := by
  have h : k2_pay53 v (k2_pay46 (F := Ideal))
    = shapeCast S1024x1 (drawOf (extractStridedSlice S1024x16 ![0, 64] v slices_S1024x96_o0_64_S1024x16)) shapeCasts_S1024_S1024x1 := rfl
  rw [h]
  pointwise
  rw [drawOf_at]
  congr 1
  funext k
  pointwise

theorem col5 (v : FVec Ideal S1024x96 .f32) (i : S1024x1.Idx) :
    shapeCast S1024x1 (drawOf (extractStridedSlice S1024x16 ![0, 80] v slices_S1024x96_o0_80_S1024x16)) shapeCasts_S1024_S1024x1 i = tok fun k => v (ix2 (i 0) ⟨5 * 16 + k.val, by omega⟩) := by
  pointwise
  rw [drawOf_at]
  congr 1
  funext k
  pointwise

/-- Six columns of tokens laid side by side and one below the other. -/
def sheet (c0 c1 c2 c3 c4 c5 : IVec S1024x1 32) : IVec S2048x3 32 :=
  concatenate S2048x3 0 [⟨S1024x3, concatenate S1024x3 1 [⟨S1024x1, c0⟩, ⟨S1024x1, c1⟩, ⟨S1024x1, c2⟩] concatenates_S1024x1_S1024x1_S1024x1_S1024x3_d1⟩,
    ⟨S1024x3, concatenate S1024x3 1 [⟨S1024x1, c3⟩, ⟨S1024x1, c4⟩, ⟨S1024x1, c5⟩] concatenates_S1024x1_S1024x1_S1024x1_S1024x3_d1⟩]
    concatenates_S1024x3_S1024x3_S2048x3_d0

/-- A sheet at its positions, each column given by its group. -/
theorem sheet_at (c0 c1 c2 c3 c4 c5 : IVec S1024x1 32) (t : Fin 2048 → Fin 3 → BitVec 32)
    (h0 : ∀ i, c0 i = t ⟨(i 0).val, by have : (i 0).val < 1024 := (i 0).isLt; omega⟩ 0)
    (h1 : ∀ i, c1 i = t ⟨(i 0).val, by have : (i 0).val < 1024 := (i 0).isLt; omega⟩ 1)
    (h2 : ∀ i, c2 i = t ⟨(i 0).val, by have : (i 0).val < 1024 := (i 0).isLt; omega⟩ 2)
    (h3 : ∀ i, c3 i = t ⟨(i 0).val + 1024, by have : (i 0).val < 1024 := (i 0).isLt; omega⟩ 0)
    (h4 : ∀ i, c4 i = t ⟨(i 0).val + 1024, by have : (i 0).val < 1024 := (i 0).isLt; omega⟩ 1)
    (h5 : ∀ i, c5 i = t ⟨(i 0).val + 1024, by have : (i 0).val < 1024 := (i 0).isLt; omega⟩ 2) (R : Fin 2048) (s : Fin 3) :
    sheet c0 c1 c2 c3 c4 c5 (ix2 R s) = t R s := by
  unfold sheet
  pointwise
  have hs := s.isLt
  split_ifs <;> simp only [h0, h1, h2, h3, h4, h5] <;> apply congrArg₂ <;> apply Fin.ext <;> simp <;> omega

theorem tok_group (h : a.toNat < 8) (g : Fin 6) (r : Fin 1024) (R : Fin 2048) (s : Fin 3) (hR : r.val + (if 3 ≤ g.val then 1024 else 0) = R.val)
    (hs : g.val % 3 = s.val) : (tok fun k => noisy a l (ix2 r ⟨g.val * 16 + k.val, by omega⟩)) = tok (choices a l R s) := by
  exact (congrArg tok (funext fun k => group_at a l r g k h)).trans
    (congrArg₂ (fun R s => tok (choices a l R s)) (Fin.ext hR) (Fin.ext hs))

/-- The token of row `R` and draw `s` of a block. -/
theorem drawn_at (h : a.toNat < 8) (R : Fin 2048) (s : Fin 3) : drawn a l (ix2 R s) = tok (choices a l R s) := by
  have e : drawn a l = sheet (k2_pay49 (k2_pay46 (F := Ideal)) (k2_pay47 l (wordA a) (wordB a)) (k2_pay48 (F := Ideal)))
      (k2_pay50 (noisy a l) (k2_pay46 (F := Ideal))) (k2_pay51 (noisy a l) (k2_pay46 (F := Ideal))) (k2_pay52 (noisy a l) (k2_pay46 (F := Ideal)))
      (k2_pay53 (noisy a l) (k2_pay46 (F := Ideal)))
      (shapeCast S1024x1 (drawOf (extractStridedSlice S1024x16 ![0, 80] (noisy a l) slices_S1024x96_o0_80_S1024x16)) shapeCasts_S1024_S1024x1) := rfl
  rw [e]
  refine sheet_at _ _ _ _ _ _ (fun R s => tok (choices a l R s)) ?_ ?_ ?_ ?_ ?_ ?_ R s <;> intro i
  · exact (col0 (noisy a l) l _ _ rfl i).trans (tok_group a l h 0 (i 0) _ _ rfl rfl)
  · exact (col1 (noisy a l) i).trans (tok_group a l h 1 (i 0) _ _ rfl rfl)
  · exact (col2 (noisy a l) i).trans (tok_group a l h 2 (i 0) _ _ rfl rfl)
  · exact (col3 (noisy a l) i).trans (tok_group a l h 3 (i 0) _ _ rfl rfl)
  · exact (col4 (noisy a l) i).trans (tok_group a l h 4 (i 0) _ _ rfl rfl)
  · exact (col5 (noisy a l) i).trans (tok_group a l h 5 (i 0) _ _ rfl rfl)

end Drawn

end Cert.Proof.Token

end
-- ==== Proof.Logs.lean ====
/-
  The sampling body's logarithms: a row of 128 values is narrowed to the sixteen of its index's group, and those to the
  logarithms of their shares.
-/
module

public import proofs.«01_k».proof.Proof.Lanes

@[expose] public section

set_option maxRecDepth 65536

noncomputable section

namespace Cert.Proof.Token

open Cert.KernelIdeal Cert.KernelIdeal.Gen
open Idealize.ShloMosaic Idealize.ShloMosaic.Tactic
open Cert.Proof.Words

/-- Whether bit `m` of the group is set, for every row. -/
def bit (I : IVec S2048x1 32) (m : BitVec 32) : IVec S2048x1 1 :=
  cmpi .ne (andi (shrui (shapeCast S2048x1 I shapeCasts_S2048x1_S2048x1) (broadcast S2048x1 13#32)) (broadcast S2048x1 m)) (broadcast S2048x1 0#32)

theorem bit_at (I : IVec S2048x1 32) (m : BitVec 32) (j : S2048x1.Idx) :
    bit I m j = BitVec.ofBool (decide (((I j >>> 13) &&& m) ≠ 0#32)) := by
  unfold bit
  pointwise
  have e : IntOp.shrui .vector (I j) 13#32 = I j >>> 13 := rfl
  rw [e]
  show BitVec.ofBool (((I j >>> 13) &&& m) != 0#32) = _
  congr 1
  by_cases h : (I j >>> 13) &&& m = 0#32 <;> simp [h]

def half64 (c : IVec S2048x1 1) (w : FVec Ideal S2048x128 .f32) : FVec Ideal S2048x64 .f32 :=
  select (broadcastTo S2048x64 (shapeCast S2048x1 c shapeCasts_S2048x1_S2048x1) broadcasts_S2048x1_S2048x64)
    (extractStridedSlice S2048x64 ![0, 64] w slices_S2048x128_o0_64_S2048x64) (extractStridedSlice S2048x64 ![0, 0] w slices_S2048x128_o0_0_S2048x64)
def half32 (c : IVec S2048x1 1) (w : FVec Ideal S2048x64 .f32) : FVec Ideal S2048x32 .f32 :=
  select (broadcastTo S2048x32 (shapeCast S2048x1 c shapeCasts_S2048x1_S2048x1) broadcasts_S2048x1_S2048x32)
    (extractStridedSlice S2048x32 ![0, 32] w slices_S2048x64_o0_32_S2048x32) (extractStridedSlice S2048x32 ![0, 0] w slices_S2048x64_o0_0_S2048x32)
def half16 (c : IVec S2048x1 1) (w : FVec Ideal S2048x32 .f32) : FVec Ideal S2048x16 .f32 :=
  select (broadcastTo S2048x16 (shapeCast S2048x1 c shapeCasts_S2048x1_S2048x1) broadcasts_S2048x1_S2048x16)
    (extractStridedSlice S2048x16 ![0, 16] w slices_S2048x32_o0_16_S2048x16) (extractStridedSlice S2048x16 ![0, 0] w slices_S2048x32_o0_0_S2048x16)

theorem half64_at (c w r) (k : Fin 64) : half64 c w (ix2 r k) = w (ix2 r ⟨k.val + (if c (ix2 r 0) = 1#1 then 64 else 0), by split <;> omega⟩) := by
  unfold half64
  pointwise
  unfold Scalar.select
  by_cases h : c (ix2 r 0) = 1#1
  · refine (if_pos h).trans (congrArg w (congrArg (ix2 r) (Fin.ext ?_)))
    show 64 + k.val = k.val + (if c (ix2 r 0) = 1#1 then 64 else 0)
    rw [if_pos h, Nat.add_comm]
  · refine (if_neg h).trans (congrArg w (congrArg (ix2 r) (Fin.ext ?_)))
    show k.val = k.val + (if c (ix2 r 0) = 1#1 then 64 else 0)
    rw [if_neg h, Nat.add_zero]
theorem half32_at (c w r) (k : Fin 32) : half32 c w (ix2 r k) = w (ix2 r ⟨k.val + (if c (ix2 r 0) = 1#1 then 32 else 0), by split <;> omega⟩) := by
  unfold half32
  pointwise
  unfold Scalar.select
  by_cases h : c (ix2 r 0) = 1#1
  · refine (if_pos h).trans (congrArg w (congrArg (ix2 r) (Fin.ext ?_)))
    show 32 + k.val = k.val + (if c (ix2 r 0) = 1#1 then 32 else 0)
    rw [if_pos h, Nat.add_comm]
  · refine (if_neg h).trans (congrArg w (congrArg (ix2 r) (Fin.ext ?_)))
    show k.val = k.val + (if c (ix2 r 0) = 1#1 then 32 else 0)
    rw [if_neg h, Nat.add_zero]
theorem half16_at (c w r) (k : Fin 16) : half16 c w (ix2 r k) = w (ix2 r ⟨k.val + (if c (ix2 r 0) = 1#1 then 16 else 0), by split <;> omega⟩) := by
  unfold half16
  pointwise
  unfold Scalar.select
  by_cases h : c (ix2 r 0) = 1#1
  · refine (if_pos h).trans (congrArg w (congrArg (ix2 r) (Fin.ext ?_)))
    show 16 + k.val = k.val + (if c (ix2 r 0) = 1#1 then 16 else 0)
    rw [if_pos h, Nat.add_comm]
  · refine (if_neg h).trans (congrArg w (congrArg (ix2 r) (Fin.ext ?_)))
    show k.val = k.val + (if c (ix2 r 0) = 1#1 then 16 else 0)
    rw [if_neg h, Nat.add_zero]

theorem ofBool_one (p : Prop) [Decidable p] : (BitVec.ofBool (decide p) = 1#1) = p := by
  by_cases h : p <;> simp [h]

/-- Three bits of a word are its group's number. -/
theorem bits_group (v : BitVec 32) (k : ℕ) :
    k + (if (v >>> 13) &&& 1#32 ≠ 0#32 then 16 else 0) + (if (v >>> 13) &&& 2#32 ≠ 0#32 then 32 else 0)
      + (if (v >>> 13) &&& 4#32 ≠ 0#32 then 64 else 0) = 16 * ((v.toNat / 8192) % 8) + k := by
  have hd : (v >>> 13).toNat = v.toNat / 8192 := by rw [BitVec.toNat_ushiftRight, Nat.shiftRight_eq_div_pow]
  rw [← hd]
  generalize v >>> 13 = d
  have he : (d &&& 7#32).toNat = d.toNat % 8 := by
    rw [BitVec.toNat_and]
    exact Nat.and_two_pow_sub_one_eq_mod d.toNat 3
  have h1 : d &&& 1#32 = (d &&& 7#32) &&& 1#32 := by rw [BitVec.and_assoc]; rfl
  have h2 : d &&& 2#32 = (d &&& 7#32) &&& 2#32 := by rw [BitVec.and_assoc]; rfl
  have h4 : d &&& 4#32 = (d &&& 7#32) &&& 4#32 := by rw [BitVec.and_assoc]; rfl
  rw [h1, h2, h4, ← he]
  have hb : (d &&& 7#32).toNat < 8 := by omega
  have hq : d &&& 7#32 = BitVec.ofNat 32 (d &&& 7#32).toNat := by rw [BitVec.ofNat_toNat, BitVec.setWidth_eq]
  generalize (d &&& 7#32).toNat = n at hb hq
  rw [hq]
  have small : ∀ m : Fin 8, (if BitVec.ofNat 32 m.val &&& 1#32 ≠ 0#32 then 16 else 0) + (if BitVec.ofNat 32 m.val &&& 2#32 ≠ 0#32 then 32 else 0)
      + (if BitVec.ofNat 32 m.val &&& 4#32 ≠ 0#32 then 64 else 0) = 16 * m.val := by decide
  have := small ⟨n, hb⟩
  simp only at this
  omega

/-- Each row's sixteen values. -/
def chosen (W : FVec Ideal S2048x128 .f32) (I : IVec S2048x1 32) : FVec Ideal S2048x16 .f32 :=
  half16 (bit I 1#32) (half32 (bit I 2#32) (half64 (bit I 4#32) (shapeCast S2048x128 W shapeCasts_S2048x128_S2048x128)))

theorem chosen_at (W : FVec Ideal S2048x128 .f32) (I : IVec S2048x1 32) (r : Fin 2048) (k : Fin 16) :
    chosen W I (ix2 r k) = W (ix2 r ⟨16 * (((I (ix2 r 0)).toNat / 8192) % 8) + k.val, by omega⟩) := by
  unfold chosen
  rw [half16_at, half32_at, half64_at]
  have hc : shapeCast S2048x128 W shapeCasts_S2048x128_S2048x128 = W := by
    funext j
    pointwise
  rw [hc]
  refine congrArg W (congrArg (ix2 r) (Fin.ext ?_))
  simp only [bit_at, ofBool_one]
  exact bits_group (I (ix2 r 0)) k.val

/-- The logarithms of the shares, as the body's operations. -/
def powers (x : FVec Ideal S2048x16 .f32) : FVec Ideal S2048x16 .f32 :=
  exp (subf x (broadcastTo S2048x16 (shapeCast S2048x1 (multiReduction .maximumf [1] S2048 x 0xFF800000#32 reduces_S2048x16_S2048 (.inl rfl) rfl)
    shapeCasts_S2048_S2048x1) broadcasts_S2048x1_S2048x16))
def shares (e : FVec Ideal S2048x16 .f32) : FVec Ideal S2048x16 .f32 :=
  log (addf (divf e (broadcastTo S2048x16 (shapeCast S2048x1 (multiReduction .add [1] S2048 e 0x00000000#32 reduces_S2048x16_S2048 (.inl rfl) rfl)
    shapeCasts_S2048_S2048x1) broadcasts_S2048x1_S2048x16)) (broadcast S2048x16 (flt 0x1E3CE508#32)))

theorem logs_eq (W : FVec Ideal S2048x128 .f32) (I : IVec S2048x1 32) : k2_pay2 (F := Ideal) W I = shares (powers (chosen W I)) := rfl

theorem column2_at (y : FVec Ideal S2048 .f32) (r : Fin 2048) (k : Fin 16) :
    broadcastTo S2048x16 (shapeCast S2048x1 y shapeCasts_S2048_S2048x1) broadcasts_S2048x1_S2048x16 (ix2 r k) = y (ix1 r) := by
  pointwise

theorem most_at (x : FVec Ideal S2048x16 .f32) (h1 h2) (r : Fin 2048) :
    multiReduction .maximumf [1] S2048 x 0xFF800000#32 reduces_S2048x16_S2048 h1 h2 (ix1 r) = best fun k => x (ix2 r k) := by
  unfold best
  rw [← flt_bot, multiReduction_maximumf_eq_fold]
  exact Shape.Reduces.fold_fiber_r2_a1 reduces_S2048x16_S2048 (ix1 r) max _ x

theorem powers_at (x : FVec Ideal S2048x16 .f32) (r : Fin 2048) (k : Fin 16) :
    powers x (ix2 r k) = Ideal.exp (x (ix2 r k) - best fun k => x (ix2 r k)) :=
  congrArg (fun b => Ideal.exp (x (ix2 r k) - b)) ((column2_at _ r k).trans (most_at x _ _ r))

theorem total_at (e : FVec Ideal S2048x16 .f32) (h1 h2) (r : Fin 2048) :
    multiReduction .add [1] S2048 e 0x00000000#32 reduces_S2048x16_S2048 h1 h2 (ix1 r) = ∑ k : Fin 16, e (ix2 r k) := by
  exact Ideal.reduceAdd_r2_a1 reduces_S2048x16_S2048 e (ix1 r)

theorem shares_at (e : FVec Ideal S2048x16 .f32) (r : Fin 2048) (k : Fin 16) :
    shares e (ix2 r k) = Ideal.log (Ideal.div (e (ix2 r k)) (∑ k : Fin 16, e (ix2 r k)) + flt 0x1E3CE508#32) :=
  congrArg (fun b => Ideal.log (Ideal.div (e (ix2 r k)) b + flt 0x1E3CE508#32)) ((column2_at _ r k).trans (total_at e _ _ r))

theorem logs_at (W : FVec Ideal S2048x128 .f32) (I : IVec S2048x1 32) (r : Fin 2048) (k : Fin 16) :
    k2_pay2 (F := Ideal) W I (ix2 r k)
      = lprob (fun k : Fin 16 => W (ix2 r ⟨16 * (((I (ix2 r 0)).toNat / 8192) % 8) + k.val, by omega⟩)) k := by
  rw [logs_eq, shares_at]
  simp only [powers_at, chosen_at]
  rfl

end Cert.Proof.Token
end
-- ==== Proof.Logits.lean ====
/-
  The reference's logits: each row takes the embedding its last index names, multiplies it by the weights and adds the
  bias.
-/
module

public import proofs.«01_k».proof.Proof.Settled
public import proofs.«01_k».proof.Proof.Pick
public import Idealize.ShloMosaic.PureOps.Ideal.Laws
public import Idealize.ShloMosaic.Lib.Pointwise

@[expose] public section

set_option maxRecDepth 65536

noncomputable section

namespace Cert.Proof.Plain

open Cert.ReferenceIdeal Cert.ReferenceIdeal.Gen
open Idealize.ShloMosaic Idealize.ShloMosaic.TcCoe Idealize.ShloMosaic.Tactic
open Cert.Proof.Words

variable (V : Valuation τ sig (Elt Ideal))

theorem gather_row (x : FVec Ideal S1000000x32 .f32) (idx : IVec S16384x1 32) (n : Fin 16384) (k : Fin 32) :
    Host.gather gather_S1000000x32_S16384x1_S16384x32_1_0_n_n_0_1_132 x idx (ix2 n k)
      = x (ix2 ⟨min (idx (ix2 n 0)).toInt.toNat (1000000 - 1), by omega⟩ k) := by
  unfold Host.gather
  congr 1
  funext a
  match a with
  | ⟨0, _⟩ =>
    apply Fin.ext
    show min (idx _).toInt.toNat (1000000 - 1) + 0 + 0 = _
    have e : gather_S1000000x32_S16384x1_S16384x32_1_0_n_n_0_1_132.siIdx (ix2 n k) ⟨0, by decide⟩ = ix2 n 0 := by
      funext b
      match b with
      | ⟨0, _⟩ => rfl
      | ⟨1, _⟩ => rfl
    exact congrArg (fun i => min (idx i).toInt.toNat (1000000 - 1)) e
  | ⟨1, _⟩ =>
    apply Fin.ext
    show 0 + 0 + k.val = k.val
    omega

/-- The index of row `n`. -/
theorem index_at (n : Fin 16384) : fin V main_v1 (ix1 n) = fin V main_arg0 (ix2 n 199) := by
  rw [settledR V 1 rfl rfl (by decide), settled1 V 0 rfl rfl (by decide)]
  clean_types
  pointwise

/-- The row's number, as the take reads it, given it is a row's. -/
theorem wrap_at (v : IVec S16384 32) (n : Fin 16384) (h : (v (ix1 n)).toNat < 1000000) :
    select (cmpi .slt v (broadcastInDim S16384 ![] bcast_S_S16384 (constantI S_ 32 0#32)))
      (addi v (broadcastInDim S16384 ![] bcast_S_S16384 (constantI S_ 32 1000000#32))) v (ix1 n) = v (ix1 n) := by
  pointwise
  generalize v (ix1 n) = w at h
  have hi : w.toInt = w.toNat := BitVec.toInt_eq_toNat_of_lt (by omega)
  have : IntOp.cmpi .slt w 0#32 = 0#1 := by
    show BitVec.ofBool (w.slt 0#32) = _
    have : w.slt 0#32 = false := by
      rw [← Bool.not_eq_true, BitVec.slt_iff_toInt_lt, hi]
      simp
    rw [this]; rfl
  rw [this]
  rfl

/-! The take's operations, one by one. -/

theorem take_c : fin V main_call0_c = (constantI S_ 32 0#32 : IVec S_ 32) := settled0 V 2 rfl rfl
theorem take_v0 : fin V main_call0_v0 = (broadcastInDim S16384 ![] bcast_S_S16384 (fin V main_call0_c : IVec S_ 32) : IVec S16384 32) := settled1 V 3 rfl rfl (by decide)
theorem take_v1 : fin V main_call0_v1 = (cmpi .slt (fin V main_v1 : IVec S16384 32) (fin V main_call0_v0) : IVec S16384 1) := settled2 V 4 rfl rfl (by decide) (by decide)
theorem take_c_0 : fin V main_call0_c_0 = (constantI S_ 32 1000000#32 : IVec S_ 32) := settled0 V 5 rfl rfl
theorem take_v2 : fin V main_call0_v2 = (broadcastInDim S16384 ![] bcast_S_S16384 (fin V main_call0_c_0 : IVec S_ 32) : IVec S16384 32) := settled1 V 6 rfl rfl (by decide)
theorem take_v3 : fin V main_call0_v3 = (addi (fin V main_v1 : IVec S16384 32) (fin V main_call0_v2) : IVec S16384 32) := settled2 V 7 rfl rfl (by decide) (by decide)
theorem take_v4 : fin V main_call0_v4 = (select (fin V main_call0_v1 : IVec S16384 1) (fin V main_call0_v3) (fin V main_v1) : IVec S16384 32) := settled3 V 8 rfl rfl (by decide) (by decide) (by decide)
theorem take_v5 : fin V main_call0_v5 = (broadcastInDim S16384x1 ![0] bcast_S16384_S16384x1_0 (fin V main_call0_v4 : IVec S16384 32) : IVec S16384x1 32) := settled1 V 9 rfl rfl (by decide)
theorem take_c_1 : fin V main_call0_c_1 = (constantI S1 32 999999#32 : IVec S1 32) := settled0 V 10 rfl rfl
theorem take_c_2 : fin V main_call0_c_2 = (constantI S_ 32 0#32 : IVec S_ 32) := settled0 V 11 rfl rfl
theorem take_v6 : fin V main_call0_v6 = (broadcastInDim S16384x1 ![] bcast_S_S16384x1 (fin V main_call0_c_2 : IVec S_ 32) : IVec S16384x1 32) := settled1 V 12 rfl rfl (by decide)
theorem take_v7 : fin V main_call0_v7 = (cmpi .sge (fin V main_call0_v5 : IVec S16384x1 32) (fin V main_call0_v6) : IVec S16384x1 1) := settled2 V 13 rfl rfl (by decide) (by decide)
theorem take_v8 : fin V main_call0_v8 = (broadcastInDim S1x1 ![1] bcast_S1_S1x1_1 (fin V main_call0_c_1 : IVec S1 32) : IVec S1x1 32) := settled1 V 14 rfl rfl (by decide)
theorem take_v9 : fin V main_call0_v9 = (broadcastInDim S16384x1 ![0, 1] bcast_S1x1_S16384x1_0_1 (fin V main_call0_v8 : IVec S1x1 32) : IVec S16384x1 32) := settled1 V 15 rfl rfl (by decide)
theorem take_v10 : fin V main_call0_v10 = (cmpi .sle (fin V main_call0_v5 : IVec S16384x1 32) (fin V main_call0_v9) : IVec S16384x1 1) := settled2 V 16 rfl rfl (by decide) (by decide)
theorem take_v11 : fin V main_call0_v11 = (andi (fin V main_call0_v7 : IVec S16384x1 1) (fin V main_call0_v10) : IVec S16384x1 1) := settled2 V 17 rfl rfl (by decide) (by decide)
theorem take_c_3 : fin V main_call0_c_3 = (constantI S_ 1 1#1 : IVec S_ 1) := settled0 V 18 rfl rfl
theorem take_v12 : fin V main_call0_v12 = (Host.reduce IntOp.andi (fin V main_call0_v11 : IVec S16384x1 1) (fin V main_call0_c_3 : IVec S_ 1) reducesTo_S16384x1_S16384_d1 h_S_ : IVec S16384 1) := settled2 V 19 rfl rfl (by decide) (by decide)
theorem take_v13 : fin V main_call0_v13 = (Host.gather gather_S1000000x32_S16384x1_S16384x32_1_0_n_n_0_1_132 (fin V main_arg1 : FVec Ideal S1000000x32 .f32) (fin V main_call0_v5 : IVec S16384x1 32) : FVec Ideal S16384x32 .f32) := settled2 V 20 rfl rfl (by decide) (by decide)
theorem take_v14 : fin V main_call0_v14 = (broadcastInDim S16384x32 ![0] bcast_S16384_S16384x32_0 (fin V main_call0_v12 : IVec S16384 1) : IVec S16384x32 1) := settled1 V 21 rfl rfl (by decide)
theorem take_v16 : fin V main_v2 = (select (fin V main_call0_v14 : IVec S16384x32 1) (fin V main_call0_v13) (fin V main_call0_v15) : FVec Ideal S16384x32 .f32) := settled3 V 24 rfl rfl (by decide) (by decide) (by decide)

theorem start_at (n : Fin 16384) (h : (fin V main_v1 (ix1 n) : BitVec 32).toNat < 1000000) : fin V main_call0_v5 (ix2 n 0) = fin V main_v1 (ix1 n) := by
  rw [take_v5, take_v4, take_v1, take_v3, take_v0, take_v2, take_c, take_c_0]
  refine Eq.trans ?_ (wrap_at (fin V main_v1) n h)
  generalize select _ _ _ = z
  pointwise

/-- The take's test, given the row's number is a row's. -/
theorem inside_at (v : IVec S16384x1 32) (n : Fin 16384) (h : (v (ix2 n 0)).toNat < 1000000) :
    Host.reduce IntOp.andi (andi (cmpi .sge v (broadcastInDim S16384x1 ![] bcast_S_S16384x1 (constantI S_ 32 0#32)))
      (cmpi .sle v (broadcastInDim S16384x1 ![0, 1] bcast_S1x1_S16384x1_0_1 (broadcastInDim S1x1 ![1] bcast_S1_S1x1_1 (constantI S1 32 999999#32)))))
      (constantI S_ 1 1#1) reducesTo_S16384x1_S16384_d1 h_S_ (ix1 n) = 1#1 := by
  rw [Host.reduce_eq_fold, Shape.ReducesTo.fold_fiber_r2_a1]
  have e : ∀ k : Fin 1, andi (cmpi .sge v (broadcastInDim S16384x1 ![] bcast_S_S16384x1 (constantI S_ 32 0#32)))
      (cmpi .sle v (broadcastInDim S16384x1 ![0, 1] bcast_S1x1_S16384x1_0_1 (broadcastInDim S1x1 ![1] bcast_S1_S1x1_1 (constantI S1 32 999999#32)))) (ix2 n k) = 1#1 := by
    intro k
    obtain rfl : k = 0 := Subsingleton.elim _ _
    pointwise
    generalize v (ix2 n 0) = w at h
    have hi : w.toInt = w.toNat := BitVec.toInt_eq_toNat_of_lt (by omega)
    have a : IntOp.cmpi .sge w 0#32 = 1#1 := by
      show BitVec.ofBool ((0#32).sle w) = _
      have : (0#32).sle w = true := by
        rw [BitVec.sle_iff_toInt_le, hi]
        simp
      rw [this]; rfl
    have b : IntOp.cmpi .sle w 999999#32 = 1#1 := by
      show BitVec.ofBool (w.sle 999999#32) = _
      have : w.sle 999999#32 = true := by
        rw [BitVec.sle_iff_toInt_le, hi]
        show (w.toNat : ℤ) ≤ 999999
        omega
      rw [this]; rfl
    rw [a, b]; rfl
  have f : (Finset.univ : Finset (Fin 1)) = {0} := rfl
  rw [f, Finset.fold_singleton]
  show IntOp.andi (andi _ _ (ix2 n 0)) 1#1 = 1#1
  rw [e 0]; rfl

/-- The row taken, given the test holds and the row's number is a row's. -/
theorem taken_at (x : FVec Ideal S1000000x32 .f32) (idx : IVec S16384x1 32) (c : IVec S16384 1) (z : FVec Ideal S16384x32 .f32) (n : Fin 16384) (k : Fin 32)
    (w : BitVec 32) (hi : idx (ix2 n 0) = w) (hw : w.toNat < 1000000) (hc : c (ix1 n) = 1#1) :
    select (broadcastInDim S16384x32 ![0] bcast_S16384_S16384x32_0 c)
      (Host.gather gather_S1000000x32_S16384x1_S16384x32_1_0_n_n_0_1_132 x idx) z (ix2 n k) = x (ix2 ⟨w.toNat, hw⟩ k) := by
  have hb : broadcastInDim S16384x32 ![0] bcast_S16384_S16384x32_0 c (ix2 n k) = 1#1 := by
    rw [← hc]
    pointwise
  show Scalar.select (broadcastInDim S16384x32 ![0] bcast_S16384_S16384x32_0 c (ix2 n k)) _ _ = _
  rw [hb]
  refine (if_pos rfl).trans ((gather_row x idx n k).trans (congrArg x (congrArg (ix2 · k) (Fin.ext ?_))))
  show min (idx (ix2 n 0)).toInt.toNat (1000000 - 1) = w.toNat
  have e : w.toInt = w.toNat := BitVec.toInt_eq_toNat_of_lt (by omega)
  rw [hi, e]
  omega

/-- The embedding of row `n`. -/
theorem embedding_at (n : Fin 16384) (k : Fin 32) (h : (fin V main_v1 (ix1 n) : BitVec 32).toNat < 1000000) :
    fin V main_v2 (ix2 n k) = fin V main_arg1 (ix2 ⟨(fin V main_v1 (ix1 n) : BitVec 32).toNat, h⟩ k) := by
  have hs := start_at V n h
  have ht : (fin V main_call0_v12 : IVec S16384 1) (ix1 n) = 1#1 := by
    rw [take_v12, take_v11, take_v7, take_v10, take_v6, take_v9, take_v8, take_c_1, take_c_2, take_c_3]
    exact inside_at (fin V main_call0_v5) n (by rw [hs]; exact h)
  rw [take_v16, take_v14, take_v13]
  exact taken_at (fin V main_arg1) (fin V main_call0_v5) (fin V main_call0_v12) (fin V main_call0_v15) n k _ hs h ht

/-- The logits of row `n`. -/
def logit (e : FVec Ideal S1000000x32 .f32) (w : FVec Ideal S16x32 .f32) (b : FVec Ideal S16 .f32) (r : Fin 1000000) (k : Fin 16) : EReal :=
  (∑ t : Fin 32, e (ix2 r t) * w (ix2 k t)) + b (ix1 k)

def affine (e : FVec Ideal S16384x32 .f32) (w : FVec Ideal S16x32 .f32) (b : FVec Ideal S16 .f32) : FVec Ideal S16384x16 .f32 :=
  addf (Host.dotGeneral dot_S16384x32_S32x16_S16384x16_1_0_0_1_n_n none e (transpose S32x16 [1, 0] w transposes_S16x32_S32x16_1_0))
    (broadcastInDim S16384x16 ![0, 1] bcast_S1x16_S16384x16_0_1 (broadcastInDim S1x16 ![1] bcast_S16_S1x16_1 b))

theorem affine_at (e : FVec Ideal S16384x32 .f32) (w : FVec Ideal S16x32 .f32) (b : FVec Ideal S16 .f32) (n : Fin 16384) (k : Fin 16) :
    affine e w b (ix2 n k) = (∑ t : Fin 32, e (ix2 n t) * w (ix2 k t)) + b (ix1 k) := by
  unfold affine
  pointwise

theorem at_logit : fin V main_v7 = affine (fin V main_v2) (fin V main_arg2) (fin V main_arg3) := by
  rw [settled2 V 29 rfl rfl (by decide) (by decide), settled2 V 26 rfl rfl (by decide) (by decide), settled1 V 25 rfl rfl (by decide), settled1 V 28 rfl rfl (by decide), settled1 V 27 rfl rfl (by decide)]
  rfl

theorem logit_at (n : Fin 16384) (k : Fin 16) (h : (fin V main_v1 (ix1 n) : BitVec 32).toNat < 1000000) :
    fin V main_v7 (ix2 n k) = logit (fin V main_arg1) (fin V main_arg2) (fin V main_arg3) ⟨(fin V main_v1 (ix1 n) : BitVec 32).toNat, h⟩ k := by
  rw [at_logit]
  refine (affine_at (fin V main_v2) (fin V main_arg2) (fin V main_arg3) n k).trans ?_
  unfold logit
  refine congrArg (· + _) (Finset.sum_congr rfl fun t _ => ?_)
  exact congrArg (· * _) (embedding_at V n t h)

end Cert.Proof.Plain
end
-- ==== Proof.Counters.lean ====
/-
  The reference's key and counters: the key is the words 0 and 42, and a draw's counter, counted in words of 64 bits, has
  high word 0 and low word the draw's position.
-/
module

public import proofs.«01_k».proof.Proof.Words
public import proofs.«01_k».proof.Proof.Settled
public import Idealize.ShloMosaic.Lib.StableHlo.ReadAt

@[expose] public section

set_option maxRecDepth 65536

noncomputable section

namespace Cert.Proof.Plain

open Cert.ReferenceIdeal Cert.ReferenceIdeal.Gen
open Idealize.ShloMosaic Idealize.ShloMosaic.TcCoe
open Cert.Proof.Words
open Idealize.ShloMosaic.Tactic

variable {F : FTy → Type} [FloatOps F] (V : Valuation τ sig (Elt F))

/-! ## The key -/

theorem key_pair : fin V main_v25 = concatenate S2 0 [⟨S1, fun _ => (0#32 : BitVec 32)⟩, ⟨S1, fun _ => (42#32 : BitVec 32)⟩] concatenates_S1_S1_S2_d0 := by
  have a : fin V main_v21 = fun _ => (0#32 : BitVec 32) := by
    rw [settled1 V 48 rfl rfl (by decide), settled1 V 47 rfl rfl (by decide), settled2 V 46 rfl rfl (by decide) (by decide), settled0 V 44 rfl rfl, settled0 V 45 rfl rfl]
    rfl
  have b : fin V main_v24 = fun _ => (42#32 : BitVec 32) := by
    rw [settled1 V 52 rfl rfl (by decide), settled1 V 51 rfl rfl (by decide), settled2 V 50 rfl rfl (by decide) (by decide), settled0 V 44 rfl rfl, settled0 V 49 rfl rfl]
    funext i
    show IntOp.andi 42#32 4294967295#32 = 42#32
    decide
  rw [settled2 V 53 rfl rfl (by decide) (by decide), a, b]
  rfl

theorem key0 : fin V main_v27 = fun _ => (0#32 : BitVec 32) := by
  rw [settledR V 55 rfl rfl (by decide), settled1 V 54 rfl rfl (by decide), key_pair V]
  funext i
  clean_types
  pointwise
theorem key1 : fin V main_v29 = fun _ => (42#32 : BitVec 32) := by
  rw [settledR V 57 rfl rfl (by decide), settled1 V 56 rfl rfl (by decide), key_pair V]
  funext i
  clean_types
  pointwise

/-! ## The counters -/

variable (j : S16384x3x16.Idx)

/-- The draw's position. -/
def spot (j : S16384x3x16.Idx) : ℕ := (j 0).val * 48 + (j 1).val * 16 + (j 2).val

theorem spot_lt : spot j < 786432 := by
  have h0 : (j 0).val < 16384 := (j 0).isLt
  have h1 : (j 1).val < 3 := (j 1).isLt
  have h2 : (j 2).val < 16 := (j 2).isLt
  unfold spot; omega

theorem long_counter : fin V main_v40 j = BitVec.ofNat 64 (spot j) := by
  rw [settled2 V 71 rfl rfl (by decide) (by decide), settled2 V 70 rfl rfl (by decide) (by decide), settled2 V 63 rfl rfl (by decide) (by decide), settled2 V 66 rfl rfl (by decide) (by decide), settled2 V 69 rfl rfl (by decide) (by decide), settled1 V 62 rfl rfl (by decide), settled1 V 65 rfl rfl (by decide), settled1 V 68 rfl rfl (by decide), settled0 V 61 rfl rfl, settled0 V 64 rfl rfl, settled0 V 67 rfl rfl, settled0 V 58 rfl rfl, settled0 V 59 rfl rfl, settled0 V 60 rfl rfl]
  show 48#64 * BitVec.ofNat 64 (j 0).val + 16#64 * BitVec.ofNat 64 (j 1).val + 1#64 * BitVec.ofNat 64 (j 2).val = _
  have h0 : (j 0).val < 16384 := (j 0).isLt
  have h1 : (j 1).val < 3 := (j 1).isLt
  have h2 : (j 2).val < 16 := (j 2).isLt
  unfold spot
  apply BitVec.eq_of_toNat_eq
  simp only [BitVec.toNat_add, BitVec.toNat_mul, BitVec.toNat_ofNat]
  omega

theorem low_counter : fin V main_v43 j = BitVec.ofNat 32 (spot j) := by
  rw [settled1 V 75 rfl rfl (by decide)]
  show (fin V main_v40 j : BitVec 64).setWidth 32 = _
  have h := spot_lt j
  rw [long_counter]
  apply BitVec.eq_of_toNat_eq
  simp only [BitVec.toNat_setWidth, BitVec.toNat_ofNat]
  omega

theorem high_counter : fin V main_v44 j = 0#32 := by
  rw [settled1 V 76 rfl rfl (by decide), settled2 V 74 rfl rfl (by decide) (by decide), settled1 V 73 rfl rfl (by decide), settled0 V 72 rfl rfl]
  show (IntOp.shrui .host (fin V main_v40 j : BitVec 64) 32#64).setWidth 32 = _
  have h := spot_lt j
  rw [long_counter]
  unfold IntOp.shrui
  rw [if_pos (by decide), BitVec.ushiftRight_eq', show (32#64).toNat = 32 from rfl]
  apply BitVec.eq_of_toNat_eq
  simp only [BitVec.toNat_setWidth, BitVec.toNat_ushiftRight, BitVec.toNat_ofNat, Nat.shiftRight_eq_div_pow]
  omega

end Cert.Proof.Plain
end
-- ==== Proof.Plainwords.lean ====
/-
  The reference's random words: each turn and each injection, read at one index of the reference's arrays, is the cipher's
  step, so the reference's words at an index are the cipher's words at the draw's position.
-/
module

public import proofs.«01_k».proof.Proof.Counters

@[expose] public section

set_option maxRecDepth 65536

noncomputable section

namespace Cert.Proof.Plain

open Cert.ReferenceIdeal Cert.ReferenceIdeal.Gen
open Idealize.ShloMosaic Idealize.ShloMosaic.TcCoe
open Cert.Proof.Words

variable {F : FTy → Type} [FloatOps F] (V : Valuation τ sig (Elt F))

theorem turned {a b s x o l r u v : BitVec 32} {d e : ℕ} (hs : s = IntOp.addi a b) (hx : x = IntOp.xori s o) (ho : o = IntOp.ori l r)
    (hl : l = IntOp.shli (w := 32) .host b u) (hr : r = IntOp.shrui (w := 32) .host b v) (hu : u = BitVec.ofNat 32 d) (hv : v = BitVec.ofNat 32 e)
    (gd : (BitVec.ofNat 32 d).toNat = d ∧ d < 32) (ge : (BitVec.ofNat 32 e).toNat = e ∧ e < 32) : (s, x) = turn d e (a, b) := by
  subst hu hv hl hr ho hx hs
  unfold turn IntOp.shli IntOp.shrui IntOp.addi IntOp.xori IntOp.ori
  rw [if_pos (by omega), if_pos (by omega), BitVec.shiftLeft_eq', BitVec.ushiftRight_eq', gd.1, ge.1]

theorem injected {a b s t x ka kb u v w n : BitVec 32} (hs : s = IntOp.addi a u) (ht : t = IntOp.addi b v) (hx : x = IntOp.addi t w)
    (hu : u = ka) (hv : v = kb) (hw : w = n) : (s, x) = inject ka kb n (a, b) := by
  subst hu hv hw hx ht hs; rfl

theorem key2 : fin V main_call1_v1 = fun _ => third := by
  rw [settled2 V 79 rfl rfl (by decide) (by decide), settled2 V 77 rfl rfl (by decide) (by decide), settled0 V 78 rfl rfl, key0 V, key1 V]
  funext i
  show IntOp.xori (IntOp.xori 0#32 42#32) 466688986#32 = third
  decide

variable (j : S16384x3x16.Idx)

/-! ## The twenty turns and five injections -/

theorem at84 : fin V main_call1_v6 j = IntOp.addi (w := 32) (fin V main_call1_v3 j) (fin V main_call1_v5 j) := congrFun (settled2 V 84 rfl rfl (by decide) (by decide)) j
theorem at92 : fin V main_call1_v12 j = IntOp.xori (w := 32) (fin V main_call1_v6 j) (fin V main_call1_v11 j) := congrFun (settled2 V 92 rfl rfl (by decide) (by decide)) j
theorem at91 : fin V main_call1_v11 j = IntOp.ori (w := 32) (fin V main_call1_v8 j) (fin V main_call1_v10 j) := congrFun (settled2 V 91 rfl rfl (by decide) (by decide)) j
theorem at87 : fin V main_call1_v8 j = IntOp.shli (w := 32) .host (fin V main_call1_v5 j) (fin V main_call1_v7 j) := congrFun (settled2 V 87 rfl rfl (by decide) (by decide)) j
theorem at90 : fin V main_call1_v10 j = IntOp.shrui (w := 32) .host (fin V main_call1_v5 j) (fin V main_call1_v9 j) := congrFun (settled2 V 90 rfl rfl (by decide) (by decide)) j
theorem at86 : fin V main_call1_v7 j = 13#32 := by rw [settled1 V 86 rfl rfl (by decide), settled0 V 85 rfl rfl]; rfl
theorem at89 : fin V main_call1_v9 j = 19#32 := by rw [settled1 V 89 rfl rfl (by decide), settled0 V 88 rfl rfl]; rfl
theorem step0 : (((fin V main_call1_v6 j), (fin V main_call1_v12 j)) : Pair) = turn 13 19 ((fin V main_call1_v3 j), (fin V main_call1_v5 j)) :=
  turned (at84 V j) (at92 V j) (at91 V j) (at87 V j) (at90 V j) (at86 V j) (at89 V j) (by decide) (by decide)

theorem at93 : fin V main_call1_v13 j = IntOp.addi (w := 32) (fin V main_call1_v6 j) (fin V main_call1_v12 j) := congrFun (settled2 V 93 rfl rfl (by decide) (by decide)) j
theorem at101 : fin V main_call1_v19 j = IntOp.xori (w := 32) (fin V main_call1_v13 j) (fin V main_call1_v18 j) := congrFun (settled2 V 101 rfl rfl (by decide) (by decide)) j
theorem at100 : fin V main_call1_v18 j = IntOp.ori (w := 32) (fin V main_call1_v15 j) (fin V main_call1_v17 j) := congrFun (settled2 V 100 rfl rfl (by decide) (by decide)) j
theorem at96 : fin V main_call1_v15 j = IntOp.shli (w := 32) .host (fin V main_call1_v12 j) (fin V main_call1_v14 j) := congrFun (settled2 V 96 rfl rfl (by decide) (by decide)) j
theorem at99 : fin V main_call1_v17 j = IntOp.shrui (w := 32) .host (fin V main_call1_v12 j) (fin V main_call1_v16 j) := congrFun (settled2 V 99 rfl rfl (by decide) (by decide)) j
theorem at95 : fin V main_call1_v14 j = 15#32 := by rw [settled1 V 95 rfl rfl (by decide), settled0 V 94 rfl rfl]; rfl
theorem at98 : fin V main_call1_v16 j = 17#32 := by rw [settled1 V 98 rfl rfl (by decide), settled0 V 97 rfl rfl]; rfl
theorem step1 : (((fin V main_call1_v13 j), (fin V main_call1_v19 j)) : Pair) = turn 15 17 ((fin V main_call1_v6 j), (fin V main_call1_v12 j)) :=
  turned (at93 V j) (at101 V j) (at100 V j) (at96 V j) (at99 V j) (at95 V j) (at98 V j) (by decide) (by decide)

theorem at102 : fin V main_call1_v20 j = IntOp.addi (w := 32) (fin V main_call1_v13 j) (fin V main_call1_v19 j) := congrFun (settled2 V 102 rfl rfl (by decide) (by decide)) j
theorem at110 : fin V main_call1_v26 j = IntOp.xori (w := 32) (fin V main_call1_v20 j) (fin V main_call1_v25 j) := congrFun (settled2 V 110 rfl rfl (by decide) (by decide)) j
theorem at109 : fin V main_call1_v25 j = IntOp.ori (w := 32) (fin V main_call1_v22 j) (fin V main_call1_v24 j) := congrFun (settled2 V 109 rfl rfl (by decide) (by decide)) j
theorem at105 : fin V main_call1_v22 j = IntOp.shli (w := 32) .host (fin V main_call1_v19 j) (fin V main_call1_v21 j) := congrFun (settled2 V 105 rfl rfl (by decide) (by decide)) j
theorem at108 : fin V main_call1_v24 j = IntOp.shrui (w := 32) .host (fin V main_call1_v19 j) (fin V main_call1_v23 j) := congrFun (settled2 V 108 rfl rfl (by decide) (by decide)) j
theorem at104 : fin V main_call1_v21 j = 26#32 := by rw [settled1 V 104 rfl rfl (by decide), settled0 V 103 rfl rfl]; rfl
theorem at107 : fin V main_call1_v23 j = 6#32 := by rw [settled1 V 107 rfl rfl (by decide), settled0 V 106 rfl rfl]; rfl
theorem step2 : (((fin V main_call1_v20 j), (fin V main_call1_v26 j)) : Pair) = turn 26 6 ((fin V main_call1_v13 j), (fin V main_call1_v19 j)) :=
  turned (at102 V j) (at110 V j) (at109 V j) (at105 V j) (at108 V j) (at104 V j) (at107 V j) (by decide) (by decide)

theorem at111 : fin V main_call1_v27 j = IntOp.addi (w := 32) (fin V main_call1_v20 j) (fin V main_call1_v26 j) := congrFun (settled2 V 111 rfl rfl (by decide) (by decide)) j
theorem at119 : fin V main_call1_v33 j = IntOp.xori (w := 32) (fin V main_call1_v27 j) (fin V main_call1_v32 j) := congrFun (settled2 V 119 rfl rfl (by decide) (by decide)) j
theorem at118 : fin V main_call1_v32 j = IntOp.ori (w := 32) (fin V main_call1_v29 j) (fin V main_call1_v31 j) := congrFun (settled2 V 118 rfl rfl (by decide) (by decide)) j
theorem at114 : fin V main_call1_v29 j = IntOp.shli (w := 32) .host (fin V main_call1_v26 j) (fin V main_call1_v28 j) := congrFun (settled2 V 114 rfl rfl (by decide) (by decide)) j
theorem at117 : fin V main_call1_v31 j = IntOp.shrui (w := 32) .host (fin V main_call1_v26 j) (fin V main_call1_v30 j) := congrFun (settled2 V 117 rfl rfl (by decide) (by decide)) j
theorem at113 : fin V main_call1_v28 j = 6#32 := by rw [settled1 V 113 rfl rfl (by decide), settled0 V 112 rfl rfl]; rfl
theorem at116 : fin V main_call1_v30 j = 26#32 := by rw [settled1 V 116 rfl rfl (by decide), settled0 V 115 rfl rfl]; rfl
theorem step3 : (((fin V main_call1_v27 j), (fin V main_call1_v33 j)) : Pair) = turn 6 26 ((fin V main_call1_v20 j), (fin V main_call1_v26 j)) :=
  turned (at111 V j) (at119 V j) (at118 V j) (at114 V j) (at117 V j) (at113 V j) (at116 V j) (by decide) (by decide)

theorem at121 : fin V main_call1_v35 j = IntOp.addi (w := 32) (fin V main_call1_v27 j) (fin V main_call1_v34 j) := congrFun (settled2 V 121 rfl rfl (by decide) (by decide)) j
theorem at123 : fin V main_call1_v37 j = IntOp.addi (w := 32) (fin V main_call1_v33 j) (fin V main_call1_v36 j) := congrFun (settled2 V 123 rfl rfl (by decide) (by decide)) j
theorem at126 : fin V main_call1_v39 j = IntOp.addi (w := 32) (fin V main_call1_v37 j) (fin V main_call1_v38 j) := congrFun (settled2 V 126 rfl rfl (by decide) (by decide)) j
theorem at120 : fin V main_call1_v34 j = 42#32 := by rw [settled1 V 120 rfl rfl (by decide), key1 V]; rfl
theorem at122 : fin V main_call1_v36 j = third := by rw [settled1 V 122 rfl rfl (by decide), key2 V]; rfl
theorem at125 : fin V main_call1_v38 j = 1#32 := by rw [settled1 V 125 rfl rfl (by decide), settled0 V 124 rfl rfl]; rfl
theorem step4 : (((fin V main_call1_v35 j), (fin V main_call1_v39 j)) : Pair) = inject 42#32 third 1#32 ((fin V main_call1_v27 j), (fin V main_call1_v33 j)) :=
  injected (at121 V j) (at123 V j) (at126 V j) (at120 V j) (at122 V j) (at125 V j)

theorem at127 : fin V main_call1_v40 j = IntOp.addi (w := 32) (fin V main_call1_v35 j) (fin V main_call1_v39 j) := congrFun (settled2 V 127 rfl rfl (by decide) (by decide)) j
theorem at135 : fin V main_call1_v46 j = IntOp.xori (w := 32) (fin V main_call1_v40 j) (fin V main_call1_v45 j) := congrFun (settled2 V 135 rfl rfl (by decide) (by decide)) j
theorem at134 : fin V main_call1_v45 j = IntOp.ori (w := 32) (fin V main_call1_v42 j) (fin V main_call1_v44 j) := congrFun (settled2 V 134 rfl rfl (by decide) (by decide)) j
theorem at130 : fin V main_call1_v42 j = IntOp.shli (w := 32) .host (fin V main_call1_v39 j) (fin V main_call1_v41 j) := congrFun (settled2 V 130 rfl rfl (by decide) (by decide)) j
theorem at133 : fin V main_call1_v44 j = IntOp.shrui (w := 32) .host (fin V main_call1_v39 j) (fin V main_call1_v43 j) := congrFun (settled2 V 133 rfl rfl (by decide) (by decide)) j
theorem at129 : fin V main_call1_v41 j = 17#32 := by rw [settled1 V 129 rfl rfl (by decide), settled0 V 128 rfl rfl]; rfl
theorem at132 : fin V main_call1_v43 j = 15#32 := by rw [settled1 V 132 rfl rfl (by decide), settled0 V 131 rfl rfl]; rfl
theorem step5 : (((fin V main_call1_v40 j), (fin V main_call1_v46 j)) : Pair) = turn 17 15 ((fin V main_call1_v35 j), (fin V main_call1_v39 j)) :=
  turned (at127 V j) (at135 V j) (at134 V j) (at130 V j) (at133 V j) (at129 V j) (at132 V j) (by decide) (by decide)

theorem at136 : fin V main_call1_v47 j = IntOp.addi (w := 32) (fin V main_call1_v40 j) (fin V main_call1_v46 j) := congrFun (settled2 V 136 rfl rfl (by decide) (by decide)) j
theorem at144 : fin V main_call1_v53 j = IntOp.xori (w := 32) (fin V main_call1_v47 j) (fin V main_call1_v52 j) := congrFun (settled2 V 144 rfl rfl (by decide) (by decide)) j
theorem at143 : fin V main_call1_v52 j = IntOp.ori (w := 32) (fin V main_call1_v49 j) (fin V main_call1_v51 j) := congrFun (settled2 V 143 rfl rfl (by decide) (by decide)) j
theorem at139 : fin V main_call1_v49 j = IntOp.shli (w := 32) .host (fin V main_call1_v46 j) (fin V main_call1_v48 j) := congrFun (settled2 V 139 rfl rfl (by decide) (by decide)) j
theorem at142 : fin V main_call1_v51 j = IntOp.shrui (w := 32) .host (fin V main_call1_v46 j) (fin V main_call1_v50 j) := congrFun (settled2 V 142 rfl rfl (by decide) (by decide)) j
theorem at138 : fin V main_call1_v48 j = 29#32 := by rw [settled1 V 138 rfl rfl (by decide), settled0 V 137 rfl rfl]; rfl
theorem at141 : fin V main_call1_v50 j = 3#32 := by rw [settled1 V 141 rfl rfl (by decide), settled0 V 140 rfl rfl]; rfl
theorem step6 : (((fin V main_call1_v47 j), (fin V main_call1_v53 j)) : Pair) = turn 29 3 ((fin V main_call1_v40 j), (fin V main_call1_v46 j)) :=
  turned (at136 V j) (at144 V j) (at143 V j) (at139 V j) (at142 V j) (at138 V j) (at141 V j) (by decide) (by decide)

theorem at145 : fin V main_call1_v54 j = IntOp.addi (w := 32) (fin V main_call1_v47 j) (fin V main_call1_v53 j) := congrFun (settled2 V 145 rfl rfl (by decide) (by decide)) j
theorem at153 : fin V main_call1_v60 j = IntOp.xori (w := 32) (fin V main_call1_v54 j) (fin V main_call1_v59 j) := congrFun (settled2 V 153 rfl rfl (by decide) (by decide)) j
theorem at152 : fin V main_call1_v59 j = IntOp.ori (w := 32) (fin V main_call1_v56 j) (fin V main_call1_v58 j) := congrFun (settled2 V 152 rfl rfl (by decide) (by decide)) j
theorem at148 : fin V main_call1_v56 j = IntOp.shli (w := 32) .host (fin V main_call1_v53 j) (fin V main_call1_v55 j) := congrFun (settled2 V 148 rfl rfl (by decide) (by decide)) j
theorem at151 : fin V main_call1_v58 j = IntOp.shrui (w := 32) .host (fin V main_call1_v53 j) (fin V main_call1_v57 j) := congrFun (settled2 V 151 rfl rfl (by decide) (by decide)) j
theorem at147 : fin V main_call1_v55 j = 16#32 := by rw [settled1 V 147 rfl rfl (by decide), settled0 V 146 rfl rfl]; rfl
theorem at150 : fin V main_call1_v57 j = 16#32 := by rw [settled1 V 150 rfl rfl (by decide), settled0 V 149 rfl rfl]; rfl
theorem step7 : (((fin V main_call1_v54 j), (fin V main_call1_v60 j)) : Pair) = turn 16 16 ((fin V main_call1_v47 j), (fin V main_call1_v53 j)) :=
  turned (at145 V j) (at153 V j) (at152 V j) (at148 V j) (at151 V j) (at147 V j) (at150 V j) (by decide) (by decide)

theorem at154 : fin V main_call1_v61 j = IntOp.addi (w := 32) (fin V main_call1_v54 j) (fin V main_call1_v60 j) := congrFun (settled2 V 154 rfl rfl (by decide) (by decide)) j
theorem at162 : fin V main_call1_v67 j = IntOp.xori (w := 32) (fin V main_call1_v61 j) (fin V main_call1_v66 j) := congrFun (settled2 V 162 rfl rfl (by decide) (by decide)) j
theorem at161 : fin V main_call1_v66 j = IntOp.ori (w := 32) (fin V main_call1_v63 j) (fin V main_call1_v65 j) := congrFun (settled2 V 161 rfl rfl (by decide) (by decide)) j
theorem at157 : fin V main_call1_v63 j = IntOp.shli (w := 32) .host (fin V main_call1_v60 j) (fin V main_call1_v62 j) := congrFun (settled2 V 157 rfl rfl (by decide) (by decide)) j
theorem at160 : fin V main_call1_v65 j = IntOp.shrui (w := 32) .host (fin V main_call1_v60 j) (fin V main_call1_v64 j) := congrFun (settled2 V 160 rfl rfl (by decide) (by decide)) j
theorem at156 : fin V main_call1_v62 j = 24#32 := by rw [settled1 V 156 rfl rfl (by decide), settled0 V 155 rfl rfl]; rfl
theorem at159 : fin V main_call1_v64 j = 8#32 := by rw [settled1 V 159 rfl rfl (by decide), settled0 V 158 rfl rfl]; rfl
theorem step8 : (((fin V main_call1_v61 j), (fin V main_call1_v67 j)) : Pair) = turn 24 8 ((fin V main_call1_v54 j), (fin V main_call1_v60 j)) :=
  turned (at154 V j) (at162 V j) (at161 V j) (at157 V j) (at160 V j) (at156 V j) (at159 V j) (by decide) (by decide)

theorem at164 : fin V main_call1_v69 j = IntOp.addi (w := 32) (fin V main_call1_v61 j) (fin V main_call1_v68 j) := congrFun (settled2 V 164 rfl rfl (by decide) (by decide)) j
theorem at166 : fin V main_call1_v71 j = IntOp.addi (w := 32) (fin V main_call1_v67 j) (fin V main_call1_v70 j) := congrFun (settled2 V 166 rfl rfl (by decide) (by decide)) j
theorem at169 : fin V main_call1_v73 j = IntOp.addi (w := 32) (fin V main_call1_v71 j) (fin V main_call1_v72 j) := congrFun (settled2 V 169 rfl rfl (by decide) (by decide)) j
theorem at163 : fin V main_call1_v68 j = third := by rw [settled1 V 163 rfl rfl (by decide), key2 V]; rfl
theorem at165 : fin V main_call1_v70 j = 0#32 := by rw [settled1 V 165 rfl rfl (by decide), key0 V]; rfl
theorem at168 : fin V main_call1_v72 j = 2#32 := by rw [settled1 V 168 rfl rfl (by decide), settled0 V 167 rfl rfl]; rfl
theorem step9 : (((fin V main_call1_v69 j), (fin V main_call1_v73 j)) : Pair) = inject third 0#32 2#32 ((fin V main_call1_v61 j), (fin V main_call1_v67 j)) :=
  injected (at164 V j) (at166 V j) (at169 V j) (at163 V j) (at165 V j) (at168 V j)

theorem at170 : fin V main_call1_v74 j = IntOp.addi (w := 32) (fin V main_call1_v69 j) (fin V main_call1_v73 j) := congrFun (settled2 V 170 rfl rfl (by decide) (by decide)) j
theorem at178 : fin V main_call1_v80 j = IntOp.xori (w := 32) (fin V main_call1_v74 j) (fin V main_call1_v79 j) := congrFun (settled2 V 178 rfl rfl (by decide) (by decide)) j
theorem at177 : fin V main_call1_v79 j = IntOp.ori (w := 32) (fin V main_call1_v76 j) (fin V main_call1_v78 j) := congrFun (settled2 V 177 rfl rfl (by decide) (by decide)) j
theorem at173 : fin V main_call1_v76 j = IntOp.shli (w := 32) .host (fin V main_call1_v73 j) (fin V main_call1_v75 j) := congrFun (settled2 V 173 rfl rfl (by decide) (by decide)) j
theorem at176 : fin V main_call1_v78 j = IntOp.shrui (w := 32) .host (fin V main_call1_v73 j) (fin V main_call1_v77 j) := congrFun (settled2 V 176 rfl rfl (by decide) (by decide)) j
theorem at172 : fin V main_call1_v75 j = 13#32 := by rw [settled1 V 172 rfl rfl (by decide), settled0 V 171 rfl rfl]; rfl
theorem at175 : fin V main_call1_v77 j = 19#32 := by rw [settled1 V 175 rfl rfl (by decide), settled0 V 174 rfl rfl]; rfl
theorem step10 : (((fin V main_call1_v74 j), (fin V main_call1_v80 j)) : Pair) = turn 13 19 ((fin V main_call1_v69 j), (fin V main_call1_v73 j)) :=
  turned (at170 V j) (at178 V j) (at177 V j) (at173 V j) (at176 V j) (at172 V j) (at175 V j) (by decide) (by decide)

theorem at179 : fin V main_call1_v81 j = IntOp.addi (w := 32) (fin V main_call1_v74 j) (fin V main_call1_v80 j) := congrFun (settled2 V 179 rfl rfl (by decide) (by decide)) j
theorem at187 : fin V main_call1_v87 j = IntOp.xori (w := 32) (fin V main_call1_v81 j) (fin V main_call1_v86 j) := congrFun (settled2 V 187 rfl rfl (by decide) (by decide)) j
theorem at186 : fin V main_call1_v86 j = IntOp.ori (w := 32) (fin V main_call1_v83 j) (fin V main_call1_v85 j) := congrFun (settled2 V 186 rfl rfl (by decide) (by decide)) j
theorem at182 : fin V main_call1_v83 j = IntOp.shli (w := 32) .host (fin V main_call1_v80 j) (fin V main_call1_v82 j) := congrFun (settled2 V 182 rfl rfl (by decide) (by decide)) j
theorem at185 : fin V main_call1_v85 j = IntOp.shrui (w := 32) .host (fin V main_call1_v80 j) (fin V main_call1_v84 j) := congrFun (settled2 V 185 rfl rfl (by decide) (by decide)) j
theorem at181 : fin V main_call1_v82 j = 15#32 := by rw [settled1 V 181 rfl rfl (by decide), settled0 V 180 rfl rfl]; rfl
theorem at184 : fin V main_call1_v84 j = 17#32 := by rw [settled1 V 184 rfl rfl (by decide), settled0 V 183 rfl rfl]; rfl
theorem step11 : (((fin V main_call1_v81 j), (fin V main_call1_v87 j)) : Pair) = turn 15 17 ((fin V main_call1_v74 j), (fin V main_call1_v80 j)) :=
  turned (at179 V j) (at187 V j) (at186 V j) (at182 V j) (at185 V j) (at181 V j) (at184 V j) (by decide) (by decide)

theorem at188 : fin V main_call1_v88 j = IntOp.addi (w := 32) (fin V main_call1_v81 j) (fin V main_call1_v87 j) := congrFun (settled2 V 188 rfl rfl (by decide) (by decide)) j
theorem at196 : fin V main_call1_v94 j = IntOp.xori (w := 32) (fin V main_call1_v88 j) (fin V main_call1_v93 j) := congrFun (settled2 V 196 rfl rfl (by decide) (by decide)) j
theorem at195 : fin V main_call1_v93 j = IntOp.ori (w := 32) (fin V main_call1_v90 j) (fin V main_call1_v92 j) := congrFun (settled2 V 195 rfl rfl (by decide) (by decide)) j
theorem at191 : fin V main_call1_v90 j = IntOp.shli (w := 32) .host (fin V main_call1_v87 j) (fin V main_call1_v89 j) := congrFun (settled2 V 191 rfl rfl (by decide) (by decide)) j
theorem at194 : fin V main_call1_v92 j = IntOp.shrui (w := 32) .host (fin V main_call1_v87 j) (fin V main_call1_v91 j) := congrFun (settled2 V 194 rfl rfl (by decide) (by decide)) j
theorem at190 : fin V main_call1_v89 j = 26#32 := by rw [settled1 V 190 rfl rfl (by decide), settled0 V 189 rfl rfl]; rfl
theorem at193 : fin V main_call1_v91 j = 6#32 := by rw [settled1 V 193 rfl rfl (by decide), settled0 V 192 rfl rfl]; rfl
theorem step12 : (((fin V main_call1_v88 j), (fin V main_call1_v94 j)) : Pair) = turn 26 6 ((fin V main_call1_v81 j), (fin V main_call1_v87 j)) :=
  turned (at188 V j) (at196 V j) (at195 V j) (at191 V j) (at194 V j) (at190 V j) (at193 V j) (by decide) (by decide)

theorem at197 : fin V main_call1_v95 j = IntOp.addi (w := 32) (fin V main_call1_v88 j) (fin V main_call1_v94 j) := congrFun (settled2 V 197 rfl rfl (by decide) (by decide)) j
theorem at205 : fin V main_call1_v101 j = IntOp.xori (w := 32) (fin V main_call1_v95 j) (fin V main_call1_v100 j) := congrFun (settled2 V 205 rfl rfl (by decide) (by decide)) j
theorem at204 : fin V main_call1_v100 j = IntOp.ori (w := 32) (fin V main_call1_v97 j) (fin V main_call1_v99 j) := congrFun (settled2 V 204 rfl rfl (by decide) (by decide)) j
theorem at200 : fin V main_call1_v97 j = IntOp.shli (w := 32) .host (fin V main_call1_v94 j) (fin V main_call1_v96 j) := congrFun (settled2 V 200 rfl rfl (by decide) (by decide)) j
theorem at203 : fin V main_call1_v99 j = IntOp.shrui (w := 32) .host (fin V main_call1_v94 j) (fin V main_call1_v98 j) := congrFun (settled2 V 203 rfl rfl (by decide) (by decide)) j
theorem at199 : fin V main_call1_v96 j = 6#32 := by rw [settled1 V 199 rfl rfl (by decide), settled0 V 198 rfl rfl]; rfl
theorem at202 : fin V main_call1_v98 j = 26#32 := by rw [settled1 V 202 rfl rfl (by decide), settled0 V 201 rfl rfl]; rfl
theorem step13 : (((fin V main_call1_v95 j), (fin V main_call1_v101 j)) : Pair) = turn 6 26 ((fin V main_call1_v88 j), (fin V main_call1_v94 j)) :=
  turned (at197 V j) (at205 V j) (at204 V j) (at200 V j) (at203 V j) (at199 V j) (at202 V j) (by decide) (by decide)

theorem at207 : fin V main_call1_v103 j = IntOp.addi (w := 32) (fin V main_call1_v95 j) (fin V main_call1_v102 j) := congrFun (settled2 V 207 rfl rfl (by decide) (by decide)) j
theorem at209 : fin V main_call1_v105 j = IntOp.addi (w := 32) (fin V main_call1_v101 j) (fin V main_call1_v104 j) := congrFun (settled2 V 209 rfl rfl (by decide) (by decide)) j
theorem at212 : fin V main_call1_v107 j = IntOp.addi (w := 32) (fin V main_call1_v105 j) (fin V main_call1_v106 j) := congrFun (settled2 V 212 rfl rfl (by decide) (by decide)) j
theorem at206 : fin V main_call1_v102 j = 0#32 := by rw [settled1 V 206 rfl rfl (by decide), key0 V]; rfl
theorem at208 : fin V main_call1_v104 j = 42#32 := by rw [settled1 V 208 rfl rfl (by decide), key1 V]; rfl
theorem at211 : fin V main_call1_v106 j = 3#32 := by rw [settled1 V 211 rfl rfl (by decide), settled0 V 210 rfl rfl]; rfl
theorem step14 : (((fin V main_call1_v103 j), (fin V main_call1_v107 j)) : Pair) = inject 0#32 42#32 3#32 ((fin V main_call1_v95 j), (fin V main_call1_v101 j)) :=
  injected (at207 V j) (at209 V j) (at212 V j) (at206 V j) (at208 V j) (at211 V j)

theorem at213 : fin V main_call1_v108 j = IntOp.addi (w := 32) (fin V main_call1_v103 j) (fin V main_call1_v107 j) := congrFun (settled2 V 213 rfl rfl (by decide) (by decide)) j
theorem at221 : fin V main_call1_v114 j = IntOp.xori (w := 32) (fin V main_call1_v108 j) (fin V main_call1_v113 j) := congrFun (settled2 V 221 rfl rfl (by decide) (by decide)) j
theorem at220 : fin V main_call1_v113 j = IntOp.ori (w := 32) (fin V main_call1_v110 j) (fin V main_call1_v112 j) := congrFun (settled2 V 220 rfl rfl (by decide) (by decide)) j
theorem at216 : fin V main_call1_v110 j = IntOp.shli (w := 32) .host (fin V main_call1_v107 j) (fin V main_call1_v109 j) := congrFun (settled2 V 216 rfl rfl (by decide) (by decide)) j
theorem at219 : fin V main_call1_v112 j = IntOp.shrui (w := 32) .host (fin V main_call1_v107 j) (fin V main_call1_v111 j) := congrFun (settled2 V 219 rfl rfl (by decide) (by decide)) j
theorem at215 : fin V main_call1_v109 j = 17#32 := by rw [settled1 V 215 rfl rfl (by decide), settled0 V 214 rfl rfl]; rfl
theorem at218 : fin V main_call1_v111 j = 15#32 := by rw [settled1 V 218 rfl rfl (by decide), settled0 V 217 rfl rfl]; rfl
theorem step15 : (((fin V main_call1_v108 j), (fin V main_call1_v114 j)) : Pair) = turn 17 15 ((fin V main_call1_v103 j), (fin V main_call1_v107 j)) :=
  turned (at213 V j) (at221 V j) (at220 V j) (at216 V j) (at219 V j) (at215 V j) (at218 V j) (by decide) (by decide)

theorem at222 : fin V main_call1_v115 j = IntOp.addi (w := 32) (fin V main_call1_v108 j) (fin V main_call1_v114 j) := congrFun (settled2 V 222 rfl rfl (by decide) (by decide)) j
theorem at230 : fin V main_call1_v121 j = IntOp.xori (w := 32) (fin V main_call1_v115 j) (fin V main_call1_v120 j) := congrFun (settled2 V 230 rfl rfl (by decide) (by decide)) j
theorem at229 : fin V main_call1_v120 j = IntOp.ori (w := 32) (fin V main_call1_v117 j) (fin V main_call1_v119 j) := congrFun (settled2 V 229 rfl rfl (by decide) (by decide)) j
theorem at225 : fin V main_call1_v117 j = IntOp.shli (w := 32) .host (fin V main_call1_v114 j) (fin V main_call1_v116 j) := congrFun (settled2 V 225 rfl rfl (by decide) (by decide)) j
theorem at228 : fin V main_call1_v119 j = IntOp.shrui (w := 32) .host (fin V main_call1_v114 j) (fin V main_call1_v118 j) := congrFun (settled2 V 228 rfl rfl (by decide) (by decide)) j
theorem at224 : fin V main_call1_v116 j = 29#32 := by rw [settled1 V 224 rfl rfl (by decide), settled0 V 223 rfl rfl]; rfl
theorem at227 : fin V main_call1_v118 j = 3#32 := by rw [settled1 V 227 rfl rfl (by decide), settled0 V 226 rfl rfl]; rfl
theorem step16 : (((fin V main_call1_v115 j), (fin V main_call1_v121 j)) : Pair) = turn 29 3 ((fin V main_call1_v108 j), (fin V main_call1_v114 j)) :=
  turned (at222 V j) (at230 V j) (at229 V j) (at225 V j) (at228 V j) (at224 V j) (at227 V j) (by decide) (by decide)

theorem at231 : fin V main_call1_v122 j = IntOp.addi (w := 32) (fin V main_call1_v115 j) (fin V main_call1_v121 j) := congrFun (settled2 V 231 rfl rfl (by decide) (by decide)) j
theorem at239 : fin V main_call1_v128 j = IntOp.xori (w := 32) (fin V main_call1_v122 j) (fin V main_call1_v127 j) := congrFun (settled2 V 239 rfl rfl (by decide) (by decide)) j
theorem at238 : fin V main_call1_v127 j = IntOp.ori (w := 32) (fin V main_call1_v124 j) (fin V main_call1_v126 j) := congrFun (settled2 V 238 rfl rfl (by decide) (by decide)) j
theorem at234 : fin V main_call1_v124 j = IntOp.shli (w := 32) .host (fin V main_call1_v121 j) (fin V main_call1_v123 j) := congrFun (settled2 V 234 rfl rfl (by decide) (by decide)) j
theorem at237 : fin V main_call1_v126 j = IntOp.shrui (w := 32) .host (fin V main_call1_v121 j) (fin V main_call1_v125 j) := congrFun (settled2 V 237 rfl rfl (by decide) (by decide)) j
theorem at233 : fin V main_call1_v123 j = 16#32 := by rw [settled1 V 233 rfl rfl (by decide), settled0 V 232 rfl rfl]; rfl
theorem at236 : fin V main_call1_v125 j = 16#32 := by rw [settled1 V 236 rfl rfl (by decide), settled0 V 235 rfl rfl]; rfl
theorem step17 : (((fin V main_call1_v122 j), (fin V main_call1_v128 j)) : Pair) = turn 16 16 ((fin V main_call1_v115 j), (fin V main_call1_v121 j)) :=
  turned (at231 V j) (at239 V j) (at238 V j) (at234 V j) (at237 V j) (at233 V j) (at236 V j) (by decide) (by decide)

theorem at240 : fin V main_call1_v129 j = IntOp.addi (w := 32) (fin V main_call1_v122 j) (fin V main_call1_v128 j) := congrFun (settled2 V 240 rfl rfl (by decide) (by decide)) j
theorem at248 : fin V main_call1_v135 j = IntOp.xori (w := 32) (fin V main_call1_v129 j) (fin V main_call1_v134 j) := congrFun (settled2 V 248 rfl rfl (by decide) (by decide)) j
theorem at247 : fin V main_call1_v134 j = IntOp.ori (w := 32) (fin V main_call1_v131 j) (fin V main_call1_v133 j) := congrFun (settled2 V 247 rfl rfl (by decide) (by decide)) j
theorem at243 : fin V main_call1_v131 j = IntOp.shli (w := 32) .host (fin V main_call1_v128 j) (fin V main_call1_v130 j) := congrFun (settled2 V 243 rfl rfl (by decide) (by decide)) j
theorem at246 : fin V main_call1_v133 j = IntOp.shrui (w := 32) .host (fin V main_call1_v128 j) (fin V main_call1_v132 j) := congrFun (settled2 V 246 rfl rfl (by decide) (by decide)) j
theorem at242 : fin V main_call1_v130 j = 24#32 := by rw [settled1 V 242 rfl rfl (by decide), settled0 V 241 rfl rfl]; rfl
theorem at245 : fin V main_call1_v132 j = 8#32 := by rw [settled1 V 245 rfl rfl (by decide), settled0 V 244 rfl rfl]; rfl
theorem step18 : (((fin V main_call1_v129 j), (fin V main_call1_v135 j)) : Pair) = turn 24 8 ((fin V main_call1_v122 j), (fin V main_call1_v128 j)) :=
  turned (at240 V j) (at248 V j) (at247 V j) (at243 V j) (at246 V j) (at242 V j) (at245 V j) (by decide) (by decide)

theorem at250 : fin V main_call1_v137 j = IntOp.addi (w := 32) (fin V main_call1_v129 j) (fin V main_call1_v136 j) := congrFun (settled2 V 250 rfl rfl (by decide) (by decide)) j
theorem at252 : fin V main_call1_v139 j = IntOp.addi (w := 32) (fin V main_call1_v135 j) (fin V main_call1_v138 j) := congrFun (settled2 V 252 rfl rfl (by decide) (by decide)) j
theorem at255 : fin V main_call1_v141 j = IntOp.addi (w := 32) (fin V main_call1_v139 j) (fin V main_call1_v140 j) := congrFun (settled2 V 255 rfl rfl (by decide) (by decide)) j
theorem at249 : fin V main_call1_v136 j = 42#32 := by rw [settled1 V 249 rfl rfl (by decide), key1 V]; rfl
theorem at251 : fin V main_call1_v138 j = third := by rw [settled1 V 251 rfl rfl (by decide), key2 V]; rfl
theorem at254 : fin V main_call1_v140 j = 4#32 := by rw [settled1 V 254 rfl rfl (by decide), settled0 V 253 rfl rfl]; rfl
theorem step19 : (((fin V main_call1_v137 j), (fin V main_call1_v141 j)) : Pair) = inject 42#32 third 4#32 ((fin V main_call1_v129 j), (fin V main_call1_v135 j)) :=
  injected (at250 V j) (at252 V j) (at255 V j) (at249 V j) (at251 V j) (at254 V j)

theorem at256 : fin V main_call1_v142 j = IntOp.addi (w := 32) (fin V main_call1_v137 j) (fin V main_call1_v141 j) := congrFun (settled2 V 256 rfl rfl (by decide) (by decide)) j
theorem at264 : fin V main_call1_v148 j = IntOp.xori (w := 32) (fin V main_call1_v142 j) (fin V main_call1_v147 j) := congrFun (settled2 V 264 rfl rfl (by decide) (by decide)) j
theorem at263 : fin V main_call1_v147 j = IntOp.ori (w := 32) (fin V main_call1_v144 j) (fin V main_call1_v146 j) := congrFun (settled2 V 263 rfl rfl (by decide) (by decide)) j
theorem at259 : fin V main_call1_v144 j = IntOp.shli (w := 32) .host (fin V main_call1_v141 j) (fin V main_call1_v143 j) := congrFun (settled2 V 259 rfl rfl (by decide) (by decide)) j
theorem at262 : fin V main_call1_v146 j = IntOp.shrui (w := 32) .host (fin V main_call1_v141 j) (fin V main_call1_v145 j) := congrFun (settled2 V 262 rfl rfl (by decide) (by decide)) j
theorem at258 : fin V main_call1_v143 j = 13#32 := by rw [settled1 V 258 rfl rfl (by decide), settled0 V 257 rfl rfl]; rfl
theorem at261 : fin V main_call1_v145 j = 19#32 := by rw [settled1 V 261 rfl rfl (by decide), settled0 V 260 rfl rfl]; rfl
theorem step20 : (((fin V main_call1_v142 j), (fin V main_call1_v148 j)) : Pair) = turn 13 19 ((fin V main_call1_v137 j), (fin V main_call1_v141 j)) :=
  turned (at256 V j) (at264 V j) (at263 V j) (at259 V j) (at262 V j) (at258 V j) (at261 V j) (by decide) (by decide)

theorem at265 : fin V main_call1_v149 j = IntOp.addi (w := 32) (fin V main_call1_v142 j) (fin V main_call1_v148 j) := congrFun (settled2 V 265 rfl rfl (by decide) (by decide)) j
theorem at273 : fin V main_call1_v155 j = IntOp.xori (w := 32) (fin V main_call1_v149 j) (fin V main_call1_v154 j) := congrFun (settled2 V 273 rfl rfl (by decide) (by decide)) j
theorem at272 : fin V main_call1_v154 j = IntOp.ori (w := 32) (fin V main_call1_v151 j) (fin V main_call1_v153 j) := congrFun (settled2 V 272 rfl rfl (by decide) (by decide)) j
theorem at268 : fin V main_call1_v151 j = IntOp.shli (w := 32) .host (fin V main_call1_v148 j) (fin V main_call1_v150 j) := congrFun (settled2 V 268 rfl rfl (by decide) (by decide)) j
theorem at271 : fin V main_call1_v153 j = IntOp.shrui (w := 32) .host (fin V main_call1_v148 j) (fin V main_call1_v152 j) := congrFun (settled2 V 271 rfl rfl (by decide) (by decide)) j
theorem at267 : fin V main_call1_v150 j = 15#32 := by rw [settled1 V 267 rfl rfl (by decide), settled0 V 266 rfl rfl]; rfl
theorem at270 : fin V main_call1_v152 j = 17#32 := by rw [settled1 V 270 rfl rfl (by decide), settled0 V 269 rfl rfl]; rfl
theorem step21 : (((fin V main_call1_v149 j), (fin V main_call1_v155 j)) : Pair) = turn 15 17 ((fin V main_call1_v142 j), (fin V main_call1_v148 j)) :=
  turned (at265 V j) (at273 V j) (at272 V j) (at268 V j) (at271 V j) (at267 V j) (at270 V j) (by decide) (by decide)

theorem at274 : fin V main_call1_v156 j = IntOp.addi (w := 32) (fin V main_call1_v149 j) (fin V main_call1_v155 j) := congrFun (settled2 V 274 rfl rfl (by decide) (by decide)) j
theorem at282 : fin V main_call1_v162 j = IntOp.xori (w := 32) (fin V main_call1_v156 j) (fin V main_call1_v161 j) := congrFun (settled2 V 282 rfl rfl (by decide) (by decide)) j
theorem at281 : fin V main_call1_v161 j = IntOp.ori (w := 32) (fin V main_call1_v158 j) (fin V main_call1_v160 j) := congrFun (settled2 V 281 rfl rfl (by decide) (by decide)) j
theorem at277 : fin V main_call1_v158 j = IntOp.shli (w := 32) .host (fin V main_call1_v155 j) (fin V main_call1_v157 j) := congrFun (settled2 V 277 rfl rfl (by decide) (by decide)) j
theorem at280 : fin V main_call1_v160 j = IntOp.shrui (w := 32) .host (fin V main_call1_v155 j) (fin V main_call1_v159 j) := congrFun (settled2 V 280 rfl rfl (by decide) (by decide)) j
theorem at276 : fin V main_call1_v157 j = 26#32 := by rw [settled1 V 276 rfl rfl (by decide), settled0 V 275 rfl rfl]; rfl
theorem at279 : fin V main_call1_v159 j = 6#32 := by rw [settled1 V 279 rfl rfl (by decide), settled0 V 278 rfl rfl]; rfl
theorem step22 : (((fin V main_call1_v156 j), (fin V main_call1_v162 j)) : Pair) = turn 26 6 ((fin V main_call1_v149 j), (fin V main_call1_v155 j)) :=
  turned (at274 V j) (at282 V j) (at281 V j) (at277 V j) (at280 V j) (at276 V j) (at279 V j) (by decide) (by decide)

theorem at283 : fin V main_call1_v163 j = IntOp.addi (w := 32) (fin V main_call1_v156 j) (fin V main_call1_v162 j) := congrFun (settled2 V 283 rfl rfl (by decide) (by decide)) j
theorem at291 : fin V main_call1_v169 j = IntOp.xori (w := 32) (fin V main_call1_v163 j) (fin V main_call1_v168 j) := congrFun (settled2 V 291 rfl rfl (by decide) (by decide)) j
theorem at290 : fin V main_call1_v168 j = IntOp.ori (w := 32) (fin V main_call1_v165 j) (fin V main_call1_v167 j) := congrFun (settled2 V 290 rfl rfl (by decide) (by decide)) j
theorem at286 : fin V main_call1_v165 j = IntOp.shli (w := 32) .host (fin V main_call1_v162 j) (fin V main_call1_v164 j) := congrFun (settled2 V 286 rfl rfl (by decide) (by decide)) j
theorem at289 : fin V main_call1_v167 j = IntOp.shrui (w := 32) .host (fin V main_call1_v162 j) (fin V main_call1_v166 j) := congrFun (settled2 V 289 rfl rfl (by decide) (by decide)) j
theorem at285 : fin V main_call1_v164 j = 6#32 := by rw [settled1 V 285 rfl rfl (by decide), settled0 V 284 rfl rfl]; rfl
theorem at288 : fin V main_call1_v166 j = 26#32 := by rw [settled1 V 288 rfl rfl (by decide), settled0 V 287 rfl rfl]; rfl
theorem step23 : (((fin V main_call1_v163 j), (fin V main_call1_v169 j)) : Pair) = turn 6 26 ((fin V main_call1_v156 j), (fin V main_call1_v162 j)) :=
  turned (at283 V j) (at291 V j) (at290 V j) (at286 V j) (at289 V j) (at285 V j) (at288 V j) (by decide) (by decide)

theorem at293 : fin V main_v45_0 j = IntOp.addi (w := 32) (fin V main_call1_v163 j) (fin V main_call1_v170 j) := congrFun (settled2 V 293 rfl rfl (by decide) (by decide)) j
theorem at295 : fin V main_call1_v173 j = IntOp.addi (w := 32) (fin V main_call1_v169 j) (fin V main_call1_v172 j) := congrFun (settled2 V 295 rfl rfl (by decide) (by decide)) j
theorem at298 : fin V main_v45_1 j = IntOp.addi (w := 32) (fin V main_call1_v173 j) (fin V main_call1_v174 j) := congrFun (settled2 V 298 rfl rfl (by decide) (by decide)) j
theorem at292 : fin V main_call1_v170 j = third := by rw [settled1 V 292 rfl rfl (by decide), key2 V]; rfl
theorem at294 : fin V main_call1_v172 j = 0#32 := by rw [settled1 V 294 rfl rfl (by decide), key0 V]; rfl
theorem at297 : fin V main_call1_v174 j = 5#32 := by rw [settled1 V 297 rfl rfl (by decide), settled0 V 296 rfl rfl]; rfl
theorem step24 : (((fin V main_v45_0 j), (fin V main_v45_1 j)) : Pair) = inject third 0#32 5#32 ((fin V main_call1_v163 j), (fin V main_call1_v169 j)) :=
  injected (at293 V j) (at295 V j) (at298 V j) (at292 V j) (at294 V j) (at297 V j)

/-! ## The words -/

theorem at81 : fin V main_call1_v3 j = IntOp.addi (w := 32) (fin V main_v44 j) (fin V main_call1_v2 j) := congrFun (settled2 V 81 rfl rfl (by decide) (by decide)) j
theorem at83 : fin V main_call1_v5 j = IntOp.addi (w := 32) (fin V main_v43 j) (fin V main_call1_v4 j) := congrFun (settled2 V 83 rfl rfl (by decide) (by decide)) j
theorem at80 : fin V main_call1_v2 j = 0#32 := by rw [settled1 V 80 rfl rfl (by decide), key0 V]; rfl
theorem at82 : fin V main_call1_v4 j = 42#32 := by rw [settled1 V 82 rfl rfl (by decide), key1 V]; rfl
theorem start : ((fin V main_call1_v3 j, fin V main_call1_v5 j) : Pair) = (0#32, BitVec.ofNat 32 (spot j) + 42#32) := by
  have a : fin V main_call1_v3 j = 0#32 := by rw [at81, at80, high_counter]; rfl
  have b : fin V main_call1_v5 j = BitVec.ofNat 32 (spot j) + 42#32 := by rw [at83, at82, low_counter]; rfl
  exact Prod.ext a b

theorem two_words : ((fin V main_v45_0 j, fin V main_v45_1 j) : Pair) = words (BitVec.ofNat 32 (spot j)) := by
  unfold words even odd
  rw [← start V j, ← step0 V j, ← step1 V j, ← step2 V j, ← step3 V j, ← step4 V j, ← step5 V j, ← step6 V j, ← step7 V j, ← step8 V j, ← step9 V j, ← step10 V j, ← step11 V j, ← step12 V j, ← step13 V j, ← step14 V j, ← step15 V j, ← step16 V j, ← step17 V j, ← step18 V j, ← step19 V j, ← step20 V j, ← step21 V j, ← step22 V j, ← step23 V j, ← step24 V j]

theorem one_word : fin V main_v46 j = word (BitVec.ofNat 32 (spot j)) := by
  rw [settled2 V 299 rfl rfl (by decide) (by decide)]
  show IntOp.xori (w := 32) (fin V main_v45_0 j) (fin V main_v45_1 j) = _
  have h := two_words V j
  rw [show fin V main_v45_0 j = (words (BitVec.ofNat 32 (spot j))).1 from congrArg Prod.fst h,
    show fin V main_v45_1 j = (words (BitVec.ofNat 32 (spot j))).2 from congrArg Prod.snd h]
  rfl

end Cert.Proof.Plain
end
-- ==== Proof.Argmax.lean ====
/-
  The reference's token: its two-operand reduction leaves the least index of the greatest of sixteen values.
-/
module

public import proofs.«01_k».proof.Proof.Settled
public import proofs.«01_k».proof.Proof.Pick
public import Idealize.ShloMosaic.PureOps.Ideal.Laws
public import Idealize.ShloMosaic.Lib.Pointwise.Reduce

@[expose] public section

set_option maxRecDepth 65536

noncomputable section

namespace Cert.Proof.Plain

open Cert.ReferenceIdeal Cert.ReferenceIdeal.Gen
open Idealize.ShloMosaic Idealize.ShloMosaic.TcCoe Idealize.ShloMosaic.Tactic
open Cert.Proof.Words

variable (V : Valuation τ sig (Elt Ideal))

/-- The pair `p` is to be kept rather than `q`: its value is greater, or as great and its index no later. -/
def Ahead (p q : EReal × BitVec 32) : Prop := q.1 < p.1 ∨ (q.1 = p.1 ∧ p.2.toInt ≤ q.2.toInt)

theorem Ahead.refl (p : EReal × BitVec 32) : Ahead p p := .inr ⟨rfl, le_refl _⟩
theorem Ahead.trans {p q r : EReal × BitVec 32} (h : Ahead p q) (k : Ahead q r) : Ahead p r := by
  rcases h with h | ⟨h, h'⟩ <;> rcases k with k | ⟨k, k'⟩
  · exact .inl (k.trans h)
  · exact .inl (k ▸ h)
  · exact .inl (h ▸ k)
  · exact .inr ⟨k.trans h, h'.trans k'⟩

/-- The reducer's choice between two pairs. -/
theorem reducer_cases (p q : EReal × BitVec 32) :
    (reducer_argmax_f32_i32 (F := Ideal) p q = p ∧ Ahead p q) ∨ (reducer_argmax_f32_i32 (F := Ideal) p q = q ∧ Ahead q p) := by
  obtain ⟨x, s⟩ := p
  obtain ⟨y, t⟩ := q
  have e : reducer_argmax_f32_i32 (F := Ideal) (x, s) (y, t)
      = (Scalar.select (IntOp.ori (BitVec.ofBool (decide (y < x))) (BitVec.ofBool (decide (x ≠ x)))) x y,
        Scalar.select (IntOp.ori (IntOp.ori (BitVec.ofBool (decide (y < x))) (BitVec.ofBool (decide (x ≠ x))))
          (IntOp.andi (BitVec.ofBool (decide (x = y))) (BitVec.ofBool (s.slt t)))) s t) := rfl
  rw [e]
  rcases lt_trichotomy y x with h | h | h
  · left
    refine ⟨?_, .inl h⟩
    simp [h, h.ne', IntOp.ori, IntOp.andi, Scalar.select]
  · subst h
    by_cases c : s.slt t = true
    · left
      refine ⟨?_, .inr ⟨rfl, ?_⟩⟩
      · simp [c, IntOp.ori, IntOp.andi, Scalar.select]
      · have := BitVec.slt_iff_toInt_lt.mp c
        exact this.le
    · right
      refine ⟨?_, .inr ⟨rfl, ?_⟩⟩
      · simp [c, IntOp.ori, IntOp.andi, Scalar.select]
      · have : ¬ s.toInt < t.toInt := fun k => c (BitVec.slt_iff_toInt_lt.mpr k)
        exact not_lt.mp this
  · right
    refine ⟨?_, .inl h⟩
    simp [h.not_gt, h.ne, IntOp.ori, IntOp.andi, Scalar.select]

/-- The fold's pair is one of those folded, and ahead of them all. -/
theorem fold_ahead (l : List (EReal × BitVec 32)) : ∀ p : EReal × BitVec 32,
    (l.foldl (reducer_argmax_f32_i32 (F := Ideal)) p = p ∨ l.foldl (reducer_argmax_f32_i32 (F := Ideal)) p ∈ l)
      ∧ Ahead (l.foldl (reducer_argmax_f32_i32 (F := Ideal)) p) p
      ∧ ∀ q ∈ l, Ahead (l.foldl (reducer_argmax_f32_i32 (F := Ideal)) p) q := by
  induction l with
  | nil => exact fun p => ⟨.inl rfl, .refl p, fun q h => absurd h List.not_mem_nil⟩
  | cons a l ih =>
    intro p
    rw [List.foldl_cons]
    rcases reducer_cases p a with ⟨e, h⟩ | ⟨e, h⟩ <;> rw [e]
    · obtain ⟨m, f, g⟩ := ih p
      refine ⟨m.imp id (List.mem_cons_of_mem a), f, fun q hq => ?_⟩
      rcases List.mem_cons.mp hq with rfl | hq
      · exact f.trans h
      · exact g q hq
    · obtain ⟨m, f, g⟩ := ih a
      refine ⟨.inr ?_, f.trans h, fun q hq => ?_⟩
      · rcases m with m | m
        · rw [m]; exact List.mem_cons_self
        · exact List.mem_cons_of_mem a m
      · rcases List.mem_cons.mp hq with rfl | hq
        · exact f
        · exact g q hq

/-- A pair ahead of the sixteen values with their indices, and one of them or the pair of the least value and index 0. -/
theorem picks_of_ahead (v : Fin 16 → EReal) (r : EReal × BitVec 32)
    (hm : r = (⊥, 0#32) ∨ ∃ k : Fin 16, r = (v k, BitVec.ofNat 32 k.val)) (ha : ∀ k : Fin 16, Ahead r (v k, BitVec.ofNat 32 k.val)) : Picks v r.2 := by
  have small : ∀ k : Fin 16, (BitVec.ofNat 32 k.val).toInt = (k.val : ℤ) := by decide
  have top : ∀ k, v k ≤ r.1 := fun k => by
    rcases ha k with h | h
    · exact le_of_lt h
    · exact le_of_eq h.1
  have hb : best v ≤ r.1 := by
    obtain ⟨k, hk⟩ := best_attained v
    exact hk ▸ top k
  obtain ⟨k, hk, hv⟩ : ∃ k : Fin 16, r = (v k, BitVec.ofNat 32 k.val) ∧ v k = best v := by
    rcases hm with h | ⟨k, h⟩
    · have h0 : v 0 = ⊥ := le_bot_iff.mp (by have := top 0; rw [h] at this; exact this)
      refine ⟨0, by rw [h, h0]; rfl, le_antisymm (le_best v 0) ?_⟩
      rw [h0]; rw [h] at hb; exact hb
    · exact ⟨k, h, le_antisymm (le_best v k) (by rw [h] at hb; exact hb)⟩
  refine ⟨k, by rw [hk], hv, fun i hi => ?_⟩
  rcases ha i with h | ⟨-, h⟩
  · rw [hk] at h
    exact absurd h (by show ¬ v i < v k; rw [hi, hv]; exact lt_irrefl _)
  · rw [hk] at h
    have h' : (BitVec.ofNat 32 k.val).toInt ≤ (BitVec.ofNat 32 i.val).toInt := h
    rw [small, small] at h'
    exact Fin.le_def.mpr (by exact_mod_cast h')

theorem argmax_picks (x : FVec Ideal S16384x3x16 .f32) (j : S16384x3.Idx) :
    Picks (fun k => x (ix3 (j 0) (j 1) k)) (Host.argReduce (F := Ideal) reducer_argmax_f32_i32 x (iotaInDim S16384x3x16 32 2)
      (constant S_ .f32 0xFF800000#32) (constantI S_ 32 0#32) reducesTo_S16384x3x16_S16384x3_d2 h_S_ j).2 := by
  rw [Ideal.argReduce_eq_reduce2, Host.reduce2_eq_foldl_fiber]
  obtain ⟨m, -, a⟩ := fold_ahead (Host.argReduceFiber x (iotaInDim S16384x3x16 32 2) reducesTo_S16384x3x16_S16384x3_d2 j) (flt 0xFF800000#32, 0#32)
  have mem : ∀ p, p ∈ Host.argReduceFiber x (iotaInDim S16384x3x16 32 2) reducesTo_S16384x3x16_S16384x3_d2 j
      ↔ ∃ k : Fin 16, p = (x (ix3 (j 0) (j 1) k), BitVec.ofNat 32 k.val) := by
    intro p
    unfold Host.argReduceFiber
    rw [List.mem_map]
    constructor
    · rintro ⟨n, hn, rfl⟩
      have hd := of_decide_eq_true (List.mem_filter.mp hn).2
      obtain ⟨k, hk⟩ := (Shape.ReducesTo.fiber_r3_a2 reducesTo_S16384x3x16_S16384x3_d2 j _).mp hd
      exact ⟨k, by rw [← hk]; rfl⟩
    · rintro ⟨k, rfl⟩
      refine ⟨S16384x3x16.rowMajor (ix3 (j 0) (j 1) k), List.mem_filter.mpr ⟨List.mem_finRange _, decide_eq_true ?_⟩, ?_⟩
      · rw [Equiv.symm_apply_apply]
        exact (Shape.ReducesTo.fiber_r3_a2 reducesTo_S16384x3x16_S16384x3_d2 j _).mpr ⟨k, rfl⟩
      · rw [Equiv.symm_apply_apply]; rfl
  refine picks_of_ahead _ _ ?_ fun k => a _ ((mem _).mpr ⟨k, rfl⟩)
  rcases m with m | m
  · exact .inl (m.trans (by rw [flt_bot]))
  · exact .inr ((mem _).mp m)

theorem drawn_token (j : S16384x3.Idx) : Picks (fun k => fin V main_v69 (ix3 (j 0) (j 1) k)) (fin V main_v70 j) := by
  have h : fin V main_v70 = fun j => (Host.argReduce (F := Ideal) reducer_argmax_f32_i32 (fin V main_v69) (fin V main_call2_v0)
      (fin V main_call2_cst) (fin V main_call2_c) reducesTo_S16384x3x16_S16384x3_d2 h_S_ j).2 := settled4 V 334 rfl rfl (by decide) (by decide) (by decide) (by decide)
  rw [h, settled0 V 330 rfl rfl, settled0 V 331 rfl rfl, settled0 V 332 rfl rfl]
  exact argmax_picks (fin V main_v69) j

end Cert.Proof.Plain
end
-- ==== Proof.Values.lean ====
/-
  The reference's values: for every row, draw and symbol the logarithm of the symbol's share plus the noise of the word at
  the draw's position.
-/
module

public import proofs.«01_k».proof.Proof.Plainwords
public import proofs.«01_k».proof.Proof.Argmax
public import Idealize.ShloMosaic.Lib.Pointwise
public import Idealize.ShloMosaic.Lib.IdealHost

@[expose] public section

set_option maxRecDepth 65536

noncomputable section

namespace Cert.Proof.Plain

open Cert.ReferenceIdeal Cert.ReferenceIdeal.Gen
open Idealize.ShloMosaic Idealize.ShloMosaic.TcCoe Idealize.ShloMosaic.Tactic
open Cert.Proof.Words

variable (V : Valuation τ sig (Elt Ideal))

/-! ## The logarithms -/

/-- The reference's operations on the logits: the powers, and the logarithms of the shares. -/
def raised (x : FVec Ideal S16384x16 .f32) : FVec Ideal S16384x16 .f32 :=
  Host.exp (subf x (broadcastInDim S16384x16 ![0, 1] bcast_S16384x1_S16384x16_0_1 (broadcastInDim S16384x1 ![0] bcast_S16384_S16384x1_0
    (maximumf (broadcastInDim S16384 ![] bcast_S_S16384 (constant S_ .f32 0xFF800000#32))
      (Host.reduce FloatOps.maximumf x (constant S_ .f32 0xFF800000#32) reducesTo_S16384x16_S16384_d1 h_S_)))))
def shared (e : FVec Ideal S16384x16 .f32) : FVec Ideal S16384x16 .f32 :=
  Host.log (addf (Host.divf e (broadcastInDim S16384x16 ![0, 1] bcast_S16384x1_S16384x16_0_1 (broadcastInDim S16384x1 ![0] bcast_S16384_S16384x1_0
    (Host.reduceAdd e (constant S_ .f32 0x00000000#32) reducesTo_S16384x16_S16384_d1 h_S_)))) (broadcastInDim S16384x16 ![] bcast_S_S16384x16 (constant S_ .f32 0x1E3CE508#32)))

theorem column_at (y : FVec Ideal S16384 .f32) (n : Fin 16384) (k : Fin 16) :
    broadcastInDim S16384x16 ![0, 1] bcast_S16384x1_S16384x16_0_1 (broadcastInDim S16384x1 ![0] bcast_S16384_S16384x1_0 y) (ix2 n k) = y (ix1 n) := by
  pointwise

theorem most_at (x : FVec Ideal S16384x16 .f32) (n : Fin 16384) :
    Host.reduce FloatOps.maximumf x (constant S_ .f32 0xFF800000#32) reducesTo_S16384x16_S16384_d1 h_S_ (ix1 n) = best fun k => x (ix2 n k) := by
  unfold best
  rw [← flt_bot]
  exact (Host.reduce_eq_fold (max : EReal → EReal → EReal) x _ _ _ (ix1 n)).trans
    (Shape.ReducesTo.fold_fiber_r2_a1 reducesTo_S16384x16_S16384_d1 (ix1 n) max _ x)

theorem raised_at (x : FVec Ideal S16384x16 .f32) (n : Fin 16384) (k : Fin 16) :
    raised x (ix2 n k) = Ideal.exp (x (ix2 n k) - best fun k => x (ix2 n k)) := by
  refine congrArg (fun b => Ideal.exp (x (ix2 n k) - b)) ((column_at _ n k).trans ?_)
  show max (flt 0xFF800000#32) _ = _
  rw [most_at, flt_bot, max_eq_right bot_le]

theorem sum_at (e : FVec Ideal S16384x16 .f32) (n : Fin 16384) :
    Host.reduceAdd e (constant S_ .f32 0x00000000#32) reducesTo_S16384x16_S16384_d1 h_S_ (ix1 n) = ∑ k : Fin 16, e (ix2 n k) := by
  pointwise

theorem shared_at (e : FVec Ideal S16384x16 .f32) (n : Fin 16384) (k : Fin 16) :
    shared e (ix2 n k) = Ideal.log (Ideal.div (e (ix2 n k)) (∑ k : Fin 16, e (ix2 n k)) + flt 0x1E3CE508#32) :=
  congrArg (fun b => Ideal.log (Ideal.div (e (ix2 n k)) b + flt 0x1E3CE508#32)) ((column_at _ n k).trans (sum_at e n))

theorem at_raised : fin V main_v14 = raised (fin V main_v7) := by
  rw [settled1 V 38 rfl rfl (by decide), settled2 V 37 rfl rfl (by decide) (by decide), settled1 V 36 rfl rfl (by decide), settled1 V 35 rfl rfl (by decide), settled2 V 34 rfl rfl (by decide) (by decide), settled2 V 31 rfl rfl (by decide) (by decide), settled1 V 33 rfl rfl (by decide), settled0 V 30 rfl rfl, settled0 V 32 rfl rfl]
  rfl

theorem at_shared : fin V main_v66 = shared (fin V main_v14) := by
  rw [settled1 V 326 rfl rfl (by decide), settled2 V 325 rfl rfl (by decide) (by decide), settled2 V 43 rfl rfl (by decide) (by decide), settled1 V 42 rfl rfl (by decide), settled1 V 41 rfl rfl (by decide), settled2 V 40 rfl rfl (by decide) (by decide), settled1 V 324 rfl rfl (by decide), settled0 V 39 rfl rfl, settled0 V 323 rfl rfl]
  rfl

theorem log_at (n : Fin 16384) (k : Fin 16) : fin V main_v66 (ix2 n k) = lprob (fun k => fin V main_v7 (ix2 n k)) k := by
  rw [at_shared, at_raised]
  refine (shared_at _ n k).trans ?_
  simp only [raised_at]
  rfl

/-! ## The noise -/

def uniform (z : IVec S16384x3x16 32) : IVec S16384x3x16 32 :=
  ori (Host.shrui z (broadcastInDim S16384x3x16 ![] bcast_S_S16384x3x16 (constantI S_ 32 9#32))) (broadcastInDim S16384x3x16 ![] bcast_S_S16384x3x16 (constantI S_ 32 1065353216#32))

theorem uniform_at (z : IVec S16384x3x16 32) (j : S16384x3x16.Idx) : uniform z j = (z j >>> 9) ||| 1065353216#32 := rfl

def gumbel (b : IVec S16384x3x16 32) : FVec Ideal S16384x3x16 .f32 :=
  let one : FVec Ideal S16384x3x16 .f32 := broadcastInDim S16384x3x16 ![] bcast_S_S16384x3x16 (constant S_ .f32 0x3F800000#32)
  let tiny : FVec Ideal S16384x3x16 .f32 := broadcastInDim S16384x3x16 ![] bcast_S_S16384x3x16 (constant S_ .f32 0x00800000#32)
  Host.negf (Host.log (Host.negf (Host.log (maximumf tiny (addf (mulf (subf (bitcastToFloat .f32 b) one) one) tiny)))))

theorem gumbel_at (b : IVec S16384x3x16 32) (j : S16384x3x16.Idx) : gumbel b j = -(Ideal.log (-(Ideal.log (max (flt 0x00800000#32)
    ((flt (b j) - flt 0x3F800000#32) * flt 0x3F800000#32 + flt 0x00800000#32))))) := rfl

theorem at_uniform : fin V main_v50 = uniform (fin V main_v46) := by
  rw [settled2 V 305 rfl rfl (by decide) (by decide), settled2 V 302 rfl rfl (by decide) (by decide), settled1 V 301 rfl rfl (by decide), settled1 V 304 rfl rfl (by decide), settled0 V 300 rfl rfl, settled0 V 303 rfl rfl]
  rfl

theorem at_gumbel : fin V main_v63 = gumbel (fin V main_v50) := by
  rw [settled1 V 322 rfl rfl (by decide), settled1 V 321 rfl rfl (by decide), settled1 V 320 rfl rfl (by decide), settled1 V 319 rfl rfl (by decide), settled2 V 318 rfl rfl (by decide) (by decide), settled1 V 317 rfl rfl (by decide), settled2 V 315 rfl rfl (by decide) (by decide), settled2 V 312 rfl rfl (by decide) (by decide), settled2 V 309 rfl rfl (by decide) (by decide), settled1 V 306 rfl rfl (by decide), settled1 V 308 rfl rfl (by decide), settled1 V 311 rfl rfl (by decide), settled1 V 314 rfl rfl (by decide), settled0 V 307 rfl rfl, settled0 V 310 rfl rfl, settled0 V 313 rfl rfl, settled0 V 316 rfl rfl]
  rfl

theorem noise_at (j : S16384x3x16.Idx) : fin V main_v63 j = noise (word (BitVec.ofNat 32 (spot j))) := by
  rw [at_gumbel, at_uniform]
  refine (gumbel_at _ j).trans ?_
  rw [uniform_at]
  have h := one_word V j
  unfold noise
  rw [← h]

/-! ## The values drawn among -/

theorem copies_at (y : FVec Ideal S16384x16 .f32) (n : Fin 16384) (s : Fin 3) (k : Fin 16) :
    broadcastInDim S16384x3x16 ![0, 1, 2] bcast_S16384x1x16_S16384x3x16_0_1_2 (broadcastInDim S16384x1x16 ![0, 2] bcast_S16384x16_S16384x1x16_0_2 y) (ix3 n s k)
      = y (ix2 n k) := by
  pointwise

def summed (a : FVec Ideal S16384x3x16 .f32) (y : FVec Ideal S16384x16 .f32) : FVec Ideal S16384x3x16 .f32 :=
  addf a (broadcastInDim S16384x3x16 ![0, 1, 2] bcast_S16384x1x16_S16384x3x16_0_1_2 (broadcastInDim S16384x1x16 ![0, 2] bcast_S16384x16_S16384x1x16_0_2 y))

theorem summed_at (a : FVec Ideal S16384x3x16 .f32) (y : FVec Ideal S16384x16 .f32) (n : Fin 16384) (s : Fin 3) (k : Fin 16) :
    summed a y (ix3 n s k) = a (ix3 n s k) + y (ix2 n k) :=
  congrArg (fun b : EReal => a (ix3 n s k) + b) (copies_at y n s k)

theorem at_summed : fin V main_v69 = summed (fin V main_v63) (fin V main_v66) := by
  rw [settled2 V 329 rfl rfl (by decide) (by decide), settled1 V 328 rfl rfl (by decide), settled1 V 327 rfl rfl (by decide)]
  rfl

theorem value_at (n : Fin 16384) (s : Fin 3) (k : Fin 16) :
    fin V main_v69 (ix3 n s k) = lprob (fun k => fin V main_v7 (ix2 n k)) k + noise (word (BitVec.ofNat 32 (n.val * 48 + s.val * 16 + k.val))) := by
  rw [at_summed]
  exact (summed_at _ _ n s k).trans ((congrArg₂ (fun x y : EReal => x + y) (noise_at V (ix3 n s k)) (log_at V n k)).trans (add_comm _ _))

/-- The reference's token, of the values of its row and draw. -/
theorem token_picks (n : Fin 16384) (s : Fin 3) : Picks (fun k => lprob (fun k => fin V main_v7 (ix2 n k)) k
    + noise (word (BitVec.ofNat 32 (n.val * 48 + s.val * 16 + k.val)))) (fin V main_v70 (ix2 n s)) := by
  have h := drawn_token V (ix2 n s)
  have e : (fun k => fin V main_v69 (ix3 n s k)) = fun k => lprob (fun k => fin V main_v7 (ix2 n k)) k
      + noise (word (BitVec.ofNat 32 (n.val * 48 + s.val * 16 + k.val))) := funext fun k => value_at V n s k
  exact e ▸ h

end Cert.Proof.Plain
end
-- ==== Proof.Equal.lean ====
/-
  The value claim: the kernel's tokens and the reference's are the same words. Both draw token `s` of row `n` as the
  first place of the largest of sixteen sums, a logarithm of a softmax over the row's logits plus a noise made of the
  random word at position `48 n + 16 s + k`; a largest place is one place only, so the two agree.
-/
module

public import proofs.«01_k».proof.Proof.Rows
public import proofs.«01_k».proof.Proof.Logs
public import proofs.«01_k».proof.Proof.Logits
public import proofs.«01_k».proof.Proof.Values

@[expose] public section

set_option maxRecDepth 65536

noncomputable section

namespace Cert.Proof.Equal

open Cert.Proof.Words Cert.Proof.Token
open Cert.KernelIdeal Cert.KernelIdeal.Gen
open Idealize.ShloMosaic Idealize.ShloMosaic.TcCoe Idealize.ShloMosaic.Tactic Idealize.SL.Sem

/-- The sixteen sums a token is drawn from, for the logits `x`. -/
def sums (x : Fin 16 → EReal) (n : Fin 16384) (s : Fin 3) (k : Fin 16) : EReal :=
  lprob x k + noise (word (BitVec.ofNat 32 (n.val * 48 + s.val * 16 + k.val)))

theorem pair_ix2 {a b : ℕ} (i : Fin a) (j : Fin b) : pair i j = ix2 i j := by
  funext c
  match c with
  | 0 => rfl
  | 1 => rfl

/-- The kernel's tokens, from any gathered rows. -/
theorem tokens_at (f : FVec Ideal S16384x128 .f32) (I : IVec S16384x1 32) (n : Fin 16384) (s : Fin 3) :
    tokens (F := Ideal) f I (ix2 n s)
      = tok (sums (fun k : Fin 16 => f (ix2 n ⟨16 * (((I (ix2 n 0)).toNat / 8192) % 8) + k.val, by omega⟩)) n s) := by
  have ht : n.val / 2048 < 8 := by omega
  have hr : n.val % 2048 < 2048 := by omega
  have e : tokens (F := Ideal) f I (ix2 n s)
      = drawn (BitVec.ofNat 32 (n.val / 2048)) (k2_pay2 (F := Ideal) (rows f ⟨n.val / 2048, ht⟩) (rows I ⟨n.val / 2048, ht⟩)) (ix2 ⟨n.val % 2048, hr⟩ s) :=
    congrArg (drawn (BitVec.ofNat 32 (n.val / 2048)) _) (pair_ix2 ⟨n.val % 2048, hr⟩ s)
  have a : (BitVec.ofNat 32 (n.val / 2048)).toNat = n.val / 2048 := by rw [BitVec.toNat_ofNat]; omega
  rw [e, drawn_at _ _ (by omega)]
  refine congrArg tok (funext fun k => ?_)
  unfold choices sums
  have p : ((BitVec.ofNat 32 (n.val / 2048)).toNat * 2048 + n.val % 2048) * 48 + s.val * 16 + k.val = n.val * 48 + s.val * 16 + k.val := by rw [a]; omega
  have row {m : ℕ} {α : Type} (A : (⟨2, ![16384, m]⟩ : Shape).Idx → α) (c : Fin m) : rows A ⟨n.val / 2048, ht⟩ (ix2 ⟨n.val % 2048, hr⟩ c) = A (ix2 n c) := by
    refine (congrArg A (pair_ix2 _ c)).trans (congrArg (fun i => A (ix2 i c)) (Fin.ext ?_))
    show n.val / 2048 * 2048 + n.val % 2048 = n.val
    omega
  refine congrArg₂ (fun x y : EReal => x + y) ?_ (congrArg (fun i => noise (word (BitVec.ofNat 32 i))) p)
  refine (logs_at _ _ _ k).trans (congrArg (fun x => lprob x k) (funext fun k => ?_))
  refine (row f _).trans (congrArg (fun c => f (ix2 n c)) (Fin.ext ?_))
  exact congrArg (fun w : BitVec 32 => 16 * (w.toNat / 8192 % 8) + k.val) (row I 0)

/-- The reference's tokens. -/
theorem plain_picks (V : Valuation Cert.ReferenceIdeal.τ Cert.ReferenceIdeal.sig (Elt Ideal)) (n : Fin 16384) (s : Fin 3)
    (h : (Plain.fin V Cert.ReferenceIdeal.main_v1 (ix1 n) : BitVec 32).toNat < 1000000) :
    Picks (sums (Plain.logit (Plain.fin V Cert.ReferenceIdeal.main_arg1) (Plain.fin V Cert.ReferenceIdeal.main_arg2) (Plain.fin V Cert.ReferenceIdeal.main_arg3) ⟨_, h⟩) n s)
      (Plain.fin V Cert.ReferenceIdeal.main_v70 (ix2 n s)) := by
  have e := Plain.token_picks V n s
  have l : (fun k => Plain.fin V Cert.ReferenceIdeal.main_v7 (ix2 n k)) = Plain.logit (Plain.fin V Cert.ReferenceIdeal.main_arg1) (Plain.fin V Cert.ReferenceIdeal.main_arg2)
      (Plain.fin V Cert.ReferenceIdeal.main_arg3) ⟨_, h⟩ := funext fun k => Plain.logit_at V n k h
  rw [l] at e
  exact e

theorem colOf_at (m : (ℓ : Loc nD τ sig) → Buf (Elt Ideal) ℓ) (d : Dev nD) (n : Fin 16384) : colOf m d (ix2 n 0) = ixOf m d (ix1 n) := by
  unfold colOf
  pointwise

/-- With equal arguments both draw from the same sums. -/
theorem tokens_eq (m : (ℓ : Loc nD τ sig) → Buf (Elt Ideal) ℓ) (d : Dev nD) (V : Valuation Cert.ReferenceIdeal.τ Cert.ReferenceIdeal.sig (Elt Ideal))
    (h0 : Plain.fin V Cert.ReferenceIdeal.main_arg0 = m ((SparseCore.T d : Thread nD τ).loc main_arg0))
    (h1 : Plain.fin V Cert.ReferenceIdeal.main_arg1 = embArg m d) (h2 : Plain.fin V Cert.ReferenceIdeal.main_arg2 = wgtArg m d)
    (h3 : Plain.fin V Cert.ReferenceIdeal.main_arg3 = biasArg m d)
    (hlt : ∀ j, (ixOf m d j : BitVec 32).toNat < 1000000) (f : FVec Ideal S16384x128 .f32) (hf : GatheredOf (ixOf m) (TabOf m) d f) :
    tokens (F := Ideal) f (colOf m d) = Plain.fin V Cert.ReferenceIdeal.main_v70 := by
  have hi (n : Fin 16384) : (Plain.fin V Cert.ReferenceIdeal.main_v1 (ix1 n) : BitVec 32) = ixOf m d (ix1 n) := by
    refine (Plain.index_at V n).trans ((congrFun h0 (ix2 n 199)).trans ?_)
    refine (congrArg (m ((SparseCore.T d : Thread nD τ).loc main_arg0)) (funext fun a => ?_)).trans (ixOf_eq m d (ix1 n)).symm
    match a with
    | 0 => rfl
    | 1 => rfl
  have one (n : Fin 16384) (s : Fin 3) : tokens (F := Ideal) f (colOf m d) (ix2 n s) = Plain.fin V Cert.ReferenceIdeal.main_v70 (ix2 n s) := by
    have hn : (Plain.fin V Cert.ReferenceIdeal.main_v1 (ix1 n) : BitVec 32).toNat < 1000000 := by rw [hi]; exact hlt _
    refine (tokens_at f (colOf m d) n s).trans (Picks.unique (tok_picks _) ?_)
    have e := plain_picks V n s hn
    rw [h1, h2, h3] at e
    have l : (fun k : Fin 16 => f (ix2 n ⟨16 * (((colOf m d (ix2 n 0)).toNat / 8192) % 8) + k.val, by omega⟩))
        = Plain.logit (embArg m d) (wgtArg m d) (biasArg m d) ⟨(Plain.fin V Cert.ReferenceIdeal.main_v1 (ix1 n) : BitVec 32).toNat, hn⟩ := by
      funext k
      refine (gathered_at m d hf n (hlt _) k _ (congrArg (fun w : BitVec 32 => 16 * (w.toNat / 8192 % 8) + k.val) (colOf_at m d n))).trans ?_
      exact congrArg (fun r => Plain.logit (embArg m d) (wgtArg m d) (biasArg m d) r k) (Fin.ext (congrArg BitVec.toNat (hi n)).symm)
    rw [l]
    exact e
  funext j
  have hj : j = ix2 (j 0) (j 1) := by
    funext a
    match a with
    | 0 => rfl
    | 1 => rfl
  rw [hj]
  exact one (j 0) (j 1)

theorem algebraic [Cert.Pre_in_range.Facts] : Cert.algebraic_KernelIdeal_ReferenceIdeal := fun m ρ m' ρ' hpre hargs => by
  have hlt : ∀ d j, (ixOf m d j).toNat < 1000000 := fun d => ixOf_lt m d (hpre d)
  refine ⟨fun c => Plain.fin (StableHlo.launchContents m' c) Cert.ReferenceIdeal.main_v70, ?_, ?_⟩
  · refine (θ_run Cert.KernelIdeal.defs _ _).mono (fun r h c => ?_) (run_main m ρ (ok_of_lt m hlt))
    obtain ⟨ha, f, hf, hr⟩ := h.1 c
    exact ⟨hr.trans (tokens_eq m c (StableHlo.launchContents m' c) ((Plain.fin_arg _ (by decide)).trans (hargs c).1) ((Plain.fin_arg _ (by decide)).trans (hargs c).2.1)
      ((Plain.fin_arg _ (by decide)).trans (hargs c).2.2.1) ((Plain.fin_arg _ (by decide)).trans (hargs c).2.2.2) (hlt c) f hf), ha⟩
  · exact (θ_run Cert.ReferenceIdeal.defs _ _).mono (fun r h c =>
      ⟨h c Cert.ReferenceIdeal.main_v70, (h c Cert.ReferenceIdeal.main_arg0).trans (Plain.fin_arg _ (by decide)), (h c Cert.ReferenceIdeal.main_arg1).trans (Plain.fin_arg _ (by decide)),
        (h c Cert.ReferenceIdeal.main_arg2).trans (Plain.fin_arg _ (by decide)), (h c Cert.ReferenceIdeal.main_arg3).trans (Plain.fin_arg _ (by decide))⟩)
      (Plain.run (F := Ideal) m' ρ')

end Cert.Proof.Equal
end
-- ==== Proof.lean ====
/-
  The claims: the kernel on words and its idealization run, leave their arguments as they were and every counter at zero,
  for every in-range history (Proof/Range.lean); so does the reference (Proof/Settled.lean); the idealization is the
  kernel's own text; and on exact numbers the kernel's tokens are the reference's (Proof/Equal.lean).
-/
module

public import proofs.«01_k».proof.Defs
public import proofs.«01_k».proof.Proof.Range
public import proofs.«01_k».proof.Proof.Settled
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Token.frame_kernel, Token.frame_kernelIdeal, Plain.frame_referenceIdeal, trivial, Equal.algebraic⟩

end Cert.Proof

end
